-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11)
      ∧ r.2.mem ((c.tc : Thread Cert.Qkv.nD Cert.Qkv.τ).loc Cert.Qkv.main_arg12) = m ((c.tc : Thread Cert.Qkv.nD Cert.Qkv.τ).loc Cert.Qkv.main_arg12)
      ∧ r.2.mem ((c.tc : Thread Cert.Qkv.nD Cert.Qkv.τ).loc Cert.Qkv.main_arg13) = m ((c.tc : Thread Cert.Qkv.nD Cert.Qkv.τ).loc Cert.Qkv.main_arg13)
      ∧ r.2.mem ((c.tc : Thread Cert.Qkv.nD Cert.Qkv.τ).loc Cert.Qkv.main_arg14) = m ((c.tc : Thread Cert.Qkv.nD Cert.Qkv.τ).loc Cert.Qkv.main_arg14)
      ∧ r.2.mem ((c.tc : Thread Cert.Qkv.nD Cert.Qkv.τ).loc Cert.Qkv.main_arg15) = m ((c.tc : Thread Cert.Qkv.nD Cert.Qkv.τ).loc Cert.Qkv.main_arg15))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
      ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12)
      ∧ r.2.mem ((c.tc : Thread Cert.QkvIdeal.nD Cert.QkvIdeal.τ).loc Cert.QkvIdeal.main_arg13) = m ((c.tc : Thread Cert.QkvIdeal.nD Cert.QkvIdeal.τ).loc Cert.QkvIdeal.main_arg13)
      ∧ r.2.mem ((c.tc : Thread Cert.QkvIdeal.nD Cert.QkvIdeal.τ).loc Cert.QkvIdeal.main_arg14) = m ((c.tc : Thread Cert.QkvIdeal.nD Cert.QkvIdeal.τ).loc Cert.QkvIdeal.main_arg14)
      ∧ r.2.mem ((c.tc : Thread Cert.QkvIdeal.nD Cert.QkvIdeal.τ).loc Cert.QkvIdeal.main_arg15) = m ((c.tc : Thread Cert.QkvIdeal.nD Cert.QkvIdeal.τ).loc Cert.QkvIdeal.main_arg15))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11)
      ∧ r.2.mem ((c.tc : Thread Cert.QkvRefIdeal.nD Cert.QkvRefIdeal.τ).loc Cert.QkvRefIdeal.main_arg12) = m ((c.tc : Thread Cert.QkvRefIdeal.nD Cert.QkvRefIdeal.τ).loc Cert.QkvRefIdeal.main_arg12)
      ∧ r.2.mem ((c.tc : Thread Cert.QkvRefIdeal.nD Cert.QkvRefIdeal.τ).loc Cert.QkvRefIdeal.main_arg13) = m ((c.tc : Thread Cert.QkvRefIdeal.nD Cert.QkvRefIdeal.τ).loc Cert.QkvRefIdeal.main_arg13)
      ∧ r.2.mem ((c.tc : Thread Cert.QkvRefIdeal.nD Cert.QkvRefIdeal.τ).loc Cert.QkvRefIdeal.main_arg14) = m ((c.tc : Thread Cert.QkvRefIdeal.nD Cert.QkvRefIdeal.τ).loc Cert.QkvRefIdeal.main_arg14)
      ∧ r.2.mem ((c.tc : Thread Cert.QkvRefIdeal.nD Cert.QkvRefIdeal.τ).loc Cert.QkvRefIdeal.main_arg15) = m ((c.tc : Thread Cert.QkvRefIdeal.nD Cert.QkvRefIdeal.τ).loc Cert.QkvRefIdeal.main_arg15))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6)
      ∧ r.2.mem ((c.tc : Thread Cert.Ctx.nD Cert.Ctx.τ).loc Cert.Ctx.main_arg7) = m ((c.tc : Thread Cert.Ctx.nD Cert.Ctx.τ).loc Cert.Ctx.main_arg7))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m ((c.tc : Thread Cert.CtxRefIdeal.nD Cert.CtxRefIdeal.τ).loc Cert.CtxRefIdeal.main_arg7))
      ∧ r.2.sem = fun _ => 0)

def preserves_Ffn_FfnIdeal : Prop :=
  IdealRules.named_const.Statement Cert.FfnIdeal.κ "gelu_ca" .f32 0x3D122279#32 (((Real.sqrt (2 * Real.pi⁻¹)) * (8943 / 200000) : ℝ) : EReal)
  ∧ IdealRules.named_const.Statement Cert.FfnIdeal.κ "gelu_c" .f32 0x3F4C422A#32 ((Real.sqrt (2 * Real.pi⁻¹) : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)) (v2 : (c : Dev Cert.FfnIdeal.nD) → Buf (Elt Ideal) ((c.tc : Thread Cert.FfnIdeal.nD Cert.FfnIdeal.τ).loc Cert.FfnIdeal.main_v5_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_v5_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v0_0) = v0 c
          ∧ r.2.mem ((c.tc : Thread Cert.FfnRefIdeal.nD Cert.FfnRefIdeal.τ).loc Cert.FfnRefIdeal.main_v0_1) = v1 c
          ∧ r.2.mem ((c.tc : Thread Cert.FfnRefIdeal.nD Cert.FfnRefIdeal.τ).loc Cert.FfnRefIdeal.main_v0_2) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10))

def preserves_Qkv_QkvIdeal : Prop :=
  IdealRules.named_const.Statement Cert.QkvIdeal.κ "inv_d" .f32 0x3A2AAAAB#32 ((1 / 1536 : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)
      ∧ m' ((c.tc : Thread Cert.QkvRefIdeal.nD Cert.QkvRefIdeal.τ).loc Cert.QkvRefIdeal.main_arg12) = m ((c.tc : Thread Cert.QkvIdeal.nD Cert.QkvIdeal.τ).loc Cert.QkvIdeal.main_arg12)
      ∧ m' ((c.tc : Thread Cert.QkvRefIdeal.nD Cert.QkvRefIdeal.τ).loc Cert.QkvRefIdeal.main_arg13) = m ((c.tc : Thread Cert.QkvIdeal.nD Cert.QkvIdeal.τ).loc Cert.QkvIdeal.main_arg13)
      ∧ m' ((c.tc : Thread Cert.QkvRefIdeal.nD Cert.QkvRefIdeal.τ).loc Cert.QkvRefIdeal.main_arg14) = m ((c.tc : Thread Cert.QkvIdeal.nD Cert.QkvIdeal.τ).loc Cert.QkvIdeal.main_arg14)
      ∧ m' ((c.tc : Thread Cert.QkvRefIdeal.nD Cert.QkvRefIdeal.τ).loc Cert.QkvRefIdeal.main_arg15) = m ((c.tc : Thread Cert.QkvIdeal.nD Cert.QkvIdeal.τ).loc Cert.QkvIdeal.main_arg15)) →
    ∃ (v0 : (c : Dev Cert.QkvIdeal.nD) → Buf (Elt Ideal) ((c.tc : Thread Cert.QkvIdeal.nD Cert.QkvIdeal.τ).loc Cert.QkvIdeal.main_v6_0)) (v1 : (c : Dev Cert.QkvIdeal.nD) → Buf (Elt Ideal) ((c.tc : Thread Cert.QkvIdeal.nD Cert.QkvIdeal.τ).loc Cert.QkvIdeal.main_v6_1)) (v2 : (c : Dev Cert.QkvIdeal.nD) → Buf (Elt Ideal) ((c.tc : Thread Cert.QkvIdeal.nD Cert.QkvIdeal.τ).loc Cert.QkvIdeal.main_v6_2)) (v3 : (c : Dev Cert.QkvIdeal.nD) → Buf (Elt Ideal) ((c.tc : Thread Cert.QkvIdeal.nD Cert.QkvIdeal.τ).loc Cert.QkvIdeal.main_v6_3)) (v4 : (c : Dev Cert.QkvIdeal.nD) → Buf (Elt Ideal) ((c.tc : Thread Cert.QkvIdeal.nD Cert.QkvIdeal.τ).loc Cert.QkvIdeal.main_v6_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v6_0) = v0 c
          ∧ r.2.mem ((c.tc : Thread Cert.QkvIdeal.nD Cert.QkvIdeal.τ).loc Cert.QkvIdeal.main_v6_1) = v1 c
          ∧ r.2.mem ((c.tc : Thread Cert.QkvIdeal.nD Cert.QkvIdeal.τ).loc Cert.QkvIdeal.main_v6_2) = v2 c
          ∧ r.2.mem ((c.tc : Thread Cert.QkvIdeal.nD Cert.QkvIdeal.τ).loc Cert.QkvIdeal.main_v6_3) = v3 c
          ∧ r.2.mem ((c.tc : Thread Cert.QkvIdeal.nD Cert.QkvIdeal.τ).loc Cert.QkvIdeal.main_v6_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
          ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12)
          ∧ r.2.mem ((c.tc : Thread Cert.QkvIdeal.nD Cert.QkvIdeal.τ).loc Cert.QkvIdeal.main_arg13) = m ((c.tc : Thread Cert.QkvIdeal.nD Cert.QkvIdeal.τ).loc Cert.QkvIdeal.main_arg13)
          ∧ r.2.mem ((c.tc : Thread Cert.QkvIdeal.nD Cert.QkvIdeal.τ).loc Cert.QkvIdeal.main_arg14) = m ((c.tc : Thread Cert.QkvIdeal.nD Cert.QkvIdeal.τ).loc Cert.QkvIdeal.main_arg14)
          ∧ r.2.mem ((c.tc : Thread Cert.QkvIdeal.nD Cert.QkvIdeal.τ).loc Cert.QkvIdeal.main_arg15) = m ((c.tc : Thread Cert.QkvIdeal.nD Cert.QkvIdeal.τ).loc Cert.QkvIdeal.main_arg15))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11)
          ∧ r.2.mem ((c.tc : Thread Cert.QkvRefIdeal.nD Cert.QkvRefIdeal.τ).loc Cert.QkvRefIdeal.main_arg12) = m' ((c.tc : Thread Cert.QkvRefIdeal.nD Cert.QkvRefIdeal.τ).loc Cert.QkvRefIdeal.main_arg12)
          ∧ r.2.mem ((c.tc : Thread Cert.QkvRefIdeal.nD Cert.QkvRefIdeal.τ).loc Cert.QkvRefIdeal.main_arg13) = m' ((c.tc : Thread Cert.QkvRefIdeal.nD Cert.QkvRefIdeal.τ).loc Cert.QkvRefIdeal.main_arg13)
          ∧ r.2.mem ((c.tc : Thread Cert.QkvRefIdeal.nD Cert.QkvRefIdeal.τ).loc Cert.QkvRefIdeal.main_arg14) = m' ((c.tc : Thread Cert.QkvRefIdeal.nD Cert.QkvRefIdeal.τ).loc Cert.QkvRefIdeal.main_arg14)
          ∧ r.2.mem ((c.tc : Thread Cert.QkvRefIdeal.nD Cert.QkvRefIdeal.τ).loc Cert.QkvRefIdeal.main_arg15) = m' ((c.tc : Thread Cert.QkvRefIdeal.nD Cert.QkvRefIdeal.τ).loc Cert.QkvRefIdeal.main_arg15))

def preserves_Ctx_CtxIdeal : Prop :=
  IdealRules.named_const.Statement Cert.CtxIdeal.κ "inv_d" .f32 0x3A2AAAAB#32 ((1 / 1536 : ℝ) : EReal)

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)
      ∧ m' ((c.tc : Thread Cert.CtxRefIdeal.nD Cert.CtxRefIdeal.τ).loc Cert.CtxRefIdeal.main_arg7) = m ((c.tc : Thread Cert.CtxIdeal.nD Cert.CtxIdeal.τ).loc Cert.CtxIdeal.main_arg7)) →
    ∃ (v0 : (c : Dev Cert.CtxIdeal.nD) → Buf (Elt Ideal) ((c.tc : Thread Cert.CtxIdeal.nD Cert.CtxIdeal.τ).loc Cert.CtxIdeal.main_v2_0)) (v1 : (c : Dev Cert.CtxIdeal.nD) → Buf (Elt Ideal) ((c.tc : Thread Cert.CtxIdeal.nD Cert.CtxIdeal.τ).loc Cert.CtxIdeal.main_v2_1)) (v2 : (c : Dev Cert.CtxIdeal.nD) → Buf (Elt Ideal) ((c.tc : Thread Cert.CtxIdeal.nD Cert.CtxIdeal.τ).loc Cert.CtxIdeal.main_v2_2)) (v3 : (c : Dev Cert.CtxIdeal.nD) → Buf (Elt Ideal) ((c.tc : Thread Cert.CtxIdeal.nD Cert.CtxIdeal.τ).loc Cert.CtxIdeal.main_v2_3)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v2_0) = v0 c
          ∧ r.2.mem ((c.tc : Thread Cert.CtxIdeal.nD Cert.CtxIdeal.τ).loc Cert.CtxIdeal.main_v2_1) = v1 c
          ∧ r.2.mem ((c.tc : Thread Cert.CtxIdeal.nD Cert.CtxIdeal.τ).loc Cert.CtxIdeal.main_v2_2) = v2 c
          ∧ r.2.mem ((c.tc : Thread Cert.CtxIdeal.nD Cert.CtxIdeal.τ).loc Cert.CtxIdeal.main_v2_3) = v3 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
          ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v0_0) = v0 c
          ∧ r.2.mem ((c.tc : Thread Cert.CtxRefIdeal.nD Cert.CtxRefIdeal.τ).loc Cert.CtxRefIdeal.main_v0_1) = v1 c
          ∧ r.2.mem ((c.tc : Thread Cert.CtxRefIdeal.nD Cert.CtxRefIdeal.τ).loc Cert.CtxRefIdeal.main_v0_2) = v2 c
          ∧ r.2.mem ((c.tc : Thread Cert.CtxRefIdeal.nD Cert.CtxRefIdeal.τ).loc Cert.CtxRefIdeal.main_v0_3) = v3 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6)
          ∧ r.2.mem ((c.tc : Thread Cert.CtxRefIdeal.nD Cert.CtxRefIdeal.τ).loc Cert.CtxRefIdeal.main_arg7) = m' ((c.tc : Thread Cert.CtxRefIdeal.nD Cert.CtxRefIdeal.τ).loc Cert.CtxRefIdeal.main_arg7))

def Claim : Prop :=
  ∃ (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hCtx : Cert.Ctx.Facts) (hCtxIdeal : Cert.CtxIdeal.Facts) (hCtxRefIdeal : Cert.CtxRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Ctx (hCtx := hCtx)
    ∧ quiescent_CtxIdeal (hCtxIdeal := hCtxIdeal)
    ∧ quiescent_CtxRefIdeal (hCtxRefIdeal := hCtxRefIdeal)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Ctx_CtxIdeal
    ∧ algebraic_CtxIdeal_CtxRefIdeal (hCtxIdeal := hCtxIdeal) (hCtxRefIdeal := hCtxRefIdeal)
-- ==== Ffn.lean ====
abbrev S2x1024x1536 : Shape := ⟨3, ![2, 1024, 1536]⟩
abbrev S2x1024 : Shape := ⟨2, ![2, 1024]⟩
abbrev S2x6x1536 : Shape := ⟨3, ![2, 6, 1536]⟩
abbrev S6x1536 : Shape := ⟨2, ![6, 1536]⟩
abbrev S1536x8960 : Shape := ⟨2, ![1536, 8960]⟩
abbrev S8960 : Shape := ⟨1, ![8960]⟩
abbrev S8960x1536 : Shape := ⟨2, ![8960, 1536]⟩
abbrev S1536 : Shape := ⟨1, ![1536]⟩
abbrev S6x2x1536 : Shape := ⟨3, ![6, 2, 1536]⟩
abbrev S1x8960 : Shape := ⟨2, ![1, 8960]⟩
abbrev S1x1536 : Shape := ⟨2, ![1, 1536]⟩
abbrev S2x1024x8960 : Shape := ⟨3, ![2, 1024, 8960]⟩
abbrev S1x256x1536 : Shape := ⟨3, ![1, 256, 1536]⟩
abbrev S1x256x8960 : Shape := ⟨3, ![1, 256, 8960]⟩
abbrev S256x8960 : Shape := ⟨2, ![256, 8960]⟩
abbrev S1x256 : Shape := ⟨2, ![1, 256]⟩
abbrev S128x256 : Shape := ⟨2, ![128, 256]⟩
abbrev S256x128 : Shape := ⟨2, ![256, 128]⟩
abbrev S256x256 : Shape := ⟨2, ![256, 256]⟩
abbrev S256x1536 : Shape := ⟨2, ![256, 1536]⟩
abbrev S1536x256 : Shape := ⟨2, ![1536, 256]⟩
abbrev S256 : Shape := ⟨1, ![256]⟩
abbrev S256x1 : Shape := ⟨2, ![256, 1]⟩
abbrev S1x256x256 : Shape := ⟨3, ![1, 256, 256]⟩
abbrev S1x1x1536 : Shape := ⟨3, ![1, 1, 1536]⟩
abbrev S8960x256 : Shape := ⟨2, ![8960, 256]⟩

abbrev nBuf : Space → Nat
  | .hbm => 19
  | .vmem => 19
  | .smem => 0
  | _ => 0

abbrev bufTy : (tb : Table) → Fin (tcTables nBuf tb) → BufTy
  | .hbm, ⟨0, _⟩ => ⟨S2x1024x1536, .fp8e4m3⟩
  | .hbm, ⟨1, _⟩ => ⟨S2x1024, .f32⟩
  | .hbm, ⟨2, _⟩ => ⟨S2x1024x1536, .f32⟩
  | .hbm, ⟨3, _⟩ => ⟨S2x6x1536, .f32⟩
  | .hbm, ⟨4, _⟩ => ⟨S6x1536, .f32⟩
  | .hbm, ⟨5, _⟩ => ⟨S1536x8960, .fp8e4m3⟩
  | .hbm, ⟨6, _⟩ => ⟨S8960, .f32⟩
  | .hbm, ⟨7, _⟩ => ⟨S8960, .f32⟩
  | .hbm, ⟨8, _⟩ => ⟨S8960x1536, .fp8e4m3⟩
  | .hbm, ⟨9, _⟩ => ⟨S1536, .f32⟩
  | .hbm, ⟨10, _⟩ => ⟨S1536, .f32⟩
  | .hbm, ⟨11, _⟩ => ⟨S6x2x1536, .f32⟩
  | .hbm, ⟨12, _⟩ => ⟨S1x8960, .f32⟩
  | .hbm, ⟨13, _⟩ => ⟨S1x8960, .f32⟩
  | .hbm, ⟨14, _⟩ => ⟨S1x1536, .f32⟩
  | .hbm, ⟨15, _⟩ => ⟨S1x1536, .f32⟩
  | .hbm, ⟨16, _⟩ => ⟨S2x1024x8960, .fp8e4m3⟩
  | .hbm, ⟨17, _⟩ => ⟨S2x1024, .f32⟩
  | .hbm, ⟨18, _⟩ => ⟨S2x1024x1536, .bf16⟩
  | .local _ .vmem, ⟨0, _⟩ => ⟨S1x256x1536, .fp8e4m3⟩
  | .local _ .vmem, ⟨1, _⟩ => ⟨S1x256x1536, .fp8e4m3⟩
  | .local _ .vmem, ⟨2, _⟩ => ⟨S2x1024, .f32⟩
  | .local _ .vmem, ⟨3, _⟩ => ⟨S1x256x1536, .f32⟩
  | .local _ .vmem, ⟨4, _⟩ => ⟨S1x256x1536, .f32⟩
  | .local _ .vmem, ⟨5, _⟩ => ⟨S6x2x1536, .f32⟩
  | .local _ .vmem, ⟨6, _⟩ => ⟨S6x1536, .f32⟩
  | .local _ .vmem, ⟨7, _⟩ => ⟨S1536x8960, .fp8e4m3⟩
  | .local _ .vmem, ⟨8, _⟩ => ⟨S1x8960, .f32⟩
  | .local _ .vmem, ⟨9, _⟩ => ⟨S1x8960, .f32⟩
  | .local _ .vmem, ⟨10, _⟩ => ⟨S8960x1536, .fp8e4m3⟩
  | .local _ .vmem, ⟨11, _⟩ => ⟨S1x1536, .f32⟩
  | .local _ .vmem, ⟨12, _⟩ => ⟨S1x1536, .f32⟩
  | .local _ .vmem, ⟨13, _⟩ => ⟨S1x256x8960, .fp8e4m3⟩
  | .local _ .vmem, ⟨14, _⟩ => ⟨S1x256x8960, .fp8e4m3⟩
  | .local _ .vmem, ⟨15, _⟩ => ⟨S2x1024, .f32⟩
  | .local _ .vmem, ⟨16, _⟩ => ⟨S1x256x1536, .bf16⟩
  | .local _ .vmem, ⟨17, _⟩ => ⟨S1x256x1536, .bf16⟩
  | .local _ .vmem, ⟨18, _⟩ => ⟨S256x8960, .f32⟩
  | _, _ => ⟨S2x1024x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg0 : BitVec 32 := BitVec.ofNat 32 (i 0).val
  let v2 : Index := Scalar.indexCast arg0
  let arg1 : BitVec 32 := BitVec.ofNat 32 (i 1).val
  let c256_i32 : BitVec 32 := 256#32
  let v0 : BitVec 32 := Scalar.muli arg1 c256_i32
  let v1 : BitVec 32 := v0
  let v3 : Index := Scalar.indexCast v1
  ![v2.toNat, v3.toNat]
def k0_off2 (i : grid0.Coords) : Fin 3 → Nat :=
  let c5_639 : Index := 5#32
  let arg0 : BitVec 32 := BitVec.ofNat 32 (i 0).val
  let v1360 : Index := Scalar.indexCast arg0
  let c0_640 : Index := 0#32
  ![5, v1360.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S6x2x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S6x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x8960 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8960 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8960x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x8960 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FfnIdeal.lean ====
variable {F : FTy → Type} [FloatOps F] [Named F]
def κ : String → Option EReal := fun
  | "gelu_c" => some ((Real.sqrt (2 * Real.pi⁻¹) : ℝ) : EReal)
  | "gelu_ca" => some (((Real.sqrt (2 * Real.pi⁻¹)) * (8943 / 200000) : ℝ) : EReal)
  | _ => none
-- ==== FfnRefIdeal.lean ====
abbrev S2x1024x1536 : Shape := ⟨3, ![2, 1024, 1536]⟩
abbrev S2x1024 : Shape := ⟨2, ![2, 1024]⟩
abbrev S2x6x1536 : Shape := ⟨3, ![2, 6, 1536]⟩
abbrev S6x1536 : Shape := ⟨2, ![6, 1536]⟩
abbrev S1536x8960 : Shape := ⟨2, ![1536, 8960]⟩
abbrev S8960 : Shape := ⟨1, ![8960]⟩
abbrev S8960x1536 : Shape := ⟨2, ![8960, 1536]⟩
abbrev S1536 : Shape := ⟨1, ![1536]⟩
abbrev S2x1024x8960 : Shape := ⟨3, ![2, 1024, 8960]⟩
abbrev S2048x1536 : Shape := ⟨2, ![2048, 1536]⟩
abbrev S2048x8960 : Shape := ⟨2, ![2048, 8960]⟩
abbrev S2x1024x1 : Shape := ⟨3, ![2, 1024, 1]⟩
abbrev S1x1x8960 : Shape := ⟨3, ![1, 1, 8960]⟩
abbrev S1x1x1536 : Shape := ⟨3, ![1, 1, 1536]⟩
abbrev S1x6x1536 : Shape := ⟨3, ![1, 6, 1536]⟩
abbrev S2x1x1536 : Shape := ⟨3, ![2, 1, 1536]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x1536, .fp8e4m3⟩
  | .hbm, ⟨1, _⟩ => ⟨S2x1024, .f32⟩
  | .hbm, ⟨2, _⟩ => ⟨S2x1024x1536, .f32⟩
  | .hbm, ⟨3, _⟩ => ⟨S2x6x1536, .f32⟩
  | .hbm, ⟨4, _⟩ => ⟨S6x1536, .f32⟩
  | .hbm, ⟨5, _⟩ => ⟨S1536x8960, .fp8e4m3⟩
  | .hbm, ⟨6, _⟩ => ⟨S8960, .f32⟩
  | .hbm, ⟨7, _⟩ => ⟨S8960, .f32⟩
  | .hbm, ⟨8, _⟩ => ⟨S8960x1536, .fp8e4m3⟩
  | .hbm, ⟨9, _⟩ => ⟨S1536, .f32⟩
  | .hbm, ⟨10, _⟩ => ⟨S1536, .f32⟩
  | .hbm, ⟨11, _⟩ => ⟨S2x1024x8960, .fp8e4m3⟩
  | .hbm, ⟨12, _⟩ => ⟨S2x1024, .f32⟩
  | .hbm, ⟨13, _⟩ => ⟨S2x1024x1536, .bf16⟩
  | .local _ .vmem, ⟨0, _⟩ => ⟨S2x1024x1536, .fp8e4m3⟩
  | .local _ .vmem, ⟨1, _⟩ => ⟨S2x1024, .f32⟩
  | .local _ .vmem, ⟨2, _⟩ => ⟨S2x1024x1536, .f32⟩
  | .local _ .vmem, ⟨3, _⟩ => ⟨S2x6x1536, .f32⟩
  | .local _ .vmem, ⟨4, _⟩ => ⟨S6x1536, .f32⟩
  | .local _ .vmem, ⟨5, _⟩ => ⟨S1536x8960, .fp8e4m3⟩
  | .local _ .vmem, ⟨6, _⟩ => ⟨S8960, .f32⟩
  | .local _ .vmem, ⟨7, _⟩ => ⟨S8960, .f32⟩
  | .local _ .vmem, ⟨8, _⟩ => ⟨S8960x1536, .fp8e4m3⟩
  | .local _ .vmem, ⟨9, _⟩ => ⟨S1536, .f32⟩
  | .local _ .vmem, ⟨10, _⟩ => ⟨S1536, .f32⟩
  | .local _ .vmem, ⟨11, _⟩ => ⟨S2x1024x8960, .fp8e4m3⟩
  | .local _ .vmem, ⟨12, _⟩ => ⟨S2x1024, .f32⟩
  | .local _ .vmem, ⟨13, _⟩ => ⟨S2x1024x1536, .bf16⟩
  | _, _ => ⟨S2x1024x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F] [Named F]

def κ : String → Option EReal := fun
  | "gelu_a" => some ((8943 / 200000 : ℝ) : EReal)
  | "gelu_c" => some ((Real.sqrt (2 * Real.pi⁻¹) : ℝ) : EReal)
  | _ => none

abbrev grid0 : Pipeline.Grid := .none

abbrev stage0_0 : Fin 1 → Memref sig .tc .vmem S2x1024x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x6x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x8960 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8960 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8960x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024x8960 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Qkv.lean ====
abbrev S2x1024x1536 : Shape := ⟨3, ![2, 1024, 1536]⟩
abbrev S2x6x1536 : Shape := ⟨3, ![2, 6, 1536]⟩
abbrev S6x1536 : Shape := ⟨2, ![6, 1536]⟩
abbrev S1024x64 : Shape := ⟨2, ![1024, 64]⟩
abbrev S1536x12x128 : Shape := ⟨3, ![1536, 12, 128]⟩
abbrev S12x128 : Shape := ⟨2, ![12, 128]⟩
abbrev S6x2x1536 : Shape := ⟨3, ![6, 2, 1536]⟩
abbrev S64x1024 : Shape := ⟨2, ![64, 1024]⟩
abbrev S12x1536x128 : Shape := ⟨3, ![12, 1536, 128]⟩
abbrev S2x1024 : Shape := ⟨2, ![2, 1024]⟩
abbrev S2x12x1024x128 : Shape := ⟨4, ![2, 12, 1024, 128]⟩
abbrev S2x12x128x1024 : Shape := ⟨4, ![2, 12, 128, 1024]⟩
abbrev S1x256x1536 : Shape := ⟨3, ![1, 256, 1536]⟩
abbrev S64x256 : Shape := ⟨2, ![64, 256]⟩
abbrev S1x12x256x128 : Shape := ⟨4, ![1, 12, 256, 128]⟩
abbrev S1x12x128x256 : Shape := ⟨4, ![1, 12, 128, 256]⟩
abbrev S256x1536 : Shape := ⟨2, ![256, 1536]⟩
abbrev S1x1536 : Shape := ⟨2, ![1, 1536]⟩
abbrev S1x1x1536 : Shape := ⟨3, ![1, 1, 1536]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S64x128 : Shape := ⟨2, ![64, 128]⟩
abbrev S256x64 : Shape := ⟨2, ![256, 64]⟩
abbrev S1x1536x128 : Shape := ⟨3, ![1, 1536, 128]⟩
abbrev S1536x128 : Shape := ⟨2, ![1536, 128]⟩
abbrev S1536x256 : Shape := ⟨2, ![1536, 256]⟩
abbrev S256x256 : Shape := ⟨2, ![256, 256]⟩
abbrev S1x128 : Shape := ⟨2, ![1, 128]⟩
abbrev S1x1x256x128 : Shape := ⟨4, ![1, 1, 256, 128]⟩
abbrev S1x1x128x256 : Shape := ⟨4, ![1, 1, 128, 256]⟩

abbrev nBuf : Space → Nat
  | .hbm => 27
  | .vmem => 29
  | .smem => 0
  | _ => 0

abbrev bufTy : (tb : Table) → Fin (tcTables nBuf tb) → BufTy
  | .hbm, ⟨0, _⟩ => ⟨S2x1024x1536, .bf16⟩
  | .hbm, ⟨1, _⟩ => ⟨S2x6x1536, .f32⟩
  | .hbm, ⟨2, _⟩ => ⟨S6x1536, .f32⟩
  | .hbm, ⟨3, _⟩ => ⟨S1024x64, .f32⟩
  | .hbm, ⟨4, _⟩ => ⟨S1024x64, .f32⟩
  | .hbm, ⟨5, _⟩ => ⟨S1536x12x128, .fp8e4m3⟩
  | .hbm, ⟨6, _⟩ => ⟨S1536x12x128, .fp8e4m3⟩
  | .hbm, ⟨7, _⟩ => ⟨S1536x12x128, .fp8e4m3⟩
  | .hbm, ⟨8, _⟩ => ⟨S12x128, .f32⟩
  | .hbm, ⟨9, _⟩ => ⟨S12x128, .f32⟩
  | .hbm, ⟨10, _⟩ => ⟨S12x128, .f32⟩
  | .hbm, ⟨11, _⟩ => ⟨S12x128, .f32⟩
  | .hbm, ⟨12, _⟩ => ⟨S12x128, .f32⟩
  | .hbm, ⟨13, _⟩ => ⟨S12x128, .f32⟩
  | .hbm, ⟨14, _⟩ => ⟨S12x128, .f32⟩
  | .hbm, ⟨15, _⟩ => ⟨S12x128, .f32⟩
  | .hbm, ⟨16, _⟩ => ⟨S6x2x1536, .f32⟩
  | .hbm, ⟨17, _⟩ => ⟨S64x1024, .f32⟩
  | .hbm, ⟨18, _⟩ => ⟨S64x1024, .f32⟩
  | .hbm, ⟨19, _⟩ => ⟨S12x1536x128, .fp8e4m3⟩
  | .hbm, ⟨20, _⟩ => ⟨S12x1536x128, .fp8e4m3⟩
  | .hbm, ⟨21, _⟩ => ⟨S12x1536x128, .fp8e4m3⟩
  | .hbm, ⟨22, _⟩ => ⟨S2x1024x1536, .fp8e4m3⟩
  | .hbm, ⟨23, _⟩ => ⟨S2x1024, .f32⟩
  | .hbm, ⟨24, _⟩ => ⟨S2x12x1024x128, .bf16⟩
  | .hbm, ⟨25, _⟩ => ⟨S2x12x1024x128, .bf16⟩
  | .hbm, ⟨26, _⟩ => ⟨S2x12x128x1024, .bf16⟩
  | .local _ .vmem, ⟨0, _⟩ => ⟨S1x256x1536, .bf16⟩
  | .local _ .vmem, ⟨1, _⟩ => ⟨S1x256x1536, .bf16⟩
  | .local _ .vmem, ⟨2, _⟩ => ⟨S6x2x1536, .f32⟩
  | .local _ .vmem, ⟨3, _⟩ => ⟨S6x1536, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S12x1536x128, .fp8e4m3⟩
  | .local _ .vmem, ⟨9, _⟩ => ⟨S12x1536x128, .fp8e4m3⟩
  | .local _ .vmem, ⟨10, _⟩ => ⟨S12x1536x128, .fp8e4m3⟩
  | .local _ .vmem, ⟨11, _⟩ => ⟨S12x128, .f32⟩
  | .local _ .vmem, ⟨12, _⟩ => ⟨S12x128, .f32⟩
  | .local _ .vmem, ⟨13, _⟩ => ⟨S12x128, .f32⟩
  | .local _ .vmem, ⟨14, _⟩ => ⟨S12x128, .f32⟩
  | .local _ .vmem, ⟨15, _⟩ => ⟨S12x128, .f32⟩
  | .local _ .vmem, ⟨16, _⟩ => ⟨S12x128, .f32⟩
  | .local _ .vmem, ⟨17, _⟩ => ⟨S12x128, .f32⟩
  | .local _ .vmem, ⟨18, _⟩ => ⟨S12x128, .f32⟩
  | .local _ .vmem, ⟨19, _⟩ => ⟨S1x256x1536, .fp8e4m3⟩
  | .local _ .vmem, ⟨20, _⟩ => ⟨S1x256x1536, .fp8e4m3⟩
  | .local _ .vmem, ⟨21, _⟩ => ⟨S2x1024, .f32⟩
  | .local _ .vmem, ⟨22, _⟩ => ⟨S1x12x256x128, .bf16⟩
  | .local _ .vmem, ⟨23, _⟩ => ⟨S1x12x256x128, .bf16⟩
  | .local _ .vmem, ⟨24, _⟩ => ⟨S1x12x256x128, .bf16⟩
  | .local _ .vmem, ⟨25, _⟩ => ⟨S1x12x256x128, .bf16⟩
  | .local _ .vmem, ⟨26, _⟩ => ⟨S1x12x128x256, .bf16⟩
  | .local _ .vmem, ⟨27, _⟩ => ⟨S1x12x128x256, .bf16⟩
  | .local _ .vmem, ⟨28, _⟩ => ⟨S256x1536, .f32⟩
  | _, _ => ⟨S2x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev main_v6_3 : Ref sig .tc := ⟨.hbm, 25, rfl⟩
abbrev main_v6_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  v27
def k0_off1 (i : grid0.Coords) : Fin 3 → Nat :=
  let c0_11 : Index := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v30 : Index := Scalar.indexCast v16
  let c0_12 : Index := 0#32
  ![0, v30.toNat, 0]
def k0_off2 (i : grid0.Coords) : Fin 3 → Nat :=
  let c1_14 : Index := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v35 : Index := Scalar.indexCast v16
  let c0_15 : Index := 0#32
  ![1, v35.toNat, 0]
def k0_off3 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v91 : Index := Scalar.indexCast v16
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v28 : BitVec 32 := v27
  let v92 : Index := Scalar.indexCast v28
  ![v91.toNat, v92.toNat]
def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_19 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_20 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S1x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x2x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S12x1536x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x1536x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x1536x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S12x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S12x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S12x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S12x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S12x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x256x1536 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x12x256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x12x256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x12x128x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== QkvIdeal.lean ====
variable {F : FTy → Type} [FloatOps F] [Named F]
def κ : String → Option EReal := fun
  | "inv_d" => some ((1 / 1536 : ℝ) : EReal)
  | _ => none
-- ==== QkvRefIdeal.lean ====
abbrev S2x1024x1536 : Shape := ⟨3, ![2, 1024, 1536]⟩
abbrev S2x6x1536 : Shape := ⟨3, ![2, 6, 1536]⟩
abbrev S6x1536 : Shape := ⟨2, ![6, 1536]⟩
abbrev S1024x64 : Shape := ⟨2, ![1024, 64]⟩
abbrev S1536x12x128 : Shape := ⟨3, ![1536, 12, 128]⟩
abbrev S12x128 : Shape := ⟨2, ![12, 128]⟩
abbrev S2x1024 : Shape := ⟨2, ![2, 1024]⟩
abbrev S2x12x1024x128 : Shape := ⟨4, ![2, 12, 1024, 128]⟩
abbrev S2x12x128x1024 : Shape := ⟨4, ![2, 12, 128, 1024]⟩
abbrev S1x6x1536 : Shape := ⟨3, ![1, 6, 1536]⟩
abbrev S2x1024x1 : Shape := ⟨3, ![2, 1024, 1]⟩
abbrev S2x1x1536 : Shape := ⟨3, ![2, 1, 1536]⟩
abbrev S2048x1536 : Shape := ⟨2, ![2048, 1536]⟩
abbrev S1536x1536 : Shape := ⟨2, ![1536, 1536]⟩
abbrev S2x1024x12x128 : Shape := ⟨4, ![2, 1024, 12, 128]⟩
abbrev S2x1024x1x1 : Shape := ⟨4, ![2, 1024, 1, 1]⟩
abbrev S1x1x12x128 : Shape := ⟨4, ![1, 1, 12, 128]⟩
abbrev S1x1024x1x64 : Shape := ⟨4, ![1, 1024, 1, 64]⟩
abbrev S2x1024x12x64x2 : Shape := ⟨5, ![2, 1024, 12, 64, 2]⟩
abbrev S2x1024x12x64x1 : Shape := ⟨5, ![2, 1024, 12, 64, 1]⟩
abbrev S2x1024x12x64 : Shape := ⟨4, ![2, 1024, 12, 64]⟩

abbrev nBuf : Space → Nat
  | .hbm => 21
  | .vmem => 21
  | .smem => 0
  | _ => 0

abbrev bufTy : (tb : Table) → Fin (tcTables nBuf tb) → BufTy
  | .hbm, ⟨0, _⟩ => ⟨S2x1024x1536, .bf16⟩
  | .hbm, ⟨1, _⟩ => ⟨S2x6x1536, .f32⟩
  | .hbm, ⟨2, _⟩ => ⟨S6x1536, .f32⟩
  | .hbm, ⟨3, _⟩ => ⟨S1024x64, .f32⟩
  | .hbm, ⟨4, _⟩ => ⟨S1024x64, .f32⟩
  | .hbm, ⟨5, _⟩ => ⟨S1536x12x128, .fp8e4m3⟩
  | .hbm, ⟨6, _⟩ => ⟨S1536x12x128, .fp8e4m3⟩
  | .hbm, ⟨7, _⟩ => ⟨S1536x12x128, .fp8e4m3⟩
  | .hbm, ⟨8, _⟩ => ⟨S12x128, .f32⟩
  | .hbm, ⟨9, _⟩ => ⟨S12x128, .f32⟩
  | .hbm, ⟨10, _⟩ => ⟨S12x128, .f32⟩
  | .hbm, ⟨11, _⟩ => ⟨S12x128, .f32⟩
  | .hbm, ⟨12, _⟩ => ⟨S12x128, .f32⟩
  | .hbm, ⟨13, _⟩ => ⟨S12x128, .f32⟩
  | .hbm, ⟨14, _⟩ => ⟨S12x128, .f32⟩
  | .hbm, ⟨15, _⟩ => ⟨S12x128, .f32⟩
  | .hbm, ⟨16, _⟩ => ⟨S2x1024x1536, .fp8e4m3⟩
  | .hbm, ⟨17, _⟩ => ⟨S2x1024, .f32⟩
  | .hbm, ⟨18, _⟩ => ⟨S2x12x1024x128, .bf16⟩
  | .hbm, ⟨19, _⟩ => ⟨S2x12x1024x128, .bf16⟩
  | .hbm, ⟨20, _⟩ => ⟨S2x12x128x1024, .bf16⟩
  | .local _ .vmem, ⟨0, _⟩ => ⟨S2x1024x1536, .bf16⟩
  | .local _ .vmem, ⟨1, _⟩ => ⟨S2x6x1536, .f32⟩
  | .local _ .vmem, ⟨2, _⟩ => ⟨S6x1536, .f32⟩
  | .local _ .vmem, ⟨3, _⟩ => ⟨S1024x64, .f32⟩
  | .local _ .vmem, ⟨4, _⟩ => ⟨S1024x64, .f32⟩
  | .local _ .vmem, ⟨5, _⟩ => ⟨S1536x12x128, .fp8e4m3⟩
  | .local _ .vmem, ⟨6, _⟩ => ⟨S1536x12x128, .fp8e4m3⟩
  | .local _ .vmem, ⟨7, _⟩ => ⟨S1536x12x128, .fp8e4m3⟩
  | .local _ .vmem, ⟨8, _⟩ => ⟨S12x128, .f32⟩
  | .local _ .vmem, ⟨9, _⟩ => ⟨S12x128, .f32⟩
  | .local _ .vmem, ⟨10, _⟩ => ⟨S12x128, .f32⟩
  | .local _ .vmem, ⟨11, _⟩ => ⟨S12x128, .f32⟩
  | .local _ .vmem, ⟨12, _⟩ => ⟨S12x128, .f32⟩
  | .local _ .vmem, ⟨13, _⟩ => ⟨S12x128, .f32⟩
  | .local _ .vmem, ⟨14, _⟩ => ⟨S12x128, .f32⟩
  | .local _ .vmem, ⟨15, _⟩ => ⟨S12x128, .f32⟩
  | .local _ .vmem, ⟨16, _⟩ => ⟨S2x1024x1536, .fp8e4m3⟩
  | .local _ .vmem, ⟨17, _⟩ => ⟨S2x1024, .f32⟩
  | .local _ .vmem, ⟨18, _⟩ => ⟨S2x12x1024x128, .bf16⟩
  | .local _ .vmem, ⟨19, _⟩ => ⟨S2x12x1024x128, .bf16⟩
  | .local _ .vmem, ⟨20, _⟩ => ⟨S2x12x128x1024, .bf16⟩
  | _, _ => ⟨S2x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x12x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x12x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x12x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S12x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S12x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024x1536 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x12x1024x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x12x1024x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x12x128x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Ctx.lean ====
abbrev S2x512x1536 : Shape := ⟨3, ![2, 512, 1536]⟩
abbrev S1536x12x128 : Shape := ⟨3, ![1536, 12, 128]⟩
abbrev S12x128 : Shape := ⟨2, ![12, 128]⟩
abbrev S12x1536x128 : Shape := ⟨3, ![12, 1536, 128]⟩
abbrev S2x512 : Shape := ⟨2, ![2, 512]⟩
abbrev S2x12x512x128 : Shape := ⟨4, ![2, 12, 512, 128]⟩
abbrev S2x12x128x512 : Shape := ⟨4, ![2, 12, 128, 512]⟩
abbrev S1x256x1536 : Shape := ⟨3, ![1, 256, 1536]⟩
abbrev S1x12x256x128 : Shape := ⟨4, ![1, 12, 256, 128]⟩
abbrev S1x12x128x256 : Shape := ⟨4, ![1, 12, 128, 256]⟩
abbrev S256x1536 : Shape := ⟨2, ![256, 1536]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S1x1536x128 : Shape := ⟨3, ![1, 1536, 128]⟩
abbrev S1536x128 : Shape := ⟨2, ![1536, 128]⟩
abbrev S1536x256 : Shape := ⟨2, ![1536, 256]⟩
abbrev S256x256 : Shape := ⟨2, ![256, 256]⟩
abbrev S1x128 : Shape := ⟨2, ![1, 128]⟩
abbrev S1x1x256x128 : Shape := ⟨4, ![1, 1, 256, 128]⟩
abbrev S1x1x128x256 : Shape := ⟨4, ![1, 1, 128, 256]⟩

abbrev nBuf : Space → Nat
  | .hbm => 14
  | .vmem => 17
  | .smem => 0
  | _ => 0

abbrev bufTy : (tb : Table) → Fin (tcTables nBuf tb) → BufTy
  | .hbm, ⟨0, _⟩ => ⟨S2x512x1536, .bf16⟩
  | .hbm, ⟨1, _⟩ => ⟨S1536x12x128, .fp8e4m3⟩
  | .hbm, ⟨2, _⟩ => ⟨S1536x12x128, .fp8e4m3⟩
  | .hbm, ⟨3, _⟩ => ⟨S12x128, .f32⟩
  | .hbm, ⟨4, _⟩ => ⟨S12x128, .f32⟩
  | .hbm, ⟨5, _⟩ => ⟨S12x128, .f32⟩
  | .hbm, ⟨6, _⟩ => ⟨S12x128, .f32⟩
  | .hbm, ⟨7, _⟩ => ⟨S12x128, .f32⟩
  | .hbm, ⟨8, _⟩ => ⟨S12x1536x128, .fp8e4m3⟩
  | .hbm, ⟨9, _⟩ => ⟨S12x1536x128, .fp8e4m3⟩
  | .hbm, ⟨10, _⟩ => ⟨S2x512x1536, .fp8e4m3⟩
  | .hbm, ⟨11, _⟩ => ⟨S2x512, .f32⟩
  | .hbm, ⟨12, _⟩ => ⟨S2x12x512x128, .bf16⟩
  | .hbm, ⟨13, _⟩ => ⟨S2x12x128x512, .bf16⟩
  | .local _ .vmem, ⟨0, _⟩ => ⟨S1x256x1536, .bf16⟩
  | .local _ .vmem, ⟨1, _⟩ => ⟨S1x256x1536, .bf16⟩
  | .local _ .vmem, ⟨2, _⟩ => ⟨S12x1536x128, .fp8e4m3⟩
  | .local _ .vmem, ⟨3, _⟩ => ⟨S12x1536x128, .fp8e4m3⟩
  | .local _ .vmem, ⟨4, _⟩ => ⟨S12x128, .f32⟩
  | .local _ .vmem, ⟨5, _⟩ => ⟨S12x128, .f32⟩
  | .local _ .vmem, ⟨6, _⟩ => ⟨S12x128, .f32⟩
  | .local _ .vmem, ⟨7, _⟩ => ⟨S12x128, .f32⟩
  | .local _ .vmem, ⟨8, _⟩ => ⟨S12x128, .f32⟩
  | .local _ .vmem, ⟨9, _⟩ => ⟨S1x256x1536, .fp8e4m3⟩
  | .local _ .vmem, ⟨10, _⟩ => ⟨S1x256x1536, .fp8e4m3⟩
  | .local _ .vmem, ⟨11, _⟩ => ⟨S2x512, .f32⟩
  | .local _ .vmem, ⟨12, _⟩ => ⟨S1x12x256x128, .bf16⟩
  | .local _ .vmem, ⟨13, _⟩ => ⟨S1x12x256x128, .bf16⟩
  | .local _ .vmem, ⟨14, _⟩ => ⟨S1x12x128x256, .bf16⟩
  | .local _ .vmem, ⟨15, _⟩ => ⟨S1x12x128x256, .bf16⟩
  | .local _ .vmem, ⟨16, _⟩ => ⟨S256x1536, .f32⟩
  | _, _ => ⟨S2x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  v27
def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v57 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v28 : BitVec 32 := v27
  let v58 : Index := Scalar.indexCast v28
  ![v57.toNat, v58.toNat]
def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S1x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x1536x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x1536x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x1536 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x12x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x12x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== CtxIdeal.lean ====
variable {F : FTy → Type} [FloatOps F] [Named F]
def κ : String → Option EReal := fun
  | "inv_d" => some ((1 / 1536 : ℝ) : EReal)
  | _ => none
-- ==== CtxRefIdeal.lean ====
abbrev S2x512x1536 : Shape := ⟨3, ![2, 512, 1536]⟩
abbrev S1536x12x128 : Shape := ⟨3, ![1536, 12, 128]⟩
abbrev S12x128 : Shape := ⟨2, ![12, 128]⟩
abbrev S2x512 : Shape := ⟨2, ![2, 512]⟩
abbrev S2x12x512x128 : Shape := ⟨4, ![2, 12, 512, 128]⟩
abbrev S2x12x128x512 : Shape := ⟨4, ![2, 12, 128, 512]⟩
abbrev S2x512x1 : Shape := ⟨3, ![2, 512, 1]⟩
abbrev S1024x1536 : Shape := ⟨2, ![1024, 1536]⟩
abbrev S1536x1536 : Shape := ⟨2, ![1536, 1536]⟩
abbrev S2x512x12x128 : Shape := ⟨4, ![2, 512, 12, 128]⟩
abbrev S2x512x1x1 : Shape := ⟨4, ![2, 512, 1, 1]⟩
abbrev S1x1x12x128 : Shape := ⟨4, ![1, 1, 12, 128]⟩

abbrev nBuf : Space → Nat
  | .hbm => 12
  | .vmem => 12
  | .smem => 0
  | _ => 0

abbrev bufTy : (tb : Table) → Fin (tcTables nBuf tb) → BufTy
  | .hbm, ⟨0, _⟩ => ⟨S2x512x1536, .bf16⟩
  | .hbm, ⟨1, _⟩ => ⟨S1536x12x128, .fp8e4m3⟩
  | .hbm, ⟨2, _⟩ => ⟨S1536x12x128, .fp8e4m3⟩
  | .hbm, ⟨3, _⟩ => ⟨S12x128, .f32⟩
  | .hbm, ⟨4, _⟩ => ⟨S12x128, .f32⟩
  | .hbm, ⟨5, _⟩ => ⟨S12x128, .f32⟩
  | .hbm, ⟨6, _⟩ => ⟨S12x128, .f32⟩
  | .hbm, ⟨7, _⟩ => ⟨S12x128, .f32⟩
  | .hbm, ⟨8, _⟩ => ⟨S2x512x1536, .fp8e4m3⟩
  | .hbm, ⟨9, _⟩ => ⟨S2x512, .f32⟩
  | .hbm, ⟨10, _⟩ => ⟨S2x12x512x128, .bf16⟩
  | .hbm, ⟨11, _⟩ => ⟨S2x12x128x512, .bf16⟩
  | .local _ .vmem, ⟨0, _⟩ => ⟨S2x512x1536, .bf16⟩
  | .local _ .vmem, ⟨1, _⟩ => ⟨S1536x12x128, .fp8e4m3⟩
  | .local _ .vmem, ⟨2, _⟩ => ⟨S1536x12x128, .fp8e4m3⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | .local _ .vmem, ⟨7, _⟩ => ⟨S12x128, .f32⟩
  | .local _ .vmem, ⟨8, _⟩ => ⟨S2x512x1536, .fp8e4m3⟩
  | .local _ .vmem, ⟨9, _⟩ => ⟨S2x512, .f32⟩
  | .local _ .vmem, ⟨10, _⟩ => ⟨S2x12x512x128, .bf16⟩
  | .local _ .vmem, ⟨11, _⟩ => ⟨S2x12x128x512, .bf16⟩
  | _, _ => ⟨S2x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2x512x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x12x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x12x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x12x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x12x128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.FfnPlain.lean ====
/-
  The frame of the program as printed: it runs, faults nowhere, leaves its arguments as they were and every semaphore at zero.
  Nothing is said of what its outputs hold.
-/
module

public import proofs.«01_k».proof.Proof.Gen.Ffn.Frame
public import proofs.«01_k».proof.Proof.Gen.Ffn.Skeleton
public import Idealize.ShloMosaic.Lib.Claim

@[expose] public section

-- membership in a rectangle of production extents (`View.cover_of_tiled`): the elaborator's structural look
-- recurses once per coordinate of the long axes
set_option maxRecDepth 16384

noncomputable section

namespace Cert.Ffn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Ffn`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x256x1536 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x2x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x8960 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8960 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8960 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8960x1536 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1536 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1536 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x8960 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x1536 .bf16 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S256x8960 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1972000 in
/-- The body's triple: on whole staging memrefs — the inputs' at their contents,
    the FORGOTTEN outputs' (11, 12, 13) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x256x1536 .fp8e4m3) (harg2 : arg2.IsWhole) (arg3 : Memref sig .tc .vmem S2x1024 .f32) (harg3 : arg3.IsWhole) (arg4 : Memref sig .tc .vmem S1x256x1536 .f32) (harg4 : arg4.IsWhole) (arg5 : Memref sig .tc .vmem S6x2x1536 .f32) (harg5 : arg5.IsWhole) (arg6 : Memref sig .tc .vmem S6x1536 .f32) (harg6 : arg6.IsWhole) (arg7 : Memref sig .tc .vmem S1536x8960 .fp8e4m3) (harg7 : arg7.IsWhole) (arg8 : Memref sig .tc .vmem S1x8960 .f32) (harg8 : arg8.IsWhole) (arg9 : Memref sig .tc .vmem S1x8960 .f32) (harg9 : arg9.IsWhole) (arg10 : Memref sig .tc .vmem S8960x1536 .fp8e4m3) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x256x8960 .fp8e4m3) (harg13 : arg13.IsWhole) (arg14 : Memref sig .tc .vmem S2x1024 .f32) (harg14 : arg14.IsWhole) (arg15 : Memref sig .tc .vmem S1x256x1536 .bf16) (harg15 : arg15.IsWhole) (arg16 : Memref sig .tc .vmem S256x8960 .f32) (harg16 : arg16.IsWhole)
    (x0 : Vec F S1x256x1536 .fp8e4m3) (x1 : Vec F S2x1024 .f32) (x2 : Vec F S1x256x1536 .f32) (x3 : Vec F S6x2x1536 .f32) (x4 : Vec F S6x1536 .f32) (x5 : Vec F S1536x8960 .fp8e4m3) (x6 : Vec F S1x8960 .f32) (x7 : Vec F S1x8960 .f32) (x8 : Vec F S8960x1536 .fp8e4m3) (x9 : Vec F S1x1536 .f32) (x10 : Vec F S1x1536 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_ffn_eq_skeleton]; unfold cc0_ffn_skel
    simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact HS0
    ipureintro; rfl

/-! ## The pipeline's proof data -/

/-- The output windows this certificate FORGETS (11, 12, 13): nothing reads what the kernel leaves in them, so nothing
    of it is named (Lib/Pipeline/Dat.lean `Dat.toRForget`). -/
def forgets0 : Fin 14 → Bool := fun w => w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexact HS0
  iintro ⟨H0, H1, H2, H3, H4, H5, H6, H7, H8, H9, H10, H11, H12, H13, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 11, 12, 13) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (fun c => (dats m 0 c).toRForget forgets0) (A_eq m) (run_main m ρ)

/-- THE FRAME: `Cert.quiescent_Ffn`'s statement (Defs.lean) at any `F` — Proof.lean cites it at `Bits`:
    `theorem Cert.Proof.claim : Cert.Claim := ⟨Cert.Ffn.Gen.facts, fun m ρ _ => Cert.Ffn.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Ffn.Run

end
-- ==== Proof.FfnRun.lean ====
/-
  The body of the ideal kernel, run once at any grid point: every store it does, as a list of pieces per
  output.  The outputs of `12` keep what they held before, since the body stores only a part of them.
-/
module

public import proofs.«01_k».proof.Proof.Gen.FfnIdeal.Frame
public import proofs.«01_k».proof.Proof.Gen.FfnIdeal.Skeleton

@[expose] public section

-- membership in a rectangle of production extents (`View.cover_of_tiled`): the elaborator's structural look
-- recurses once per coordinate of the long axes
set_option maxRecDepth 16384

noncomputable section

namespace Cert.FfnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen
open Idealize.ShloMosaic.Pipeline (Dat Cfg Window BodyObligation cellOf)

variable {F : FTy → Type} [FloatOps F] [Named F]

local notation "𝕄" => MT nD τ sig Unit (Elt F) ℕ (UR sig nD τ) ℕ

/-! ## The kernel body on any staging memrefs: a subtype the run finds -/

/-- One staging buffer of output window 11, through which its contents are stated (`View.read_writes_of_cover`: the
    choice does not matter). -/
abbrev VO0_11 : View sig .tc .vmem S1x256x8960 .fp8e4m3 := (Memref.whole cc0_stg11_0 : Memref sig .tc .vmem S1x256x8960 .fp8e4m3).view
/-- One staging buffer of output window 12, through which its contents are stated (`View.read_writes_of_cover`: the
    choice does not matter). -/
abbrev VO0_12 : View sig .tc .vmem S2x1024 .f32 := (Memref.whole cc0_stg12_0 : Memref sig .tc .vmem S2x1024 .f32).view
/-- One staging buffer of output window 13, through which its contents are stated (`View.read_writes_of_cover`: the
    choice does not matter). -/
abbrev VO0_13 : View sig .tc .vmem S1x256x1536 .bf16 := (Memref.whole cc0_stg13_0 : Memref sig .tc .vmem S1x256x1536 .bf16).view
/-- Each window's current staging memref at point `t`, spelled as the pipeline passes it (`bodyAt0`), and its wholeness. -/
abbrev ms0_0 (t : Fin cfg0.N) : Memref sig .tc .vmem S1x256x1536 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x2x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x8960 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8960 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8960 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8960x1536 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1536 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1536 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x8960 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x1536 .bf16 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S256x8960 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

variable (m : (ℓ : Loc nD τ sig) → Buf (Elt F) ℓ) (ρ : Dev nD → PrngReg)

-- (the run's proof term is large: the definition's epilogue — `abstractNestedProofs` — walks it past the default budget)
set_option maxHeartbeats 1956000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x256x1536 .fp8e4m3) (harg2 : arg2.IsWhole) (arg3 : Memref sig .tc .vmem S2x1024 .f32) (harg3 : arg3.IsWhole) (arg4 : Memref sig .tc .vmem S1x256x1536 .f32) (harg4 : arg4.IsWhole) (arg5 : Memref sig .tc .vmem S6x2x1536 .f32) (harg5 : arg5.IsWhole) (arg6 : Memref sig .tc .vmem S6x1536 .f32) (harg6 : arg6.IsWhole) (arg7 : Memref sig .tc .vmem S1536x8960 .fp8e4m3) (harg7 : arg7.IsWhole) (arg8 : Memref sig .tc .vmem S1x8960 .f32) (harg8 : arg8.IsWhole) (arg9 : Memref sig .tc .vmem S1x8960 .f32) (harg9 : arg9.IsWhole) (arg10 : Memref sig .tc .vmem S8960x1536 .fp8e4m3) (harg10 : arg10.IsWhole) (arg11 : Memref sig .tc .vmem S1x1536 .f32) (harg11 : arg11.IsWhole) (arg12 : Memref sig .tc .vmem S1x1536 .f32) (harg12 : arg12.IsWhole) (arg13 : Memref sig .tc .vmem S1x256x8960 .fp8e4m3) (harg13 : arg13.IsWhole) (arg14 : Memref sig .tc .vmem S2x1024 .f32) (harg14 : arg14.IsWhole) (arg15 : Memref sig .tc .vmem S1x256x1536 .bf16) (harg15 : arg15.IsWhole) (arg16 : Memref sig .tc .vmem S256x8960 .f32) (harg16 : arg16.IsWhole)
    (x0 : Vec F S1x256x1536 .fp8e4m3) (x1 : Vec F S2x1024 .f32) (x2 : Vec F S1x256x1536 .f32) (x3 : Vec F S6x2x1536 .f32) (x4 : Vec F S6x1536 .f32) (x5 : Vec F S1536x8960 .fp8e4m3) (x6 : Vec F S1x8960 .f32) (x7 : Vec F S1x8960 .f32) (x8 : Vec F S8960x1536 .fp8e4m3) (x9 : Vec F S1x1536 .f32) (x10 : Vec F S1x1536 .f32) :
    Σ' (L11 : List (View.Piece (Elt F) S1x256x8960 .fp8e4m3)), Σ' (L12 : List (View.Piece (Elt F) S2x1024 .f32)), Σ' (L13 : List (View.Piece (Elt F) S1x256x1536 .bf16)), { LT0 : List (View.Piece (Elt F) S256x8960 .f32) //
      ∀ (x12 : Vec F S2x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare x12 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (arg14.view.loc (c : Thread nD τ) ↦[arg14.view.set]{fullShare} arg14.view.writes (Elt F) (harg14.unread x12) L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LT0)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun x12 E K => ?run⟩
  case run =>
    simp only [cc0_ffn_eq_skeleton]; unfold cc0_ffn_skel
    simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    obtain rfl := harg14.eq_unread hf12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexact H12
    isplitl [H13]; · iexists _; iexact H13
    iexists _; iexact HS0

end Cert.FfnIdeal.Run

end
-- ==== Proof.FfnFrame.lean ====
/-
  The frame of the ideal kernel, with what its outputs hold: outputs 11 and 13 point by point, output 12 (a whole
  array kept on chip, into which each point stores one row) by the rows stored so far.
-/
module

public import proofs.«01_k».proof.Proof.FfnRun
public import Idealize.ShloMosaic.Lib.Claim
public import Idealize.ShloMosaic.Lib.Pipeline.DatRel
public import Idealize.ShloMosaic.Lib.Pipeline.ArrRel

@[expose] public section

-- membership in a rectangle of production extents (`View.cover_of_tiled`): the elaborator's structural look
-- recurses once per coordinate of the long axes
set_option maxRecDepth 16384

noncomputable section

namespace Cert.FfnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_FfnIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's run at a grid point -/

/-- The run of the body at point `t`, on that point's staging buffers and input blocks. -/
def runAt (c : Dev nD) (t : Fin cfg0.N) := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The stores into output 11 at point `t` (last first), -/
def L11at (c : Dev nD) (t : Fin cfg0.N) : List (View.Piece (Elt F) S1x256x8960 .fp8e4m3) := (runAt m c t).1
/-- into output 12, -/
def L12at (c : Dev nD) (t : Fin cfg0.N) : List (View.Piece (Elt F) S2x1024 .f32) := (runAt m c t).2.1
/-- and into output 13. -/
def L13at (c : Dev nD) (t : Fin cfg0.N) : List (View.Piece (Elt F) S1x256x1536 .bf16) := (runAt m c t).2.2.1

/-- The stores into output 11 cover its block. -/
theorem cover11 (c : Dev nD) (t : Fin cfg0.N) (y : S1x256x8960.Idx) : ∃ pc ∈ L11at m c t, y ∈ pc.1.set :=
  View.cover_of_tiledL (L11at m c t) S1x256x256.size (by sl_kernel_rfl) y

/-- The stores into output 13 cover its block. -/
theorem cover13 (c : Dev nD) (t : Fin cfg0.N) (y : S1x256x1536.Idx) : ∃ pc ∈ L13at m c t, y ∈ pc.1.set :=
  View.cover_of_tiledL (L13at m c t) S1x256x256.size (by sl_kernel_rfl) y

/-- The one store into output 12: a row of 256 numbers at the place that the grid point names. -/
theorem L12at_eq (c : Dev nD) (t : Fin cfg0.N) : ∃ h p, L12at m c t = [⟨Rect.unit (k0_off1 (grid0.coords t)) S1x256.size h, p⟩] :=
  ⟨_, _, rfl⟩

/-- Index `y` of output 12 is one that point `t` stores. -/
def Seg (c : Dev nD) (t : Fin cfg0.N) (y : S2x1024.Idx) : Prop := ∃ pc ∈ L12at m c t, y ∈ pc.1.set

theorem seg_iff (c : Dev nD) (t : Fin cfg0.N) (y : S2x1024.Idx) :
    Seg m c t y ↔ (y 0).val = (grid0.coords t 0).val ∧ 256 * (grid0.coords t 1).val ≤ (y 1).val ∧ (y 1).val < 256 * (grid0.coords t 1).val + 256 := by
  obtain ⟨h, p, e⟩ := L12at_eq m c t
  unfold Seg; rw [e]
  simp only [List.mem_singleton, exists_eq_left, Rect.mem_set_unit, k0_off1_eq]
  rw [Fin.forall_fin_two]
  simp only [Matrix.cons_val_zero, Matrix.cons_val_one]
  have e0 : S1x256.size 0 = 1 := rfl
  have e1 : S1x256.size 1 = 256 := rfl
  constructor
  · rintro ⟨⟨h1, h2⟩, h3, h4⟩; refine ⟨?_, h3, ?_⟩
    · have : (y 0).val < (grid0.coords t 0).val + 1 := h2
      omega
    · exact h4
  · rintro ⟨h1, h2, h3⟩; refine ⟨⟨by omega, ?_⟩, h2, h3⟩
    show (y 0).val < (grid0.coords t 0).val + 1
    omega

theorem coords_inj : ∀ u t : Fin cfg0.N, (grid0.coords u 0).val = (grid0.coords t 0).val → (grid0.coords u 1).val = (grid0.coords t 1).val → u = t :=
  (by decide +kernel : ∀ u t : Fin grid0.N, (grid0.coords u 0).val = (grid0.coords t 0).val → (grid0.coords u 1).val = (grid0.coords t 1).val → u = t)

/-- No two points store the same index of output 12. -/
theorem seg_disjoint (c : Dev nD) (u t : Fin cfg0.N) (y : S2x1024.Idx) (hu : Seg m c u y) (ht : Seg m c t y) : u = t := by
  rw [seg_iff] at hu ht
  exact coords_inj u t (by omega) (by omega)

/-- Window 12 is held to a property; the other outputs are named. -/
def rel0 : Fin 14 → Bool := fun w => w.val == 12

/-- What output 12's buffer holds after point `t`: every row stored so far. -/
def Rows (c : Dev nD) (t : Fin cfg0.N) (X : Vec F S2x1024 .f32) : Prop :=
  ∀ u : Fin cfg0.N, u ≤ t → ∀ y, Seg m c u y → X y = View.canon (L12at m c u) y

/-- The property of window 12 (nothing is asked of the others). -/
def Rl0 (c : Dev nD) : (w : Fin cfg0.W) → Fin cfg0.N → ((cfg0.win w).block.Idx → Elt F (cfg0.win w).elt) → Prop := fun w t X =>
  match w with
  | ⟨12, _⟩ => Rows m c t X
  | _ => True

/-! ## The pipeline's proof data -/

/-- The proof data of the one pipeline on core `c`: the arrays as the region finds them (`V`); after the body at
    point `t` each input's buffer at its block, outputs 11 and 13 at what the stores leave, output 12 (held to `Rows` instead) at anything; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => View.canon (L11at m c t)
    | ⟨12, h⟩ => Pipeline.Dat.unnamed (cfg := cfg0) ⟨12, h⟩ t
    | ⟨13, _⟩ => View.canon (L13at m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = View.canon (L11at m c t) := by dsimp only [dats]
theorem after0_13 (c : Dev nD) (t : Fin cfg0.N) : (dats m 0 c).after 13 t = View.canon (L13at m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The data with window 12 held to `Rows`. -/
def rdat (c : Dev nD) : Pipeline.RDat τ (Elt F) Unit ℕ (UR sig nD τ) ℕ cfg0 c := (dats m 0 c).toRRel rel0 (Rl0 m c)

theorem fetch12 : ∀ t : Fin cfg0.N, (cfg0.win 12).fetch t = false :=
  (by decide +kernel : ∀ t : Fin grid0.N, win0_12.fetch t = false)

theorem flush12 : ∀ t : Fin cfg0.N, t.val < 7 → (cfg0.win 12).flush t = false :=
  (by decide +kernel : ∀ t : Fin grid0.N, t.val < 7 → win0_12.flush t = false)

/-- What the body finds in output 12's buffer: the rows of the points before. -/
theorem found12 (c : Dev nD) (t : Fin cfg0.N) (Y : Vec F S2x1024 .f32) (h : (rdat m c).Finds 12 t Y) :
    ∀ u : Fin cfg0.N, u < t → ∀ y, Seg m c u y → Y y = View.canon (L12at m c u) y := by
  intro u hu y hy
  have ht : t.val ≠ 0 := by have : u.val < t.val := hu; omega
  have htN : t.val < 8 := t.isLt
  rcases ((rdat m c).finds_of_pos (fetch12 t) ht Y).mp h with hf | hl
  · rw [flush12 _ (by show t.val - 1 < 7; omega)] at hf; exact absurd hf Bool.false_ne_true
  · have hr : Rows m c ⟨t.val - 1, _⟩ Y := (dats m 0 c).toRRel_leaves (fgt := rel0) (Rl := Rl0 m c) (w := 12) rfl hl
    exact hr u (by show u.val ≤ t.val - 1; have : u.val < t.val := hu; omega) y hy

/-- Storing point `t`'s row into such a buffer leaves the rows up to `t`. -/
theorem rows_step (c : Dev nD) (t : Fin cfg0.N) (v : View sig .tc .vmem S2x1024 .f32) (f : v.ty.Contents (Elt F)) (Y : Vec F S2x1024 .f32)
    (hf : v.read (Elt F) f = Y) (h : ∀ u : Fin cfg0.N, u < t → ∀ y, Seg m c u y → Y y = View.canon (L12at m c u) y) :
    Rows m c t (v.read (Elt F) (v.writes (Elt F) f (L12at m c t))) := by
  intro u hu y hy
  rcases lt_or_eq_of_le hu with hlt | rfl
  · rw [View.read_writes_apply_of_forall_not_mem v f y _ (fun p hp hmem => hlt.ne (seg_disjoint m c u t y hy ⟨p, hp, hmem⟩)), hf]
    exact h u hlt y hy
  · exact View.read_writes_apply_eq_canon v f y _ hy

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ Y, ⌜(rdat m c).Finds 12 t Y⌝ ∗ owns (c : Thread nD τ) (ms0_12 t) fullShare Y)
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ X, ⌜Rows m c t X⌝ ∗ owns (c : Thread nD τ) (ms0_12 t) fullShare X)
    ∗ owns (c : Thread nD τ) (ms0_13 t) fullShare ((dats m 0 c).after 13 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_13]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y12, %hY12, H12⟩, ⟨%d13, H13⟩⟩
  iapply ((runAt m c t).2.2.2.2 Y12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexists _; iexact H13
  isplitl [HS0]; · iexact HS0
  iintro ⟨H0, H1, H2, H3, H4, H5, H6, H7, H8, H9, H10, ⟨%e11, H11⟩, H12, ⟨%e13, H13⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_eq_canon _ _ _ (cover11 m c t)
  isplitl [H12]
  · iexists _; isplitr
    swap
    · unfold owns; iexists _; isplitr
      swap; · iexact H12
      ipureintro; rfl
    ipureintro; exact rows_step m c t _ _ _ (Memref.IsWhole.read_unread _ _) (found12 m c t Y12 hY12)
  unfold owns; iexists _; isplitr
  swap; · iexact H13
  ipureintro; exact View.read_writes_eq_canon _ _ _ (cover13 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationRel (dats (F := F) m 0 c) (defs₀ (F := F)) Variants.none () Set.univ rel0 (Rl0 m c) := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (rdat m) (A_eq m) (run_main m ρ)

/-- THE FRAME: `Cert.quiescent_FfnIdeal`'s statement (Defs.lean) at any `F` — Proof.lean cites it at `Bits`:
    `theorem Cert.Proof.claim : Cert.Claim := ⟨Cert.FfnIdeal.Gen.facts, fun m ρ _ => Cert.FfnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.FfnIdeal.Run

end
-- ==== Proof.FfnModel.lean ====
/-
  The feed-forward call row by row, over the extended reals: the activation of a row, its maximum's scale, its clipped codes, one element of the output;
  and the algebra that the kernel's own forms of these need. -/
module

public import Idealize.ShloMosaic.Lib.Pointwise

@[expose] public section

noncomputable section
namespace Cert.FfnVal
open Idealize.ShloMosaic

/-- √(2/π), the GELU's inner factor. -/
def gcR : ℝ := Real.sqrt (2 * Real.pi⁻¹)
/-- The GELU's cubic coefficient. -/
def gaR : ℝ := 8943 / 200000
/-- One half. -/
def half : EReal := Ideal.ofBits .f32 1056964608#32
/-- The greatest finite code. -/
def top8 : EReal := Ideal.ofBits .f32 1138753536#32
/-- Its negation. -/
def bot8 : EReal := Ideal.ofBits .f32 3286237184#32
/-- The maximum's starting value. -/
def mInit : EReal := Ideal.ofBits .f32 4286578688#32

/-- The GELU in its tanh form, the last product multiplied out. -/
def gelu (v : EReal) : EReal :=
  half * v + half * v * Ideal.tanh ((gcR : EReal) * (v + (gaR : EReal) * (v * (v * v))))

/-- The kernel's spelling of it: the inner factors multiplied together beforehand. -/
def geluK (v : EReal) : EReal :=
  half * v + half * v * Ideal.tanh (v * ((gcR : EReal) + ((gcR * gaR : ℝ) : EReal) * (v * v)))

/-- The scale of a row whose greatest magnitude is `m`. -/
def quant (m : EReal) : EReal := if m = 0 then 1 else Ideal.div m top8

/-- A value clipped to the code range. -/
def clip (x : EReal) : EReal := min top8 (max bot8 x)

/-- A row's activation at feature `f`. -/
def rowY (x : Fin 1536 → EReal) (xs : EReal) (w : Fin 1536 → Fin 8960 → EReal) (s b : Fin 8960 → EReal) (f : Fin 8960) : EReal :=
  gelu ((∑ k, x k * w k f) * xs * s f + b f)

/-- A row's greatest magnitude. -/
def rowM (y : Fin 8960 → EReal) : EReal :=
  (Finset.univ : Finset (Fin 8960)).fold max mInit (fun f => FloatOps.absf (F := Ideal) (φ := .f32) (y f))

/-- A row's scale. -/
def rowS (y : Fin 8960 → EReal) : EReal := quant (rowM y)

/-- A row's code at feature `f`. -/
def rowC (y : Fin 8960 → EReal) (f : Fin 8960) : EReal := clip (Ideal.div (y f) (rowS y))

/-- One element of the output: the residual plus the gated second projection. -/
def rowO (y : Fin 8960 → EReal) (w : Fin 8960 → EReal) (s b r gate : EReal) : EReal :=
  r + gate * ((∑ f, rowC y f * w f) * rowS y * s + b)

theorem gcR_pos : 0 < gcR := Real.sqrt_pos.mpr (by positivity)
theorem gaR_pos : 0 < gaR := by unfold gaR; norm_num

theorem gelu_inner (v : EReal) :
    v * ((gcR : EReal) + ((gcR * gaR : ℝ) : EReal) * (v * v)) = (gcR : EReal) * (v + (gaR : EReal) * (v * (v * v))) := by
  have hc := gcR_pos
  have ha := gaR_pos
  have hca : 0 < gcR * gaR := mul_pos hc ha
  induction v using EReal.rec with
  | bot =>
    rw [EReal.bot_mul_bot, EReal.coe_mul_top_of_pos hca, EReal.coe_add_top, EReal.bot_mul_top, EReal.coe_mul_bot_of_pos ha,
      EReal.bot_add, EReal.coe_mul_bot_of_pos hc]
  | top =>
    rw [EReal.top_mul_top, EReal.coe_mul_top_of_pos hca, EReal.coe_add_top, EReal.top_mul_top, EReal.coe_mul_top_of_pos ha,
      EReal.top_add_top, EReal.coe_mul_top_of_pos hc]
  | coe x =>
    norm_cast
    ring

theorem geluK_eq (v : EReal) : geluK v = gelu v := by
  unfold geluK gelu
  rw [gelu_inner]

theorem top8_eq : top8 = ((448 : ℝ) : EReal) := by
  unfold top8
  have : ((14680064 : ℝ) : EReal) * (((2 ^ 15 : ℝ)⁻¹ : ℝ) : EReal) = ((448 : ℝ) : EReal) := by
    rw [← EReal.coe_mul]; norm_num
  simp [Ideal.ofBits, Ideal.ieee]
  exact this

theorem quant_ne_zero (m : EReal) : quant m ≠ 0 := by
  unfold quant
  split
  · exact one_ne_zero
  · rename_i h
    rw [top8_eq, Ideal.div_coe (by norm_num)]
    intro h0
    rcases mul_eq_zero.mp h0 with h1 | h1
    · exact h h1
    · rw [EReal.coe_eq_zero] at h1; norm_num at h1

theorem mul_recip (y s : EReal) (h : s ≠ 0) : y * Ideal.div 1 s = Ideal.div y s := by
  unfold Ideal.div
  rw [if_neg h, if_neg h, one_mul]

/-- The running maximum of the first `n` chunks of 256 features, at one lane. -/
def laneM (g : ℕ → EReal) (l : ℕ) : ℕ → EReal
  | 0 => 0
  | n + 1 => max (laneM g l n) (FloatOps.absf (F := Ideal) (φ := .f32) (g (256 * n + l)))

theorem laneM_le (g : ℕ → EReal) (l : ℕ) (c : EReal) (h0 : 0 ≤ c) : ∀ n, (∀ j < n, FloatOps.absf (F := Ideal) (φ := .f32) (g (256 * j + l)) ≤ c) → laneM g l n ≤ c
  | 0, _ => h0
  | n + 1, h => max_le (laneM_le g l c h0 n fun j hj => h j (by omega)) (h n (by omega))

theorem le_laneM (g : ℕ → EReal) (l : ℕ) : ∀ n j, j < n → FloatOps.absf (F := Ideal) (φ := .f32) (g (256 * j + l)) ≤ laneM g l n
  | 0, _, h => absurd h (by omega)
  | n + 1, j, h => by
    rcases Nat.lt_succ_iff_lt_or_eq.mp h with h | rfl
    · exact (le_laneM g l n j h).trans (le_max_left _ _)
    · exact le_max_right _ _

theorem absf_nonneg (x : EReal) : 0 ≤ FloatOps.absf (F := Ideal) (φ := .f32) x := by
  rw [Ideal.absf_def]
  rcases le_total 0 x with h | h
  · exact h.trans (le_max_left _ _)
  · exact (EReal.neg_nonneg.mpr h).trans (le_max_right _ _)

/-- The maximum over the lanes of the running maxima is the maximum over all the features. -/
theorem lanes_max (y : Fin 8960 → EReal) (g : ℕ → EReal) (hg : ∀ f : Fin 8960, g f.val = y f) :
    (Finset.univ : Finset (Fin 256)).fold max mInit (fun l => laneM g l.val 35) = rowM y := by
  have hle : ∀ f : Fin 8960, FloatOps.absf (F := Ideal) (φ := .f32) (y f) ≤ rowM y := fun f =>
    (Finset.le_fold_max _).mpr (Or.inr ⟨f, Finset.mem_univ _, le_rfl⟩)
  have h0 : 0 ≤ rowM y := (absf_nonneg (y ⟨0, by omega⟩)).trans (hle _)
  apply le_antisymm
  · refine (Finset.fold_max_le _).mpr ⟨(Finset.le_fold_max _).mpr (Or.inl le_rfl), fun l _ => ?_⟩
    refine laneM_le g l.val _ h0 35 fun j hj => ?_
    have := hle ⟨256 * j + l.val, by omega⟩
    rw [← hg] at this
    exact this
  · refine (Finset.fold_max_le _).mpr ⟨(Finset.le_fold_max _).mpr (Or.inl le_rfl), fun f _ => ?_⟩
    refine (Finset.le_fold_max _).mpr (Or.inr ⟨⟨f.val % 256, by omega⟩, Finset.mem_univ _, ?_⟩)
    have := le_laneM g (f.val % 256) 35 (f.val / 256) (by omega)
    rw [Nat.div_add_mod, hg] at this
    exact this

/-- A maximum over the last axis of a rank-3 array, read at an index. -/
theorem red_max3 {n0 n1 n2 : ℕ} (v : FVec Ideal ⟨3, ![n0, n1, n2]⟩ .f32) (h : (⟨3, ![n0, n1, n2]⟩ : Shape).Reduces [2] ⟨2, ![n0, n1]⟩)
    (hφ : FKind.Formats .f32) (hacc : (0xFF800000#32 : BitVec 32) = FKind.maximumf.neutral .f32 hφ) (b : Fin n0) (t : Fin n1) :
    multiReduction .maximumf [2] ⟨2, ![n0, n1]⟩ v 0xFF800000#32 h hφ hacc (ix2 b t)
      = (Finset.univ : Finset (Fin n2)).fold max mInit (fun x => v (ix3 b t x)) := by
  rw [multiReduction_maximumf_eq_fold, Shape.Reduces.fold_fiber_r3_a2]
  rfl

/-- A maximum over the last axis of a matrix, read at an index. -/
theorem red_max2 {n0 n1 : ℕ} (v : FVec Ideal ⟨2, ![n0, n1]⟩ .f32) (h : (⟨2, ![n0, n1]⟩ : Shape).Reduces [1] ⟨1, ![n0]⟩)
    (hφ : FKind.Formats .f32) (hacc : (0xFF800000#32 : BitVec 32) = FKind.maximumf.neutral .f32 hφ) (b : Fin n0) :
    multiReduction .maximumf [1] ⟨1, ![n0]⟩ v 0xFF800000#32 h hφ hacc (ix1 b)
      = (Finset.univ : Finset (Fin n1)).fold max mInit (fun x => v (ix2 b x)) := by
  rw [multiReduction_maximumf_eq_fold, Shape.Reduces.fold_fiber_r2_a1]
  rfl

end Cert.FfnVal
-- ==== Proof.FfnPay.lean ====
/-
  The kernel's values inside one grid point, read at an index over the extended reals. -/
module

public import proofs.«01_k».proof.Proof.Gen.FfnIdeal.Skeleton
public import proofs.«01_k».proof.Proof.FfnModel
public import Idealize.ShloMosaic.Lib.Pointwise

@[expose] public section
set_option maxRecDepth 16384
noncomputable section
namespace Cert.FfnIdeal.Val
open Idealize.ShloMosaic Cert.FfnIdeal Cert.FfnIdeal.Gen Cert.FfnVal

theorem named_ca : (Named.named κ "gelu_ca" 1024598649#32 : Ideal .f32) = ((gcR * gaR : ℝ) : EReal) :=
  IdealRules.named_const.ideal_named_scalar _ _ _ _ rfl
theorem named_c : (Named.named κ "gelu_c" 1061962282#32 : Ideal .f32) = ((gcR : ℝ) : EReal) :=
  IdealRules.named_const.ideal_named_scalar _ _ _ _ rfl

/-- The row scales laid out down the rows. -/
theorem sx_apply (v4 : Vec Ideal S1x256 .f32) (r l : Fin 256) : k0_pay2 (F := Ideal) v4 (ix2 r l) = v4 (ix2 0 r) := by
  pointwise [k0_pay2]
  split <;> rfl

/-- One chunk of the activation. -/
theorem chunk_apply (v8 : FVec Ideal S256x256 .f32) (v10 : FVec Ideal S256x1536 .fp8e4m3) (v39 : Vec Ideal S1536x256 .fp8e4m3) (v42 v46 : Vec Ideal S1x256 .f32) (r l : Fin 256) :
    k0_pay7 (F := Ideal) v8 v10 v39 v42 v46 (ix2 r l) =
      gelu ((∑ k : Fin 1536, v10 (ix2 r k) * v39 (ix2 k l)) * v8 (ix2 r l) * v42 (ix2 0 l) + v46 (ix2 0 l)) := by
  rw [← geluK_eq]
  pointwise [k0_pay7]
  rw [named_ca, named_c]
  rfl

theorem codes_apply (v9 : Vec Ideal S1x256x1536 .fp8e4m3) (r : Fin 256) (k : Fin 1536) : k0_pay3 (F := Ideal) v9 (ix2 r k) = v9 (ix3 0 r k) := by
  pointwise [k0_pay3]

/-- The scale of a block's rows, from the last running maximum and the last chunk. -/
theorem scale_apply (v8 : FVec Ideal S256x256 .f32) (v10 : FVec Ideal S256x1536 .fp8e4m3) (v926 : FVec Ideal S256x256 .f32) (v930 : Vec Ideal S1536x256 .fp8e4m3) (v933 v937 : Vec Ideal S1x256 .f32) (r : Fin 256) :
    k0_pay130 (F := Ideal) v8 v10 v926 v930 v933 v937 (ix2 r 0) =
      quant ((Finset.univ : Finset (Fin 256)).fold max mInit fun l => k0_pay8 (F := Ideal) v8 v10 v926 v930 v933 v937 (ix2 r l)) := by
  have e := red_max2 (k0_pay8 (F := Ideal) v8 v10 v926 v930 v933 v937) reduces_S256x256_S256 (.inl rfl) rfl r
  rw [← e]
  have g : ∀ v957 : FVec Ideal S256 .f32, select (cmpf .oeq (shapeCast S256x1 v957 shapeCasts_S256_S256x1) (broadcast S256x1 (Scalar.ofBits .f32 0x00000000#32 : Ideal .f32)))
      (broadcast S256x1 (Scalar.ofBits .f32 0x3F800000#32 : Ideal .f32))
      (divf (shapeCast S256x1 v957 shapeCasts_S256_S256x1) (broadcast S256x1 (Scalar.ofBits .f32 0x43E00000#32 : Ideal .f32))) (ix2 r 0) = quant (v957 (ix1 r)) := by
    intro v957
    unfold quant top8
    pointwise
  exact g _

/-- The scale as the row that is stored. -/
theorem scale_row (v964 : FVec Ideal S256x1 .f32) (r : Fin 256) :
    extractStridedSlice S1x256 ![0, 0] (transpose S128x256 [1, 0] (broadcastTo S256x128 (shapeCast S256x1 v964 shapeCasts_S256x1_S256x1) broadcasts_S256x1_S256x128) transposes_S256x128_p1_0_S128x256) slices_S128x256_o0_0_S1x256 (ix2 0 r)
      = v964 (ix2 r 0) := by
  pointwise

/-- One chunk of the codes, as it is stored. -/
theorem code_apply (Y : FVec Ideal S256x256 .f32) (sc : FVec Ideal S256x1 .f32) (hs : ∀ r : Fin 256, sc (ix2 r 0) ≠ 0) (r l : Fin 256) :
    shapeCast S1x256x256 (truncf .fp8e4m3 (minimumf (broadcast S256x256 (Scalar.ofBits .f32 0x43E00000#32 : Ideal .f32)) (maximumf (broadcast S256x256 (Scalar.ofBits .f32 0xC3E00000#32 : Ideal .f32))
      (mulf Y (broadcastTo S256x256 (divf (broadcast S256x1 (Scalar.ofBits .f32 0x3F800000#32 : Ideal .f32)) sc) broadcasts_S256x1_S256x256)))) bitsLt_fp8e4m3_f32) shapeCasts_S256x256_S1x256x256 (ix3 0 r l)
      = clip (Ideal.div (Y (ix2 r l)) (sc (ix2 r 0))) := by
  rw [← mul_recip _ _ (hs r)]
  unfold clip top8 bot8
  pointwise

/-- The gate's row. -/
theorem gate_apply (v1360 : Vec Ideal S1x1536 .f32) (v1361 : Vec Ideal S1x1x1536 .f32) (d : Fin 1536) :
    (addf v1360 (shapeCast S1x1536 v1361 shapeCasts_S1x1x1536_S1x1536) : FVec Ideal S1x1536 .f32) (ix2 0 d) = (v1360 (ix2 0 d) + v1361 (ix3 0 0 d) : EReal) := by
  pointwise

end Cert.FfnIdeal.Val
-- ==== Proof.FfnBlock.lean ====
/-
  One grid point of the kernel, read at an index: the chunks of the activation, the running maximum, and the scale
  of each row. -/
module

public import proofs.«01_k».proof.Proof.FfnRun
public import proofs.«01_k».proof.Proof.FfnPay
public import Idealize.ShloMosaic.Lib.Pipeline.ValueKit

@[expose] public section
set_option maxRecDepth 16384
noncomputable section
namespace Cert.FfnIdeal.Val
open Idealize.ShloMosaic Cert.FfnIdeal Cert.FfnIdeal.Gen Cert.FfnVal Cert.FfnIdeal.Run

/-- The sequence of a grid point, and a row of its block as a token. -/
def gB (i : grid0.Coords) : Fin 2 := ⟨(i 0).val, (i 0).isLt⟩
def gT (i : grid0.Coords) (r : Fin 256) : Fin 1024 := ⟨256 * (i 1).val + r.val, by
  have h : (i 1).val < 4 := (i 1).isLt
  omega⟩

/-- The activations of row `r` of a grid point's block. -/
def blkY (i : grid0.Coords) (x0 : S1x256x1536.Idx → EReal) (x1 : S2x1024.Idx → EReal) (x5 : S1536x8960.Idx → EReal) (x6 x7 : S1x8960.Idx → EReal) (r : Fin 256) : Fin 8960 → EReal :=
  rowY (fun k => x0 (ix3 0 r k)) (x1 (ix2 (gB i) (gT i r))) (fun k f => x5 (ix2 k f)) (fun f => x6 (ix2 0 f)) (fun f => x7 (ix2 0 f))

section Reads
variable (c : Dev nD) (i : grid0.Coords)
  (arg2 : Memref sig .tc .vmem S1x256x1536 .fp8e4m3) (harg2 : arg2.IsWhole) (arg3 : Memref sig .tc .vmem S2x1024 .f32) (harg3 : arg3.IsWhole)
  (arg7 : Memref sig .tc .vmem S1536x8960 .fp8e4m3) (harg7 : arg7.IsWhole) (arg8 : Memref sig .tc .vmem S1x8960 .f32) (harg8 : arg8.IsWhole)
  (x0 : Vec Ideal S1x256x1536 .fp8e4m3) (x1 : Vec Ideal S2x1024 .f32) (x5 : Vec Ideal S1536x8960 .fp8e4m3) (x6 x7 : Vec Ideal S1x8960 .f32)

/-- A chunk of the first weights, read where it lies in the whole array; -/
theorem rd7 (o : ℕ) (h : ∀ a, ![0, o] a + S1536x256.size a ≤ S1536x8960.size a) (k : Fin 1536) (l : Fin 256) (ho : o + l.val < 8960) :
    View.readAt (Elt Ideal) arg7.view (Rect.unit (s := S1536x8960) ![0, o] S1536x256.size h).toLoadRect (harg7.unread x5) (ix2 k l) = x5 (ix2 k ⟨o + l.val, ho⟩) := by
  refine (congrFun (harg7.read_unread x5) _).trans (congrArg x5 ?_)
  funext a
  refine Fin.ext ((Rect.idx_unit_val _ _ h _ a).trans ?_)
  match a with
  | ⟨0, _⟩ => exact Nat.zero_add _
  | ⟨1, _⟩ => rfl

/-- a chunk of a row likewise. -/
theorem rd8 (o : ℕ) (h : ∀ a, ![0, o] a + S1x256.size a ≤ S1x8960.size a) (l : Fin 256) (ho : o + l.val < 8960) :
    View.readAt (Elt Ideal) arg8.view (Rect.unit (s := S1x8960) ![0, o] S1x256.size h).toLoadRect (harg8.unread x6) (ix2 0 l) = x6 (ix2 0 ⟨o + l.val, ho⟩) := by
  refine (congrFun (harg8.read_unread x6) _).trans (congrArg x6 ?_)
  funext a
  refine Fin.ext ((Rect.idx_unit_val _ _ h _ a).trans ?_)
  match a with
  | ⟨0, _⟩ => exact Nat.zero_add _
  | ⟨1, _⟩ => rfl

/-- The token codes of the block. -/
theorem r1_apply (r : Fin 256) (k : Fin 1536) : kernelRun0_A.sl.r_1 (F := Ideal) c arg2 harg2 x0 (ix2 r k) = x0 (ix3 0 r k) := by
  unfold kernelRun0_A.sl.r_1
  refine (codes_apply _ r k).trans ?_
  refine (congrFun (harg2.read_unread x0) _).trans (congrArg x0 ?_)
  funext a
  refine Fin.ext ((Rect.idx_unit_val _ _ _ _ a).trans ?_)
  match a with
  | ⟨0, _⟩ => exact Nat.zero_add _
  | ⟨1, _⟩ => exact Nat.zero_add _
  | ⟨2, _⟩ => exact Nat.zero_add _

/-- The token scales of the block. -/
theorem r_apply (r l : Fin 256) : kernelRun0_A.sl.r (F := Ideal) c i arg3 harg3 x1 (ix2 r l) = x1 (ix2 (gB i) (gT i r)) := by
  unfold kernelRun0_A.sl.r
  refine (sx_apply _ r l).trans ?_
  refine (congrFun (harg3.read_unread x1) _).trans (congrArg x1 ?_)
  funext a
  refine Fin.ext ((Rect.idx_unit_val _ _ _ _ a).trans ?_)
  refine (congrArg (· + _) (congrFun (k0_off1_eq i) a)).trans ?_
  match a with
  | ⟨0, _⟩ => rfl
  | ⟨1, _⟩ => rfl

/-- A chunk of the activation at lanes `o ..`, in the words that the body's run names. -/
theorem chunk (arg9 : Memref sig .tc .vmem S1x8960 .f32) (harg9 : arg9.IsWhole)
    (o : ℕ) (h7 : ∀ a, ![0, o] a + S1536x256.size a ≤ S1536x8960.size a) (h8 : ∀ a, ![0, o] a + S1x256.size a ≤ S1x8960.size a)
    (r l : Fin 256) (ho : o + l.val < 8960) :
    k0_pay7 (F := Ideal) (kernelRun0_A.sl.r (F := Ideal) c i arg3 harg3 x1) (kernelRun0_A.sl.r_1 (F := Ideal) c arg2 harg2 x0)
      (View.readAt (Elt Ideal) arg7.view (Rect.unit (s := S1536x8960) ![0, o] S1536x256.size h7).toLoadRect (harg7.unread x5))
      (View.readAt (Elt Ideal) arg8.view (Rect.unit (s := S1x8960) ![0, o] S1x256.size h8).toLoadRect (harg8.unread x6))
      (View.readAt (Elt Ideal) arg9.view (Rect.unit (s := S1x8960) ![0, o] S1x256.size h8).toLoadRect (harg9.unread x7)) (ix2 r l) = blkY i x0 x1 x5 x6 x7 r ⟨o + l.val, ho⟩ := by
  refine (chunk_apply _ _ _ _ _ r l).trans ?_
  rw [r_apply, rd8 arg8 harg8 x6 o h8 l ho, rd8 arg9 harg9 x7 o h8 l ho]
  unfold blkY rowY
  refine congrArg (fun q : EReal => gelu (q * x1 (ix2 (gB i) (gT i r)) * x6 (ix2 0 ⟨o + l.val, ho⟩) + x7 (ix2 0 ⟨o + l.val, ho⟩))) ?_
  refine Finset.sum_congr rfl fun k _ => ?_
  rw [r1_apply, rd7 arg7 harg7 x5 o h7 k l ho]

end Reads
section Block
variable (c : Dev nD) (i : grid0.Coords)
  (arg2 : Memref sig .tc .vmem S1x256x1536 .fp8e4m3) (harg2 : arg2.IsWhole) (arg3 : Memref sig .tc .vmem S2x1024 .f32) (harg3 : arg3.IsWhole)
  (arg7 : Memref sig .tc .vmem S1536x8960 .fp8e4m3) (harg7 : arg7.IsWhole) (arg8 : Memref sig .tc .vmem S1x8960 .f32) (harg8 : arg8.IsWhole)
  (arg9 : Memref sig .tc .vmem S1x8960 .f32) (harg9 : arg9.IsWhole)
  (x0 : Vec Ideal S1x256x1536 .fp8e4m3) (x1 : Vec Ideal S2x1024 .f32) (x5 : Vec Ideal S1536x8960 .fp8e4m3) (x6 x7 : Vec Ideal S1x8960 .f32)

/-- A row's activations, at any number (0 past the row's end). -/
def rowN (y : Fin 8960 → EReal) (n : ℕ) : EReal := if h : n < 8960 then y ⟨n, h⟩ else 0

theorem rowN_of (y : Fin 8960 → EReal) (f : Fin 8960) : rowN y f.val = y f := dif_pos f.isLt

/-- The running maximum, one chunk further. -/
theorem step (prev : FVec Ideal S256x256 .f32) (n o : ℕ) (hn : o = 256 * n) (hn' : n < 35)
    (h7 : ∀ a, ![0, o] a + S1536x256.size a ≤ S1536x8960.size a) (h8 : ∀ a, ![0, o] a + S1x256.size a ≤ S1x8960.size a) (r l : Fin 256)
    (hp : prev (ix2 r l) = laneM (rowN (blkY i x0 x1 x5 x6 x7 r)) l.val n) :
    k0_pay8 (F := Ideal) (kernelRun0_A.sl.r (F := Ideal) c i arg3 harg3 x1) (kernelRun0_A.sl.r_1 (F := Ideal) c arg2 harg2 x0) prev
      (View.readAt (Elt Ideal) arg7.view (Rect.unit (s := S1536x8960) ![0, o] S1536x256.size h7).toLoadRect (harg7.unread x5))
      (View.readAt (Elt Ideal) arg8.view (Rect.unit (s := S1x8960) ![0, o] S1x256.size h8).toLoadRect (harg8.unread x6))
      (View.readAt (Elt Ideal) arg9.view (Rect.unit (s := S1x8960) ![0, o] S1x256.size h8).toLoadRect (harg9.unread x7)) (ix2 r l)
      = laneM (rowN (blkY i x0 x1 x5 x6 x7 r)) l.val (n + 1) := by
  have ho : o + l.val < 8960 := by have := l.isLt; omega
  have e := chunk c i arg2 harg2 arg3 harg3 arg7 harg7 arg8 harg8 x0 x1 x5 x6 x7 arg9 harg9 o h7 h8 r l ho
  have e' : rowN (blkY i x0 x1 x5 x6 x7 r) (256 * n + l.val) = blkY i x0 x1 x5 x6 x7 r ⟨o + l.val, ho⟩ := by
    subst hn; exact dif_pos ho
  refine Eq.trans (b := max (prev (ix2 r l)) (FloatOps.absf (F := Ideal) (φ := .f32) (k0_pay7 (F := Ideal) _ _ _ _ _ (ix2 r l)))) rfl ?_
  rw [e, hp, laneM, e']

theorem max2 (r l : Fin 256) : kernelRun0_A.sl.r_2 (F := Ideal) c i arg2 harg2 arg3 harg3 arg7 harg7 arg8 harg8 arg9 harg9 x0 x1 x5 x6 x7 (ix2 r l) = laneM (rowN (blkY i x0 x1 x5 x6 x7 r)) l.val 1 := by
  refine step c i arg2 harg2 arg3 harg3 arg7 harg7 arg8 harg8 arg9 harg9 x0 x1 x5 x6 x7 (broadcast S256x256 (Scalar.ofBits .f32 0x00000000#32 : Ideal .f32)) 0 0 rfl (by decide) _ _ r l ?_
  rw [laneM]
  pointwise

theorem max3 (r l : Fin 256) : kernelRun0_A.sl.r_3 (F := Ideal) c i arg2 harg2 arg3 harg3 arg7 harg7 arg8 harg8 arg9 harg9 x0 x1 x5 x6 x7 (ix2 r l) = laneM (rowN (blkY i x0 x1 x5 x6 x7 r)) l.val 2 :=
  step c i arg2 harg2 arg3 harg3 arg7 harg7 arg8 harg8 arg9 harg9 x0 x1 x5 x6 x7 _ 1 256 rfl (by decide) _ _ r l (max2 c i arg2 harg2 arg3 harg3 arg7 harg7 arg8 harg8 arg9 harg9 x0 x1 x5 x6 x7 r l)

theorem max6 (r l : Fin 256) : kernelRun0_A.sl.r_6 (F := Ideal) c i arg2 harg2 arg3 harg3 arg7 harg7 arg8 harg8 arg9 harg9 x0 x1 x5 x6 x7 (ix2 r l) = laneM (rowN (blkY i x0 x1 x5 x6 x7 r)) l.val 4 :=
  step c i arg2 harg2 arg3 harg3 arg7 harg7 arg8 harg8 arg9 harg9 x0 x1 x5 x6 x7 _ 3 768 rfl (by decide) _ _ r l (step c i arg2 harg2 arg3 harg3 arg7 harg7 arg8 harg8 arg9 harg9 x0 x1 x5 x6 x7 (kernelRun0_A.sl.r_3 (F := Ideal) c i arg2 harg2 arg3 harg3 arg7 harg7 arg8 harg8 arg9 harg9 x0 x1 x5 x6 x7) 2 512 rfl (by decide) (by decide) (by decide) r l (max3 c i arg2 harg2 arg3 harg3 arg7 harg7 arg8 harg8 arg9 harg9 x0 x1 x5 x6 x7 r l))

theorem max7 (r l : Fin 256) : kernelRun0_A.sl.r_7 (F := Ideal) c i arg2 harg2 arg3 harg3 arg7 harg7 arg8 harg8 arg9 harg9 x0 x1 x5 x6 x7 (ix2 r l) = laneM (rowN (blkY i x0 x1 x5 x6 x7 r)) l.val 5 :=
  step c i arg2 harg2 arg3 harg3 arg7 harg7 arg8 harg8 arg9 harg9 x0 x1 x5 x6 x7 _ 4 1024 rfl (by decide) _ _ r l (max6 c i arg2 harg2 arg3 harg3 arg7 harg7 arg8 harg8 arg9 harg9 x0 x1 x5 x6 x7 r l)

theorem max10 (r l : Fin 256) : kernelRun0_A.sl.r_10 (F := Ideal) c i arg2 harg2 arg3 harg3 arg7 harg7 arg8 harg8 arg9 harg9 x0 x1 x5 x6 x7 (ix2 r l) = laneM (rowN (blkY i x0 x1 x5 x6 x7 r)) l.val 7 :=
  step c i arg2 harg2 arg3 harg3 arg7 harg7 arg8 harg8 arg9 harg9 x0 x1 x5 x6 x7 _ 6 1536 rfl (by decide) _ _ r l (step c i arg2 harg2 arg3 harg3 arg7 harg7 arg8 harg8 arg9 harg9 x0 x1 x5 x6 x7 (kernelRun0_A.sl.r_7 (F := Ideal) c i arg2 harg2 arg3 harg3 arg7 harg7 arg8 harg8 arg9 harg9 x0 x1 x5 x6 x7) 5 1280 rfl (by decide) (by decide) (by decide) r l (max7 c i arg2 harg2 arg3 harg3 arg7 harg7 arg8 harg8 arg9 harg9 x0 x1 x5 x6 x7 r l))

theorem max11 (r l : Fin 256) : kernelRun0_A.sl.r_11 (F := Ideal) c i arg2 harg2 arg3 harg3 arg7 harg7 arg8 harg8 arg9 harg9 x0 x1 x5 x6 x7 (ix2 r l) = laneM (rowN (blkY i x0 x1 x5 x6 x7 r)) l.val 8 :=
  step c i arg2 harg2 arg3 harg3 arg7 harg7 arg8 harg8 arg9 harg9 x0 x1 x5 x6 x7 _ 7 1792 rfl (by decide) _ _ r l (max10 c i arg2 harg2 arg3 harg3 arg7 harg7 arg8 harg8 arg9 harg9 x0 x1 x5 x6 x7 r l)

theorem max14 (r l : Fin 256) : kernelRun0_A.sl.r_14 (F := Ideal) c i arg2 harg2 arg3 harg3 arg7 harg7 arg8 harg8 arg9 harg9 x0 x1 x5 x6 x7 (ix2 r l) = laneM (rowN (blkY i x0 x1 x5 x6 x7 r)) l.val 10 :=
  step c i arg2 harg2 arg3 harg3 arg7 harg7 arg8 harg8 arg9 harg9 x0 x1 x5 x6 x7 _ 9 2304 rfl (by decide) _ _ r l (step c i arg2 harg2 arg3 harg3 arg7 harg7 arg8 harg8 arg9 harg9 x0 x1 x5 x6 x7 (kernelRun0_A.sl.r_11 (F := Ideal) c i arg2 harg2 arg3 harg3 arg7 harg7 arg8 harg8 arg9 harg9 x0 x1 x5 x6 x7) 8 2048 rfl (by decide) (by decide) (by decide) r l (max11 c i arg2 harg2 arg3 harg3 arg7 harg7 arg8 harg8 arg9 harg9 x0 x1 x5 x6 x7 r l))

theorem max15 (r l : Fin 256) : kernelRun0_A.sl.r_15 (F := Ideal) c i arg2 harg2 arg3 harg3 arg7 harg7 arg8 harg8 arg9 harg9 x0 x1 x5 x6 x7 (ix2 r l) = laneM (rowN (blkY i x0 x1 x5 x6 x7 r)) l.val 11 :=
  step c i arg2 harg2 arg3 harg3 arg7 harg7 arg8 harg8 arg9 harg9 x0 x1 x5 x6 x7 _ 10 2560 rfl (by decide) _ _ r l (max14 c i arg2 harg2 arg3 harg3 arg7 harg7 arg8 harg8 arg9 harg9 x0 x1 x5 x6 x7 r l)

theorem max18 (r l : Fin 256) : kernelRun0_A.sl.r_18 (F := Ideal) c i arg2 harg2 arg3 harg3 arg7 harg7 arg8 harg8 arg9 harg9 x0 x1 x5 x6 x7 (ix2 r l) = laneM (rowN (blkY i x0 x1 x5 x6 x7 r)) l.val 13 :=
  step c i arg2 harg2 arg3 harg3 arg7 harg7 arg8 harg8 arg9 harg9 x0 x1 x5 x6 x7 _ 12 3072 rfl (by decide) _ _ r l (step c i arg2 harg2 arg3 harg3 arg7 harg7 arg8 harg8 arg9 harg9 x0 x1 x5 x6 x7 (kernelRun0_A.sl.r_15 (F := Ideal) c i arg2 harg2 arg3 harg3 arg7 harg7 arg8 harg8 arg9 harg9 x0 x1 x5 x6 x7) 11 2816 rfl (by decide) (by decide) (by decide) r l (max15 c i arg2 harg2 arg3 harg3 arg7 harg7 arg8 harg8 arg9 harg9 x0 x1 x5 x6 x7 r l))

theorem max19 (r l : Fin 256) : kernelRun0_A.sl.r_19 (F := Ideal) c i arg2 harg2 arg3 harg3 arg7 harg7 arg8 harg8 arg9 harg9 x0 x1 x5 x6 x7 (ix2 r l) = laneM (rowN (blkY i x0 x1 x5 x6 x7 r)) l.val 14 :=
  step c i arg2 harg2 arg3 harg3 arg7 harg7 arg8 harg8 arg9 harg9 x0 x1 x5 x6 x7 _ 13 3328 rfl (by decide) _ _ r l (max18 c i arg2 harg2 arg3 harg3 arg7 harg7 arg8 harg8 arg9 harg9 x0 x1 x5 x6 x7 r l)

theorem max22 (r l : Fin 256) : kernelRun0_A.sl.r_22 (F := Ideal) c i arg2 harg2 arg3 harg3 arg7 harg7 arg8 harg8 arg9 harg9 x0 x1 x5 x6 x7 (ix2 r l) = laneM (rowN (blkY i x0 x1 x5 x6 x7 r)) l.val 16 :=
  step c i arg2 harg2 arg3 harg3 arg7 harg7 arg8 harg8 arg9 harg9 x0 x1 x5 x6 x7 _ 15 3840 rfl (by decide) _ _ r l (step c i arg2 harg2 arg3 harg3 arg7 harg7 arg8 harg8 arg9 harg9 x0 x1 x5 x6 x7 (kernelRun0_A.sl.r_19 (F := Ideal) c i arg2 harg2 arg3 harg3 arg7 harg7 arg8 harg8 arg9 harg9 x0 x1 x5 x6 x7) 14 3584 rfl (by decide) (by decide) (by decide) r l (max19 c i arg2 harg2 arg3 harg3 arg7 harg7 arg8 harg8 arg9 harg9 x0 x1 x5 x6 x7 r l))

theorem max23 (r l : Fin 256) : kernelRun0_A.sl.r_23 (F := Ideal) c i arg2 harg2 arg3 harg3 arg7 harg7 arg8 harg8 arg9 harg9 x0 x1 x5 x6 x7 (ix2 r l) = laneM (rowN (blkY i x0 x1 x5 x6 x7 r)) l.val 17 :=
  step c i arg2 harg2 arg3 harg3 arg7 harg7 arg8 harg8 arg9 harg9 x0 x1 x5 x6 x7 _ 16 4096 rfl (by decide) _ _ r l (max22 c i arg2 harg2 arg3 harg3 arg7 harg7 arg8 harg8 arg9 harg9 x0 x1 x5 x6 x7 r l)

theorem max26 (r l : Fin 256) : kernelRun0_A.sl.r_26 (F := Ideal) c i arg2 harg2 arg3 harg3 arg7 harg7 arg8 harg8 arg9 harg9 x0 x1 x5 x6 x7 (ix2 r l) = laneM (rowN (blkY i x0 x1 x5 x6 x7 r)) l.val 19 :=
  step c i arg2 harg2 arg3 harg3 arg7 harg7 arg8 harg8 arg9 harg9 x0 x1 x5 x6 x7 _ 18 4608 rfl (by decide) _ _ r l (step c i arg2 harg2 arg3 harg3 arg7 harg7 arg8 harg8 arg9 harg9 x0 x1 x5 x6 x7 (kernelRun0_A.sl.r_23 (F := Ideal) c i arg2 harg2 arg3 harg3 arg7 harg7 arg8 harg8 arg9 harg9 x0 x1 x5 x6 x7) 17 4352 rfl (by decide) (by decide) (by decide) r l (max23 c i arg2 harg2 arg3 harg3 arg7 harg7 arg8 harg8 arg9 harg9 x0 x1 x5 x6 x7 r l))

theorem max27 (r l : Fin 256) : kernelRun0_A.sl.r_27 (F := Ideal) c i arg2 harg2 arg3 harg3 arg7 harg7 arg8 harg8 arg9 harg9 x0 x1 x5 x6 x7 (ix2 r l) = laneM (rowN (blkY i x0 x1 x5 x6 x7 r)) l.val 20 :=
  step c i arg2 harg2 arg3 harg3 arg7 harg7 arg8 harg8 arg9 harg9 x0 x1 x5 x6 x7 _ 19 4864 rfl (by decide) _ _ r l (max26 c i arg2 harg2 arg3 harg3 arg7 harg7 arg8 harg8 arg9 harg9 x0 x1 x5 x6 x7 r l)

theorem max30 (r l : Fin 256) : kernelRun0_A.sl.r_30 (F := Ideal) c i arg2 harg2 arg3 harg3 arg7 harg7 arg8 harg8 arg9 harg9 x0 x1 x5 x6 x7 (ix2 r l) = laneM (rowN (blkY i x0 x1 x5 x6 x7 r)) l.val 22 :=
  step c i arg2 harg2 arg3 harg3 arg7 harg7 arg8 harg8 arg9 harg9 x0 x1 x5 x6 x7 _ 21 5376 rfl (by decide) _ _ r l (step c i arg2 harg2 arg3 harg3 arg7 harg7 arg8 harg8 arg9 harg9 x0 x1 x5 x6 x7 (kernelRun0_A.sl.r_27 (F := Ideal) c i arg2 harg2 arg3 harg3 arg7 harg7 arg8 harg8 arg9 harg9 x0 x1 x5 x6 x7) 20 5120 rfl (by decide) (by decide) (by decide) r l (max27 c i arg2 harg2 arg3 harg3 arg7 harg7 arg8 harg8 arg9 harg9 x0 x1 x5 x6 x7 r l))

theorem max31 (r l : Fin 256) : kernelRun0_A.sl.r_31 (F := Ideal) c i arg2 harg2 arg3 harg3 arg7 harg7 arg8 harg8 arg9 harg9 x0 x1 x5 x6 x7 (ix2 r l) = laneM (rowN (blkY i x0 x1 x5 x6 x7 r)) l.val 23 :=
  step c i arg2 harg2 arg3 harg3 arg7 harg7 arg8 harg8 arg9 harg9 x0 x1 x5 x6 x7 _ 22 5632 rfl (by decide) _ _ r l (max30 c i arg2 harg2 arg3 harg3 arg7 harg7 arg8 harg8 arg9 harg9 x0 x1 x5 x6 x7 r l)

theorem max34 (r l : Fin 256) : kernelRun0_A.sl.r_34 (F := Ideal) c i arg2 harg2 arg3 harg3 arg7 harg7 arg8 harg8 arg9 harg9 x0 x1 x5 x6 x7 (ix2 r l) = laneM (rowN (blkY i x0 x1 x5 x6 x7 r)) l.val 25 :=
  step c i arg2 harg2 arg3 harg3 arg7 harg7 arg8 harg8 arg9 harg9 x0 x1 x5 x6 x7 _ 24 6144 rfl (by decide) _ _ r l (step c i arg2 harg2 arg3 harg3 arg7 harg7 arg8 harg8 arg9 harg9 x0 x1 x5 x6 x7 (kernelRun0_A.sl.r_31 (F := Ideal) c i arg2 harg2 arg3 harg3 arg7 harg7 arg8 harg8 arg9 harg9 x0 x1 x5 x6 x7) 23 5888 rfl (by decide) (by decide) (by decide) r l (max31 c i arg2 harg2 arg3 harg3 arg7 harg7 arg8 harg8 arg9 harg9 x0 x1 x5 x6 x7 r l))

theorem max35 (r l : Fin 256) : kernelRun0_A.sl.r_35 (F := Ideal) c i arg2 harg2 arg3 harg3 arg7 harg7 arg8 harg8 arg9 harg9 x0 x1 x5 x6 x7 (ix2 r l) = laneM (rowN (blkY i x0 x1 x5 x6 x7 r)) l.val 26 :=
  step c i arg2 harg2 arg3 harg3 arg7 harg7 arg8 harg8 arg9 harg9 x0 x1 x5 x6 x7 _ 25 6400 rfl (by decide) _ _ r l (max34 c i arg2 harg2 arg3 harg3 arg7 harg7 arg8 harg8 arg9 harg9 x0 x1 x5 x6 x7 r l)

theorem max38 (r l : Fin 256) : kernelRun0_A.sl.r_38 (F := Ideal) c i arg2 harg2 arg3 harg3 arg7 harg7 arg8 harg8 arg9 harg9 x0 x1 x5 x6 x7 (ix2 r l) = laneM (rowN (blkY i x0 x1 x5 x6 x7 r)) l.val 28 :=
  step c i arg2 harg2 arg3 harg3 arg7 harg7 arg8 harg8 arg9 harg9 x0 x1 x5 x6 x7 _ 27 6912 rfl (by decide) _ _ r l (step c i arg2 harg2 arg3 harg3 arg7 harg7 arg8 harg8 arg9 harg9 x0 x1 x5 x6 x7 (kernelRun0_A.sl.r_35 (F := Ideal) c i arg2 harg2 arg3 harg3 arg7 harg7 arg8 harg8 arg9 harg9 x0 x1 x5 x6 x7) 26 6656 rfl (by decide) (by decide) (by decide) r l (max35 c i arg2 harg2 arg3 harg3 arg7 harg7 arg8 harg8 arg9 harg9 x0 x1 x5 x6 x7 r l))

theorem max39 (r l : Fin 256) : kernelRun0_A.sl.r_39 (F := Ideal) c i arg2 harg2 arg3 harg3 arg7 harg7 arg8 harg8 arg9 harg9 x0 x1 x5 x6 x7 (ix2 r l) = laneM (rowN (blkY i x0 x1 x5 x6 x7 r)) l.val 29 :=
  step c i arg2 harg2 arg3 harg3 arg7 harg7 arg8 harg8 arg9 harg9 x0 x1 x5 x6 x7 _ 28 7168 rfl (by decide) _ _ r l (max38 c i arg2 harg2 arg3 harg3 arg7 harg7 arg8 harg8 arg9 harg9 x0 x1 x5 x6 x7 r l)

theorem max42 (r l : Fin 256) : kernelRun0_A.sl.r_42 (F := Ideal) c i arg2 harg2 arg3 harg3 arg7 harg7 arg8 harg8 arg9 harg9 x0 x1 x5 x6 x7 (ix2 r l) = laneM (rowN (blkY i x0 x1 x5 x6 x7 r)) l.val 31 :=
  step c i arg2 harg2 arg3 harg3 arg7 harg7 arg8 harg8 arg9 harg9 x0 x1 x5 x6 x7 _ 30 7680 rfl (by decide) _ _ r l (step c i arg2 harg2 arg3 harg3 arg7 harg7 arg8 harg8 arg9 harg9 x0 x1 x5 x6 x7 (kernelRun0_A.sl.r_39 (F := Ideal) c i arg2 harg2 arg3 harg3 arg7 harg7 arg8 harg8 arg9 harg9 x0 x1 x5 x6 x7) 29 7424 rfl (by decide) (by decide) (by decide) r l (max39 c i arg2 harg2 arg3 harg3 arg7 harg7 arg8 harg8 arg9 harg9 x0 x1 x5 x6 x7 r l))

theorem max43 (r l : Fin 256) : kernelRun0_A.sl.r_43 (F := Ideal) c i arg2 harg2 arg3 harg3 arg7 harg7 arg8 harg8 arg9 harg9 x0 x1 x5 x6 x7 (ix2 r l) = laneM (rowN (blkY i x0 x1 x5 x6 x7 r)) l.val 32 :=
  step c i arg2 harg2 arg3 harg3 arg7 harg7 arg8 harg8 arg9 harg9 x0 x1 x5 x6 x7 _ 31 7936 rfl (by decide) _ _ r l (max42 c i arg2 harg2 arg3 harg3 arg7 harg7 arg8 harg8 arg9 harg9 x0 x1 x5 x6 x7 r l)

theorem max46 (r l : Fin 256) : kernelRun0_A.sl.r_46 (F := Ideal) c i arg2 harg2 arg3 harg3 arg7 harg7 arg8 harg8 arg9 harg9 x0 x1 x5 x6 x7 (ix2 r l) = laneM (rowN (blkY i x0 x1 x5 x6 x7 r)) l.val 34 :=
  step c i arg2 harg2 arg3 harg3 arg7 harg7 arg8 harg8 arg9 harg9 x0 x1 x5 x6 x7 _ 33 8448 rfl (by decide) _ _ r l (step c i arg2 harg2 arg3 harg3 arg7 harg7 arg8 harg8 arg9 harg9 x0 x1 x5 x6 x7 (kernelRun0_A.sl.r_43 (F := Ideal) c i arg2 harg2 arg3 harg3 arg7 harg7 arg8 harg8 arg9 harg9 x0 x1 x5 x6 x7) 32 8192 rfl (by decide) (by decide) (by decide) r l (max43 c i arg2 harg2 arg3 harg3 arg7 harg7 arg8 harg8 arg9 harg9 x0 x1 x5 x6 x7 r l))

/-- The scale of a row of the block. -/
theorem scale_eq (r : Fin 256) : kernelRun0_A.sl.r_47 (F := Ideal) c i arg2 harg2 arg3 harg3 arg7 harg7 arg8 harg8 arg9 harg9 x0 x1 x5 x6 x7 (ix2 r 0) = rowS (blkY i x0 x1 x5 x6 x7 r) := by
  unfold kernelRun0_A.sl.r_47
  refine (scale_apply _ _ _ _ _ _ r).trans ?_
  unfold rowS
  refine congrArg quant (Eq.trans ?_ (lanes_max (blkY i x0 x1 x5 x6 x7 r) (rowN (blkY i x0 x1 x5 x6 x7 r)) (rowN_of _)))
  exact congrArg (fun h => Finset.fold max mInit h (Finset.univ : Finset (Fin 256))) (funext fun l => step c i arg2 harg2 arg3 harg3 arg7 harg7 arg8 harg8 arg9 harg9 x0 x1 x5 x6 x7 _ 34 8704 rfl (by decide) _ _ r l (max46 c i arg2 harg2 arg3 harg3 arg7 harg7 arg8 harg8 arg9 harg9 x0 x1 x5 x6 x7 r l))

theorem scale_ne (r : Fin 256) : kernelRun0_A.sl.r_47 (F := Ideal) c i arg2 harg2 arg3 harg3 arg7 harg7 arg8 harg8 arg9 harg9 x0 x1 x5 x6 x7 (ix2 r 0) ≠ 0 := by
  rw [scale_eq]; exact quant_ne_zero _

end Block

end Cert.FfnIdeal.Val
-- ==== Proof.FfnOut.lean ====
/-
  One grid point of the kernel, read at an index: the codes, their row scales as they are stored, and the output. -/
module

public import proofs.«01_k».proof.Proof.FfnBlock
public import Idealize.ShloMosaic.Lib.Pipeline.ReadBack

@[expose] public section
set_option maxRecDepth 16384
noncomputable section
namespace Cert.FfnIdeal.Val
open Idealize.ShloMosaic Cert.FfnIdeal Cert.FfnIdeal.Gen Cert.FfnVal Cert.FfnIdeal.Run
open Idealize.ShloMosaic.Tactic

theorem cast_self (v : FVec Ideal S256x256 .f32) (h : S256x256.ShapeCasts S256x256) (r l : Fin 256) : shapeCast S256x256 v h (ix2 r l) = v (ix2 r l) := by
  pointwise
theorem cast_codes (v : FVec Ideal S1x256x8960 .fp8e4m3) (r : Fin 256) (k : Fin 8960) : shapeCast S256x8960 v shapeCasts_S1x256x8960_S256x8960 (ix2 r k) = v (ix3 0 r k) := by
  pointwise

/-- One chunk of the output, at lanes `o ..`. -/
theorem out_apply (R : Vec Ideal S1x256x256 .f32) (gate : FVec Ideal S1x256 .f32) (C : FVec Ideal S256x8960 .fp8e4m3) (W : Vec Ideal S8960x256 .fp8e4m3)
    (sc : FVec Ideal S256x1 .f32) (s2 b2 : Vec Ideal S1x256 .f32) (r l : Fin 256) :
    shapeCast S1x256x256 (truncf .bf16 (addf (shapeCast S256x256 R shapeCasts_S1x256x256_S256x256) (mulf (broadcastTo S256x256 gate broadcasts_S1x256_S256x256)
      (addf (mulf (mulf (matmul (φ₂ := .fp8e4m3) dot_S256x8960_S8960x256_S256x256_1_0_0_1_n_n none C W (constant S256x256 .f32 0x00000000#32 : FVec Ideal S256x256 .f32)) (broadcastTo S256x256 sc broadcasts_S256x1_S256x256))
        (broadcastTo S256x256 (shapeCast S1x256 s2 shapeCasts_S1x256_S1x256) broadcasts_S1x256_S256x256)) (broadcastTo S256x256 (shapeCast S1x256 b2 shapeCasts_S1x256_S1x256) broadcasts_S1x256_S256x256)))) bitsLt_bf16_f32)
      shapeCasts_S256x256_S1x256x256 (ix3 0 r l)
      = R (ix3 0 r l) + gate (ix2 0 l) * ((∑ k : Fin 8960, C (ix2 r k) * W (ix2 k l)) * sc (ix2 r 0) * s2 (ix2 0 l) + b2 (ix2 0 l)) := by
  pointwise

/-- A slice of the gate's row. -/
theorem slice_apply (g : FVec Ideal S1x1536 .f32) (o : ℕ) (h : S1x1536.Slices ![0, o] S1x256) (l : Fin 256) (ho : o + l.val < 1536) :
    extractStridedSlice S1x256 ![0, o] g h (ix2 0 l) = g (ix2 0 ⟨o + l.val, ho⟩) := by
  refine congrArg g (funext fun a => Fin.ext ?_)
  match a with
  | ⟨0, _⟩ => rfl
  | ⟨1, _⟩ => rfl

/-- A load of what a list of stores left, when the list leaves `G`. -/
theorem read_of {s : Shape} {e : EltTy} (v : View sig .tc .vmem s e) (L : List (View.Piece (Elt Ideal) s e)) (B : LoadRect s) (j : B.shape.Idx) (G : s.Idx → Elt Ideal e)
    (h : ∀ y, View.canon L y = G y) : v.readCov L B j = G (B.idx j) :=
  (congrFun (View.readCov_eq_canon' v L B) j).trans (h _)

section Block
variable (c : Dev nD) (i : grid0.Coords)
  (arg2 : Memref sig .tc .vmem S1x256x1536 .fp8e4m3) (harg2 : arg2.IsWhole) (arg3 : Memref sig .tc .vmem S2x1024 .f32) (harg3 : arg3.IsWhole)
  (arg7 : Memref sig .tc .vmem S1536x8960 .fp8e4m3) (harg7 : arg7.IsWhole) (arg8 : Memref sig .tc .vmem S1x8960 .f32) (harg8 : arg8.IsWhole)
  (arg9 : Memref sig .tc .vmem S1x8960 .f32) (harg9 : arg9.IsWhole)
  (x0 : Vec Ideal S1x256x1536 .fp8e4m3) (x1 : Vec Ideal S2x1024 .f32) (x5 : Vec Ideal S1536x8960 .fp8e4m3) (x6 x7 : Vec Ideal S1x8960 .f32)

/-- The activations of the block, as an array; -/
def arrY (i : grid0.Coords) (x0 : S1x256x1536.Idx → EReal) (x1 : S2x1024.Idx → EReal) (x5 : S1536x8960.Idx → EReal) (x6 x7 : S1x8960.Idx → EReal) : S256x8960.Idx → EReal :=
  fun y => blkY i x0 x1 x5 x6 x7 (y 0) (y 1)
/-- its codes. -/
def arrC (i : grid0.Coords) (x0 : S1x256x1536.Idx → EReal) (x1 : S2x1024.Idx → EReal) (x5 : S1536x8960.Idx → EReal) (x6 x7 : S1x8960.Idx → EReal) : S1x256x8960.Idx → EReal :=
  fun y => rowC (blkY i x0 x1 x5 x6 x7 (y 1)) (y 2)

/-- A chunk as it is kept. -/
theorem piece (o : ℕ) (h7 : ∀ a, ![0, o] a + S1536x256.size a ≤ S1536x8960.size a) (h8 : ∀ a, ![0, o] a + S1x256.size a ≤ S1x8960.size a)
    (h : ∀ a, ![0, o] a + S256x256.size a ≤ S256x8960.size a) (x : S256x256.Idx) :
    k0_pay9 (F := Ideal) (kernelRun0_A.sl.r (F := Ideal) c i arg3 harg3 x1) (kernelRun0_A.sl.r_1 (F := Ideal) c arg2 harg2 x0)
      (View.readAt (Elt Ideal) arg7.view (Rect.unit (s := S1536x8960) ![0, o] S1536x256.size h7).toLoadRect (harg7.unread x5))
      (View.readAt (Elt Ideal) arg8.view (Rect.unit (s := S1x8960) ![0, o] S1x256.size h8).toLoadRect (harg8.unread x6))
      (View.readAt (Elt Ideal) arg9.view (Rect.unit (s := S1x8960) ![0, o] S1x256.size h8).toLoadRect (harg9.unread x7)) x
      = arrY i x0 x1 x5 x6 x7 ((Rect.unit (s := S256x8960) ![0, o] S256x256.size h).emb x) := by
  obtain ⟨r, l, rfl⟩ : ∃ r l, x = ix2 r l := ⟨x 0, x 1, eq_ix2 x⟩
  have ho : o + l.val < 8960 := by
    have h1 : o + 256 ≤ 8960 := h 1
    have := l.isLt
    omega
  refine (cast_self _ _ r l).trans ((chunk c i arg2 harg2 arg3 harg3 arg7 harg7 arg8 harg8 x0 x1 x5 x6 x7 arg9 harg9 o h7 h8 r l ho).trans ?_)
  unfold arrY
  refine congrArg₂ (fun a b => blkY i x0 x1 x5 x6 x7 a b) (Fin.ext ?_) (Fin.ext ?_)
  · show r.val = 0 + 1 * r.val; omega
  · show o + l.val = o + 1 * l.val; omega

theorem hs_pieces : View.PiecesOf (arrY i x0 x1 x5 x6 x7) (kernelRun0_A.sl.HS0_35 (F := Ideal) c i arg2 harg2 arg3 harg3 arg7 harg7 arg8 harg8 arg9 harg9 x0 x1 x5 x6 x7) :=
  ⟨piece c i arg2 harg2 arg3 harg3 arg7 harg7 arg8 harg8 arg9 harg9 x0 x1 x5 x6 x7 8704 (by decide) (by decide) (by decide),
   piece c i arg2 harg2 arg3 harg3 arg7 harg7 arg8 harg8 arg9 harg9 x0 x1 x5 x6 x7 8448 (by decide) (by decide) (by decide),
   piece c i arg2 harg2 arg3 harg3 arg7 harg7 arg8 harg8 arg9 harg9 x0 x1 x5 x6 x7 8192 (by decide) (by decide) (by decide),
   piece c i arg2 harg2 arg3 harg3 arg7 harg7 arg8 harg8 arg9 harg9 x0 x1 x5 x6 x7 7936 (by decide) (by decide) (by decide),
   piece c i arg2 harg2 arg3 harg3 arg7 harg7 arg8 harg8 arg9 harg9 x0 x1 x5 x6 x7 7680 (by decide) (by decide) (by decide),
   piece c i arg2 harg2 arg3 harg3 arg7 harg7 arg8 harg8 arg9 harg9 x0 x1 x5 x6 x7 7424 (by decide) (by decide) (by decide),
   piece c i arg2 harg2 arg3 harg3 arg7 harg7 arg8 harg8 arg9 harg9 x0 x1 x5 x6 x7 7168 (by decide) (by decide) (by decide),
   piece c i arg2 harg2 arg3 harg3 arg7 harg7 arg8 harg8 arg9 harg9 x0 x1 x5 x6 x7 6912 (by decide) (by decide) (by decide),
   piece c i arg2 harg2 arg3 harg3 arg7 harg7 arg8 harg8 arg9 harg9 x0 x1 x5 x6 x7 6656 (by decide) (by decide) (by decide),
   piece c i arg2 harg2 arg3 harg3 arg7 harg7 arg8 harg8 arg9 harg9 x0 x1 x5 x6 x7 6400 (by decide) (by decide) (by decide),
   piece c i arg2 harg2 arg3 harg3 arg7 harg7 arg8 harg8 arg9 harg9 x0 x1 x5 x6 x7 6144 (by decide) (by decide) (by decide),
   piece c i arg2 harg2 arg3 harg3 arg7 harg7 arg8 harg8 arg9 harg9 x0 x1 x5 x6 x7 5888 (by decide) (by decide) (by decide),
   piece c i arg2 harg2 arg3 harg3 arg7 harg7 arg8 harg8 arg9 harg9 x0 x1 x5 x6 x7 5632 (by decide) (by decide) (by decide),
   piece c i arg2 harg2 arg3 harg3 arg7 harg7 arg8 harg8 arg9 harg9 x0 x1 x5 x6 x7 5376 (by decide) (by decide) (by decide),
   piece c i arg2 harg2 arg3 harg3 arg7 harg7 arg8 harg8 arg9 harg9 x0 x1 x5 x6 x7 5120 (by decide) (by decide) (by decide),
   piece c i arg2 harg2 arg3 harg3 arg7 harg7 arg8 harg8 arg9 harg9 x0 x1 x5 x6 x7 4864 (by decide) (by decide) (by decide),
   piece c i arg2 harg2 arg3 harg3 arg7 harg7 arg8 harg8 arg9 harg9 x0 x1 x5 x6 x7 4608 (by decide) (by decide) (by decide),
   piece c i arg2 harg2 arg3 harg3 arg7 harg7 arg8 harg8 arg9 harg9 x0 x1 x5 x6 x7 4352 (by decide) (by decide) (by decide),
   piece c i arg2 harg2 arg3 harg3 arg7 harg7 arg8 harg8 arg9 harg9 x0 x1 x5 x6 x7 4096 (by decide) (by decide) (by decide),
   piece c i arg2 harg2 arg3 harg3 arg7 harg7 arg8 harg8 arg9 harg9 x0 x1 x5 x6 x7 3840 (by decide) (by decide) (by decide),
   piece c i arg2 harg2 arg3 harg3 arg7 harg7 arg8 harg8 arg9 harg9 x0 x1 x5 x6 x7 3584 (by decide) (by decide) (by decide),
   piece c i arg2 harg2 arg3 harg3 arg7 harg7 arg8 harg8 arg9 harg9 x0 x1 x5 x6 x7 3328 (by decide) (by decide) (by decide),
   piece c i arg2 harg2 arg3 harg3 arg7 harg7 arg8 harg8 arg9 harg9 x0 x1 x5 x6 x7 3072 (by decide) (by decide) (by decide),
   piece c i arg2 harg2 arg3 harg3 arg7 harg7 arg8 harg8 arg9 harg9 x0 x1 x5 x6 x7 2816 (by decide) (by decide) (by decide),
   piece c i arg2 harg2 arg3 harg3 arg7 harg7 arg8 harg8 arg9 harg9 x0 x1 x5 x6 x7 2560 (by decide) (by decide) (by decide),
   piece c i arg2 harg2 arg3 harg3 arg7 harg7 arg8 harg8 arg9 harg9 x0 x1 x5 x6 x7 2304 (by decide) (by decide) (by decide),
   piece c i arg2 harg2 arg3 harg3 arg7 harg7 arg8 harg8 arg9 harg9 x0 x1 x5 x6 x7 2048 (by decide) (by decide) (by decide),
   piece c i arg2 harg2 arg3 harg3 arg7 harg7 arg8 harg8 arg9 harg9 x0 x1 x5 x6 x7 1792 (by decide) (by decide) (by decide),
   piece c i arg2 harg2 arg3 harg3 arg7 harg7 arg8 harg8 arg9 harg9 x0 x1 x5 x6 x7 1536 (by decide) (by decide) (by decide),
   piece c i arg2 harg2 arg3 harg3 arg7 harg7 arg8 harg8 arg9 harg9 x0 x1 x5 x6 x7 1280 (by decide) (by decide) (by decide),
   piece c i arg2 harg2 arg3 harg3 arg7 harg7 arg8 harg8 arg9 harg9 x0 x1 x5 x6 x7 1024 (by decide) (by decide) (by decide),
   piece c i arg2 harg2 arg3 harg3 arg7 harg7 arg8 harg8 arg9 harg9 x0 x1 x5 x6 x7 768 (by decide) (by decide) (by decide),
   piece c i arg2 harg2 arg3 harg3 arg7 harg7 arg8 harg8 arg9 harg9 x0 x1 x5 x6 x7 512 (by decide) (by decide) (by decide),
   piece c i arg2 harg2 arg3 harg3 arg7 harg7 arg8 harg8 arg9 harg9 x0 x1 x5 x6 x7 256 (by decide) (by decide) (by decide),
   piece c i arg2 harg2 arg3 harg3 arg7 harg7 arg8 harg8 arg9 harg9 x0 x1 x5 x6 x7 0 (by decide) (by decide) (by decide), trivial⟩

/-- What the scratch holds once the last chunk is in. -/
theorem hs_eq (y : S256x8960.Idx) : View.canon (kernelRun0_A.sl.HS0_35 (F := Ideal) c i arg2 harg2 arg3 harg3 arg7 harg7 arg8 harg8 arg9 harg9 x0 x1 x5 x6 x7) y = arrY i x0 x1 x5 x6 x7 y :=
  View.canon_apply_of_pieces _ _ (hs_pieces c i arg2 harg2 arg3 harg3 arg7 harg7 arg8 harg8 arg9 harg9 x0 x1 x5 x6 x7).mem y (View.cover_of_tiledL (kernelRun0_A.sl.HS0_35 (F := Ideal) c i arg2 harg2 arg3 harg3 arg7 harg7 arg8 harg8 arg9 harg9 x0 x1 x5 x6 x7) S256x256.size (by sl_kernel_rfl) y)

/-- A chunk read back. -/
theorem hs_read (arg16 : Memref sig .tc .vmem S256x8960 .f32) (o : ℕ) (h : ∀ a, ![0, o] a + S256x256.size a ≤ S256x8960.size a) (r l : Fin 256) (ho : o + l.val < 8960) :
    arg16.view.readCov (kernelRun0_A.sl.HS0_35 (F := Ideal) c i arg2 harg2 arg3 harg3 arg7 harg7 arg8 harg8 arg9 harg9 x0 x1 x5 x6 x7) (Rect.unit (s := S256x8960) ![0, o] S256x256.size h).toLoadRect (ix2 r l)
      = blkY i x0 x1 x5 x6 x7 r ⟨o + l.val, ho⟩ := by
  refine (read_of arg16.view _ _ _ (arrY i x0 x1 x5 x6 x7) (hs_eq c i arg2 harg2 arg3 harg3 arg7 harg7 arg8 harg8 arg9 harg9 x0 x1 x5 x6 x7)).trans ?_
  unfold arrY
  refine congrArg₂ (fun a b => blkY i x0 x1 x5 x6 x7 a b) (Fin.ext ?_) (Fin.ext ?_)
  · show 0 + 1 * r.val = r.val; omega
  · show o + 1 * l.val = o + l.val; omega

/-- A chunk of the codes, as it is stored. -/
theorem code_piece (arg16 : Memref sig .tc .vmem S256x8960 .f32) (o : ℕ) (h : ∀ a, ![0, o] a + S256x256.size a ≤ S256x8960.size a)
    (h' : ∀ a, ![0, 0, o] a + S1x256x256.size a ≤ S1x256x8960.size a) (x : S1x256x256.Idx) :
    shapeCast S1x256x256 (truncf .fp8e4m3 (minimumf (broadcast S256x256 (Scalar.ofBits .f32 0x43E00000#32 : Ideal .f32)) (maximumf (broadcast S256x256 (Scalar.ofBits .f32 0xC3E00000#32 : Ideal .f32))
      (mulf (arg16.view.readCov (kernelRun0_A.sl.HS0_35 (F := Ideal) c i arg2 harg2 arg3 harg3 arg7 harg7 arg8 harg8 arg9 harg9 x0 x1 x5 x6 x7) (Rect.unit (s := S256x8960) ![0, o] S256x256.size h).toLoadRect : FVec Ideal S256x256 .f32)
        (broadcastTo S256x256 (divf (broadcast S256x1 (Scalar.ofBits .f32 0x3F800000#32 : Ideal .f32)) (kernelRun0_A.sl.r_47 (F := Ideal) c i arg2 harg2 arg3 harg3 arg7 harg7 arg8 harg8 arg9 harg9 x0 x1 x5 x6 x7)) broadcasts_S256x1_S256x256)))) bitsLt_fp8e4m3_f32) shapeCasts_S256x256_S1x256x256 x
      = arrC i x0 x1 x5 x6 x7 ((Rect.unit (s := S1x256x8960) ![0, 0, o] S1x256x256.size h').emb x) := by
  obtain ⟨r, l, rfl⟩ : ∃ r l, x = ix3 0 r l := ⟨x 1, x 2, by
    funext a
    match a with
    | ⟨0, _⟩ => exact Fin.fin_one_eq_zero (x 0)
    | ⟨1, _⟩ => rfl
    | ⟨2, _⟩ => rfl⟩
  have ho : o + l.val < 8960 := by
    have h1 : o + 256 ≤ 8960 := h 1
    have := l.isLt
    omega
  refine (code_apply _ _ (fun r => scale_ne c i arg2 harg2 arg3 harg3 arg7 harg7 arg8 harg8 arg9 harg9 x0 x1 x5 x6 x7 r) r l).trans ?_
  rw [scale_eq, hs_read c i arg2 harg2 arg3 harg3 arg7 harg7 arg8 harg8 arg9 harg9 x0 x1 x5 x6 x7 arg16 o h r l ho]
  refine Eq.trans (b := rowC (blkY i x0 x1 x5 x6 x7 r) ⟨o + l.val, ho⟩) rfl ?_
  unfold arrC
  refine congrArg₂ (fun a b => rowC (blkY i x0 x1 x5 x6 x7 a) b) (Fin.ext ?_) (Fin.ext ?_)
  · show r.val = 0 + 1 * r.val; omega
  · show o + l.val = o + 1 * l.val; omega

theorem h11_pieces (arg16 : Memref sig .tc .vmem S256x8960 .f32) : View.PiecesOf (arrC i x0 x1 x5 x6 x7) (kernelRun0_A.sl.H11_35 (F := Ideal) c i arg2 harg2 arg3 harg3 arg7 harg7 arg8 harg8 arg9 harg9 arg16 x0 x1 x5 x6 x7) :=
  ⟨code_piece c i arg2 harg2 arg3 harg3 arg7 harg7 arg8 harg8 arg9 harg9 x0 x1 x5 x6 x7 arg16 8704 (by decide) (by decide),
   code_piece c i arg2 harg2 arg3 harg3 arg7 harg7 arg8 harg8 arg9 harg9 x0 x1 x5 x6 x7 arg16 8448 (by decide) (by decide),
   code_piece c i arg2 harg2 arg3 harg3 arg7 harg7 arg8 harg8 arg9 harg9 x0 x1 x5 x6 x7 arg16 8192 (by decide) (by decide),
   code_piece c i arg2 harg2 arg3 harg3 arg7 harg7 arg8 harg8 arg9 harg9 x0 x1 x5 x6 x7 arg16 7936 (by decide) (by decide),
   code_piece c i arg2 harg2 arg3 harg3 arg7 harg7 arg8 harg8 arg9 harg9 x0 x1 x5 x6 x7 arg16 7680 (by decide) (by decide),
   code_piece c i arg2 harg2 arg3 harg3 arg7 harg7 arg8 harg8 arg9 harg9 x0 x1 x5 x6 x7 arg16 7424 (by decide) (by decide),
   code_piece c i arg2 harg2 arg3 harg3 arg7 harg7 arg8 harg8 arg9 harg9 x0 x1 x5 x6 x7 arg16 7168 (by decide) (by decide),
   code_piece c i arg2 harg2 arg3 harg3 arg7 harg7 arg8 harg8 arg9 harg9 x0 x1 x5 x6 x7 arg16 6912 (by decide) (by decide),
   code_piece c i arg2 harg2 arg3 harg3 arg7 harg7 arg8 harg8 arg9 harg9 x0 x1 x5 x6 x7 arg16 6656 (by decide) (by decide),
   code_piece c i arg2 harg2 arg3 harg3 arg7 harg7 arg8 harg8 arg9 harg9 x0 x1 x5 x6 x7 arg16 6400 (by decide) (by decide),
   code_piece c i arg2 harg2 arg3 harg3 arg7 harg7 arg8 harg8 arg9 harg9 x0 x1 x5 x6 x7 arg16 6144 (by decide) (by decide),
   code_piece c i arg2 harg2 arg3 harg3 arg7 harg7 arg8 harg8 arg9 harg9 x0 x1 x5 x6 x7 arg16 5888 (by decide) (by decide),
   code_piece c i arg2 harg2 arg3 harg3 arg7 harg7 arg8 harg8 arg9 harg9 x0 x1 x5 x6 x7 arg16 5632 (by decide) (by decide),
   code_piece c i arg2 harg2 arg3 harg3 arg7 harg7 arg8 harg8 arg9 harg9 x0 x1 x5 x6 x7 arg16 5376 (by decide) (by decide),
   code_piece c i arg2 harg2 arg3 harg3 arg7 harg7 arg8 harg8 arg9 harg9 x0 x1 x5 x6 x7 arg16 5120 (by decide) (by decide),
   code_piece c i arg2 harg2 arg3 harg3 arg7 harg7 arg8 harg8 arg9 harg9 x0 x1 x5 x6 x7 arg16 4864 (by decide) (by decide),
   code_piece c i arg2 harg2 arg3 harg3 arg7 harg7 arg8 harg8 arg9 harg9 x0 x1 x5 x6 x7 arg16 4608 (by decide) (by decide),
   code_piece c i arg2 harg2 arg3 harg3 arg7 harg7 arg8 harg8 arg9 harg9 x0 x1 x5 x6 x7 arg16 4352 (by decide) (by decide),
   code_piece c i arg2 harg2 arg3 harg3 arg7 harg7 arg8 harg8 arg9 harg9 x0 x1 x5 x6 x7 arg16 4096 (by decide) (by decide),
   code_piece c i arg2 harg2 arg3 harg3 arg7 harg7 arg8 harg8 arg9 harg9 x0 x1 x5 x6 x7 arg16 3840 (by decide) (by decide),
   code_piece c i arg2 harg2 arg3 harg3 arg7 harg7 arg8 harg8 arg9 harg9 x0 x1 x5 x6 x7 arg16 3584 (by decide) (by decide),
   code_piece c i arg2 harg2 arg3 harg3 arg7 harg7 arg8 harg8 arg9 harg9 x0 x1 x5 x6 x7 arg16 3328 (by decide) (by decide),
   code_piece c i arg2 harg2 arg3 harg3 arg7 harg7 arg8 harg8 arg9 harg9 x0 x1 x5 x6 x7 arg16 3072 (by decide) (by decide),
   code_piece c i arg2 harg2 arg3 harg3 arg7 harg7 arg8 harg8 arg9 harg9 x0 x1 x5 x6 x7 arg16 2816 (by decide) (by decide),
   code_piece c i arg2 harg2 arg3 harg3 arg7 harg7 arg8 harg8 arg9 harg9 x0 x1 x5 x6 x7 arg16 2560 (by decide) (by decide),
   code_piece c i arg2 harg2 arg3 harg3 arg7 harg7 arg8 harg8 arg9 harg9 x0 x1 x5 x6 x7 arg16 2304 (by decide) (by decide),
   code_piece c i arg2 harg2 arg3 harg3 arg7 harg7 arg8 harg8 arg9 harg9 x0 x1 x5 x6 x7 arg16 2048 (by decide) (by decide),
   code_piece c i arg2 harg2 arg3 harg3 arg7 harg7 arg8 harg8 arg9 harg9 x0 x1 x5 x6 x7 arg16 1792 (by decide) (by decide),
   code_piece c i arg2 harg2 arg3 harg3 arg7 harg7 arg8 harg8 arg9 harg9 x0 x1 x5 x6 x7 arg16 1536 (by decide) (by decide),
   code_piece c i arg2 harg2 arg3 harg3 arg7 harg7 arg8 harg8 arg9 harg9 x0 x1 x5 x6 x7 arg16 1280 (by decide) (by decide),
   code_piece c i arg2 harg2 arg3 harg3 arg7 harg7 arg8 harg8 arg9 harg9 x0 x1 x5 x6 x7 arg16 1024 (by decide) (by decide),
   code_piece c i arg2 harg2 arg3 harg3 arg7 harg7 arg8 harg8 arg9 harg9 x0 x1 x5 x6 x7 arg16 768 (by decide) (by decide),
   code_piece c i arg2 harg2 arg3 harg3 arg7 harg7 arg8 harg8 arg9 harg9 x0 x1 x5 x6 x7 arg16 512 (by decide) (by decide),
   code_piece c i arg2 harg2 arg3 harg3 arg7 harg7 arg8 harg8 arg9 harg9 x0 x1 x5 x6 x7 arg16 256 (by decide) (by decide),
   code_piece c i arg2 harg2 arg3 harg3 arg7 harg7 arg8 harg8 arg9 harg9 x0 x1 x5 x6 x7 arg16 0 (by decide) (by decide), trivial⟩

/-- The codes' block, once the last chunk is in. -/
theorem h11_eq (arg16 : Memref sig .tc .vmem S256x8960 .f32) (y : S1x256x8960.Idx) : View.canon (kernelRun0_A.sl.H11_35 (F := Ideal) c i arg2 harg2 arg3 harg3 arg7 harg7 arg8 harg8 arg9 harg9 arg16 x0 x1 x5 x6 x7) y = arrC i x0 x1 x5 x6 x7 y :=
  View.canon_apply_of_pieces _ _ (h11_pieces c i arg2 harg2 arg3 harg3 arg7 harg7 arg8 harg8 arg9 harg9 x0 x1 x5 x6 x7 arg16).mem y (View.cover_of_tiledL (kernelRun0_A.sl.H11_35 (F := Ideal) c i arg2 harg2 arg3 harg3 arg7 harg7 arg8 harg8 arg9 harg9 arg16 x0 x1 x5 x6 x7) S1x256x256.size (by sl_kernel_rfl) y)

/-- The codes read back for the second product. -/
theorem codes_read (arg13 : Memref sig .tc .vmem S1x256x8960 .fp8e4m3) (arg16 : Memref sig .tc .vmem S256x8960 .f32) (r : Fin 256) (k : Fin 8960) :
    kernelRun0_A.sl.v1365 (F := Ideal) c i arg2 harg2 arg3 harg3 arg7 harg7 arg8 harg8 arg9 harg9 arg13 arg16 x0 x1 x5 x6 x7 (ix2 r k) = rowC (blkY i x0 x1 x5 x6 x7 r) k := by
  unfold kernelRun0_A.sl.v1365
  refine (cast_codes _ r k).trans ?_
  unfold kernelRun0_A.sl.v1364
  refine (read_of arg13.view _ _ _ (arrC i x0 x1 x5 x6 x7) (h11_eq c i arg2 harg2 arg3 harg3 arg7 harg7 arg8 harg8 arg9 harg9 x0 x1 x5 x6 x7 arg16)).trans ?_
  unfold arrC
  refine congrArg₂ (fun a b => rowC (blkY i x0 x1 x5 x6 x7 a) b) (Fin.ext ?_) (Fin.ext ?_)
  · show 0 + 1 * r.val = r.val; omega
  · show 0 + 1 * k.val = k.val; omega

end Block
section Whole
variable (c : Dev nD) (i : grid0.Coords)
  (arg2 : Memref sig .tc .vmem S1x256x1536 .fp8e4m3) (harg2 : arg2.IsWhole) (arg3 : Memref sig .tc .vmem S2x1024 .f32) (harg3 : arg3.IsWhole)
  (arg4 : Memref sig .tc .vmem S1x256x1536 .f32) (harg4 : arg4.IsWhole) (arg5 : Memref sig .tc .vmem S6x2x1536 .f32) (harg5 : arg5.IsWhole)
  (arg6 : Memref sig .tc .vmem S6x1536 .f32) (harg6 : arg6.IsWhole)
  (arg7 : Memref sig .tc .vmem S1536x8960 .fp8e4m3) (harg7 : arg7.IsWhole) (arg8 : Memref sig .tc .vmem S1x8960 .f32) (harg8 : arg8.IsWhole)
  (arg9 : Memref sig .tc .vmem S1x8960 .f32) (harg9 : arg9.IsWhole) (arg10 : Memref sig .tc .vmem S8960x1536 .fp8e4m3) (harg10 : arg10.IsWhole)
  (arg11 : Memref sig .tc .vmem S1x1536 .f32) (harg11 : arg11.IsWhole) (arg12 : Memref sig .tc .vmem S1x1536 .f32) (harg12 : arg12.IsWhole)
  (arg13 : Memref sig .tc .vmem S1x256x8960 .fp8e4m3) (harg13 : arg13.IsWhole) (arg14 : Memref sig .tc .vmem S2x1024 .f32) (harg14 : arg14.IsWhole)
  (arg15 : Memref sig .tc .vmem S1x256x1536 .bf16) (harg15 : arg15.IsWhole) (arg16 : Memref sig .tc .vmem S256x8960 .f32) (harg16 : arg16.IsWhole)
  (x0 : Vec Ideal S1x256x1536 .fp8e4m3) (x1 : Vec Ideal S2x1024 .f32) (x2 : Vec Ideal S1x256x1536 .f32) (x3 : Vec Ideal S6x2x1536 .f32) (x4 : Vec Ideal S6x1536 .f32)
  (x5 : Vec Ideal S1536x8960 .fp8e4m3) (x6 x7 : Vec Ideal S1x8960 .f32) (x8 : Vec Ideal S8960x1536 .fp8e4m3) (x9 x10 : Vec Ideal S1x1536 .f32)

/-- The output of the block, as an array. -/
def arrO (i : grid0.Coords) (x0 : S1x256x1536.Idx → EReal) (x1 : S2x1024.Idx → EReal) (x2 : S1x256x1536.Idx → EReal) (x3 : S6x2x1536.Idx → EReal) (x4 : S6x1536.Idx → EReal)
    (x5 : S1536x8960.Idx → EReal) (x6 x7 : S1x8960.Idx → EReal) (x8 : S8960x1536.Idx → EReal) (x9 x10 : S1x1536.Idx → EReal) : S1x256x1536.Idx → EReal :=
  fun y => rowO (blkY i x0 x1 x5 x6 x7 (y 1)) (fun f => x8 (ix2 f (y 2))) (x9 (ix2 0 (y 2))) (x10 (ix2 0 (y 2))) (x2 (ix3 0 (y 1) (y 2))) (x4 (ix2 5 (y 2)) + x3 (ix3 5 (gB i) (y 2)))

/-- The gate's row. -/
theorem gate_read (d : Fin 1536) : kernelRun0_A.sl.v1363 (F := Ideal) c i arg5 harg5 arg6 harg6 x3 x4 (ix2 0 d) = x4 (ix2 5 d) + x3 (ix3 5 (gB i) d) := by
  unfold kernelRun0_A.sl.v1363
  refine (gate_apply _ _ d).trans ?_
  refine congrArg₂ (fun a b : EReal => a + b) ?_ ?_
  · refine (congrFun (harg6.read_unread x4) _).trans (congrArg x4 ?_)
    funext a
    refine Fin.ext ((Rect.idx_unit_val _ _ _ _ a).trans ?_)
    match a with
    | ⟨0, _⟩ => rfl
    | ⟨1, _⟩ => exact Nat.zero_add _
  · refine (congrFun (harg5.read_unread x3) _).trans (congrArg x3 ?_)
    funext a
    refine Fin.ext ((Rect.idx_unit_val _ _ _ _ a).trans ?_)
    refine (congrArg (· + _) (congrFun (k0_off2_eq i) a)).trans ?_
    match a with
    | ⟨0, _⟩ => rfl
    | ⟨1, _⟩ => rfl
    | ⟨2, _⟩ => exact Nat.zero_add _

theorem rd10 (o : ℕ) (h : ∀ a, ![0, o] a + S8960x256.size a ≤ S8960x1536.size a) (k : Fin 8960) (l : Fin 256) (ho : o + l.val < 1536) :
    View.readAt (Elt Ideal) arg10.view (Rect.unit (s := S8960x1536) ![0, o] S8960x256.size h).toLoadRect (harg10.unread x8) (ix2 k l) = x8 (ix2 k ⟨o + l.val, ho⟩) := by
  refine (congrFun (harg10.read_unread x8) _).trans (congrArg x8 ?_)
  funext a
  refine Fin.ext ((Rect.idx_unit_val _ _ h _ a).trans ?_)
  match a with
  | ⟨0, _⟩ => exact Nat.zero_add _
  | ⟨1, _⟩ => rfl

theorem rd11 (o : ℕ) (h : ∀ a, ![0, o] a + S1x256.size a ≤ S1x1536.size a) (l : Fin 256) (ho : o + l.val < 1536) :
    View.readAt (Elt Ideal) arg11.view (Rect.unit (s := S1x1536) ![0, o] S1x256.size h).toLoadRect (harg11.unread x9) (ix2 0 l) = x9 (ix2 0 ⟨o + l.val, ho⟩) := by
  refine (congrFun (harg11.read_unread x9) _).trans (congrArg x9 ?_)
  funext a
  refine Fin.ext ((Rect.idx_unit_val _ _ h _ a).trans ?_)
  match a with
  | ⟨0, _⟩ => exact Nat.zero_add _
  | ⟨1, _⟩ => rfl

theorem rd4 (o : ℕ) (h : ∀ a, ![0, 0, o] a + S1x256x256.size a ≤ S1x256x1536.size a) (r l : Fin 256) (ho : o + l.val < 1536) :
    View.readAt (Elt Ideal) arg4.view (Rect.unit (s := S1x256x1536) ![0, 0, o] S1x256x256.size h).toLoadRect (harg4.unread x2) (ix3 0 r l) = x2 (ix3 0 r ⟨o + l.val, ho⟩) := by
  refine (congrFun (harg4.read_unread x2) _).trans (congrArg x2 ?_)
  funext a
  refine Fin.ext ((Rect.idx_unit_val _ _ h _ a).trans ?_)
  match a with
  | ⟨0, _⟩ => exact Nat.zero_add _
  | ⟨1, _⟩ => exact Nat.zero_add _
  | ⟨2, _⟩ => rfl

/-- A chunk of the output, as it is stored. -/
theorem out_piece (o : ℕ) (hs : S1x1536.Slices ![0, o] S1x256) (h10 : ∀ a, ![0, o] a + S8960x256.size a ≤ S8960x1536.size a) (h11 : ∀ a, ![0, o] a + S1x256.size a ≤ S1x1536.size a)
    (h4 : ∀ a, ![0, 0, o] a + S1x256x256.size a ≤ S1x256x1536.size a) (x : S1x256x256.Idx) :
    shapeCast S1x256x256 (truncf .bf16 (addf (shapeCast S256x256 (View.readAt (Elt Ideal) arg4.view (Rect.unit (s := S1x256x1536) ![0, 0, o] S1x256x256.size h4).toLoadRect (harg4.unread x2) : Vec Ideal S1x256x256 .f32) shapeCasts_S1x256x256_S256x256)
      (mulf (broadcastTo S256x256 (extractStridedSlice S1x256 ![0, o] (kernelRun0_A.sl.v1363 (F := Ideal) c i arg5 harg5 arg6 harg6 x3 x4) hs : FVec Ideal S1x256 .f32) broadcasts_S1x256_S256x256)
      (addf (mulf (mulf (matmul (φ₂ := .fp8e4m3) dot_S256x8960_S8960x256_S256x256_1_0_0_1_n_n none (kernelRun0_A.sl.v1365 (F := Ideal) c i arg2 harg2 arg3 harg3 arg7 harg7 arg8 harg8 arg9 harg9 arg13 arg16 x0 x1 x5 x6 x7)
        (View.readAt (Elt Ideal) arg10.view (Rect.unit (s := S8960x1536) ![0, o] S8960x256.size h10).toLoadRect (harg10.unread x8)) (constant S256x256 .f32 0x00000000#32 : FVec Ideal S256x256 .f32))
          (broadcastTo S256x256 (kernelRun0_A.sl.r_47 (F := Ideal) c i arg2 harg2 arg3 harg3 arg7 harg7 arg8 harg8 arg9 harg9 x0 x1 x5 x6 x7) broadcasts_S256x1_S256x256))
        (broadcastTo S256x256 (shapeCast S1x256 (View.readAt (Elt Ideal) arg11.view (Rect.unit (s := S1x1536) ![0, o] S1x256.size h11).toLoadRect (harg11.unread x9) : Vec Ideal S1x256 .f32) shapeCasts_S1x256_S1x256) broadcasts_S1x256_S256x256))
        (broadcastTo S256x256 (shapeCast S1x256 (View.readAt (Elt Ideal) arg12.view (Rect.unit (s := S1x1536) ![0, o] S1x256.size h11).toLoadRect (harg12.unread x10) : Vec Ideal S1x256 .f32) shapeCasts_S1x256_S1x256) broadcasts_S1x256_S256x256)))) bitsLt_bf16_f32)
      shapeCasts_S256x256_S1x256x256 x
      = arrO i x0 x1 x2 x3 x4 x5 x6 x7 x8 x9 x10 ((Rect.unit (s := S1x256x1536) ![0, 0, o] S1x256x256.size h4).emb x) := by
  obtain ⟨r, l, rfl⟩ : ∃ r l, x = ix3 0 r l := ⟨x 1, x 2, by
    funext a
    match a with
    | ⟨0, _⟩ => exact Fin.fin_one_eq_zero (x 0)
    | ⟨1, _⟩ => rfl
    | ⟨2, _⟩ => rfl⟩
  have ho : o + l.val < 1536 := by
    have h1 : o + 256 ≤ 1536 := h11 1
    have := l.isLt
    omega
  refine (out_apply _ _ _ _ _ _ _ r l).trans ?_
  rw [rd4 arg4 harg4 x2 o h4 r l ho, slice_apply _ o hs l ho, gate_read, scale_eq, rd11 arg11 harg11 x9 o h11 l ho, rd11 arg12 harg12 x10 o h11 l ho]
  have e : (Rect.unit (s := S1x256x1536) ![0, 0, o] S1x256x256.size h4).emb (ix3 0 r l) = ix3 0 r ⟨o + l.val, ho⟩ := by
    funext a
    refine Fin.ext ((Rect.idx_unit_val _ _ h4 _ a).trans ?_)
    match a with
    | ⟨0, _⟩ => exact Nat.zero_add _
    | ⟨1, _⟩ => exact Nat.zero_add _
    | ⟨2, _⟩ => rfl
  rw [e]
  unfold arrO rowO
  refine congrArg (fun q : EReal => x2 (ix3 0 r ⟨o + l.val, ho⟩) + (x4 (ix2 5 ⟨o + l.val, ho⟩) + x3 (ix3 5 (gB i) ⟨o + l.val, ho⟩)) *
    (q * rowS (blkY i x0 x1 x5 x6 x7 r) * x9 (ix2 0 ⟨o + l.val, ho⟩) + x10 (ix2 0 ⟨o + l.val, ho⟩))) ?_
  refine Finset.sum_congr rfl fun k _ => ?_
  rw [codes_read, rd10 arg10 harg10 x8 o h10 k l ho]
  rfl

theorem out_pieces : View.PiecesOf (arrO i x0 x1 x2 x3 x4 x5 x6 x7 x8 x9 x10) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.2.1 :=
  ⟨out_piece c i arg2 harg2 arg3 harg3 arg4 harg4 arg5 harg5 arg6 harg6 arg7 harg7 arg8 harg8 arg9 harg9 arg10 harg10 arg11 harg11 arg12 harg12 arg13 arg16 x0 x1 x2 x3 x4 x5 x6 x7 x8 x9 x10 1280 slices_S1x1536_o0_1280_S1x256 (by decide) (by decide) (by decide),
   out_piece c i arg2 harg2 arg3 harg3 arg4 harg4 arg5 harg5 arg6 harg6 arg7 harg7 arg8 harg8 arg9 harg9 arg10 harg10 arg11 harg11 arg12 harg12 arg13 arg16 x0 x1 x2 x3 x4 x5 x6 x7 x8 x9 x10 1024 slices_S1x1536_o0_1024_S1x256 (by decide) (by decide) (by decide),
   out_piece c i arg2 harg2 arg3 harg3 arg4 harg4 arg5 harg5 arg6 harg6 arg7 harg7 arg8 harg8 arg9 harg9 arg10 harg10 arg11 harg11 arg12 harg12 arg13 arg16 x0 x1 x2 x3 x4 x5 x6 x7 x8 x9 x10 768 slices_S1x1536_o0_768_S1x256 (by decide) (by decide) (by decide),
   out_piece c i arg2 harg2 arg3 harg3 arg4 harg4 arg5 harg5 arg6 harg6 arg7 harg7 arg8 harg8 arg9 harg9 arg10 harg10 arg11 harg11 arg12 harg12 arg13 arg16 x0 x1 x2 x3 x4 x5 x6 x7 x8 x9 x10 512 slices_S1x1536_o0_512_S1x256 (by decide) (by decide) (by decide),
   out_piece c i arg2 harg2 arg3 harg3 arg4 harg4 arg5 harg5 arg6 harg6 arg7 harg7 arg8 harg8 arg9 harg9 arg10 harg10 arg11 harg11 arg12 harg12 arg13 arg16 x0 x1 x2 x3 x4 x5 x6 x7 x8 x9 x10 256 slices_S1x1536_o0_256_S1x256 (by decide) (by decide) (by decide),
   out_piece c i arg2 harg2 arg3 harg3 arg4 harg4 arg5 harg5 arg6 harg6 arg7 harg7 arg8 harg8 arg9 harg9 arg10 harg10 arg11 harg11 arg12 harg12 arg13 arg16 x0 x1 x2 x3 x4 x5 x6 x7 x8 x9 x10 0 slices_S1x1536_o0_0_S1x256 (by decide) (by decide) (by decide), trivial⟩

theorem code_pieces : View.PiecesOf (arrC i x0 x1 x5 x6 x7) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).1 := h11_pieces c i arg2 harg2 arg3 harg3 arg7 harg7 arg8 harg8 arg9 harg9 x0 x1 x5 x6 x7 arg16

/-- The row of scales that is stored. -/
def rowSc (i : grid0.Coords) (x0 : S1x256x1536.Idx → EReal) (x1 : S2x1024.Idx → EReal) (x5 : S1536x8960.Idx → EReal) (x6 x7 : S1x8960.Idx → EReal) : S1x256.Idx → EReal :=
  fun y => rowS (blkY i x0 x1 x5 x6 x7 (y 1))

theorem scale_piece : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.1 = [⟨Rect.unit (k0_off1 i) S1x256.size (k0_off1_inb i), rowSc i x0 x1 x5 x6 x7⟩] := by
  refine congrArg (fun q : S1x256.Idx → EReal => ([⟨Rect.unit (k0_off1 i) S1x256.size (k0_off1_inb i), q⟩] : List (View.Piece (Elt Ideal) S2x1024 .f32))) (funext fun x => ?_)
  obtain ⟨r, rfl⟩ : ∃ r, x = ix2 0 r := ⟨x 1, by
    funext a
    match a with
    | ⟨0, _⟩ => exact Fin.fin_one_eq_zero (x 0)
    | ⟨1, _⟩ => rfl⟩
  refine (scale_row _ r).trans (scale_eq c i arg2 harg2 arg3 harg3 arg7 harg7 arg8 harg8 arg9 harg9 x0 x1 x5 x6 x7 r)

end Whole

end Cert.FfnIdeal.Val
-- ==== Proof.FfnRefValue.lean ====
/-
  The reference's three results, read at an index: the model of one row. -/
module

public import proofs.«01_k».proof.Proof.Gen.FfnRefIdeal.Value
public import proofs.«01_k».proof.Proof.FfnModel
public import Idealize.ShloMosaic.Lib.Pointwise

@[expose] public section
set_option maxRecDepth 16384
noncomputable section
namespace Cert.FfnRefIdeal.Val
open Idealize.ShloMosaic Cert.FfnRefIdeal Cert.FfnRefIdeal.Gen Cert.FfnVal

theorem named_a : (Named.named κ "gelu_a" 1027024659#32 : Ideal .f32) = ((gaR : ℝ) : EReal) :=
  IdealRules.named_const.ideal_named_scalar _ _ _ _ rfl
theorem named_c : (Named.named κ "gelu_c" 1061962282#32 : Ideal .f32) = ((gcR : ℝ) : EReal) :=
  IdealRules.named_const.ideal_named_scalar _ _ _ _ rfl

/-- The activations of token `t` of sequence `b`. -/
def refY (a0 : S2x1024x1536.Idx → EReal) (a1 : S2x1024.Idx → EReal) (a5 : S1536x8960.Idx → EReal) (a6 a7 : S8960.Idx → EReal) (b : Fin 2) (t : Fin 1024) : Fin 8960 → EReal :=
  rowY (fun k => a0 (ix3 b t k)) (a1 (ix2 b t)) (fun k f => a5 (ix2 k f)) (fun f => a6 (ix1 f)) (fun f => a7 (ix1 f))

theorem pay3_apply (v0 : Vec Ideal S2x1024x1536 .fp8e4m3) (v2 : Vec Ideal S1536x8960 .fp8e4m3) (v5 : Vec Ideal S2x1024 .f32) (v9 : Vec Ideal S8960 .f32) (v13 : Vec Ideal S8960 .f32) (b : Fin 2) (t : Fin 1024) (f : Fin 8960) :
    k0_pay3 (F := Ideal) v0 v2 v5 v9 v13 (ix3 b t f) = refY v0 v5 v2 v9 v13 b t f := by
  unfold refY rowY gelu half
  pointwise [k0_pay3]
  rw [named_a, named_c]

theorem pay4_apply (v0 : Vec Ideal S2x1024x1536 .fp8e4m3) (v2 : Vec Ideal S1536x8960 .fp8e4m3) (v5 : Vec Ideal S2x1024 .f32) (v9 : Vec Ideal S8960 .f32) (v13 : Vec Ideal S8960 .f32) (b : Fin 2) (t : Fin 1024) :
    k0_pay4 (F := Ideal) v0 v2 v5 v9 v13 (ix2 b t) = rowS (refY v0 v5 v2 v9 v13 b t) := by
  have g : ∀ v30 : FVec Ideal S2x1024 .f32, select (cmpf .oeq v30 (broadcast S2x1024 (Scalar.ofBits .f32 0x00000000#32 : Ideal .f32)))
      (broadcast S2x1024 (Scalar.ofBits .f32 0x3F800000#32 : Ideal .f32))
      (divf v30 (broadcast S2x1024 (Scalar.ofBits .f32 0x43E00000#32 : Ideal .f32))) (ix2 b t) = quant (v30 (ix2 b t)) := by
    intro v30
    unfold quant top8
    pointwise
  refine (g _).trans ?_
  unfold rowS rowM
  refine congrArg quant ((red_max3 (absf (k0_pay3 (F := Ideal) v0 v2 v5 v9 v13)) reduces_S2x1024x8960_S2x1024 (.inl rfl) rfl b t).trans ?_)
  refine congrArg (fun h => Finset.fold max mInit h (Finset.univ : Finset (Fin 8960))) (funext fun f => ?_)
  exact congrArg (FloatOps.absf (F := Ideal) (φ := .f32)) (pay3_apply v0 v2 v5 v9 v13 b t f)

theorem clip_apply (Y : FVec Ideal S2x1024x8960 .f32) (Z : FVec Ideal S2x1024 .f32) (b : Fin 2) (t : Fin 1024) (f : Fin 8960) :
    k0_pay1 (F := Ideal) (divf Y (broadcastTo S2x1024x8960 (shapeCast S2x1024x1 Z shapeCasts_S2x1024_S2x1024x1) broadcasts_S2x1024x1_S2x1024x8960)) (Scalar.ofBits .f32 0x43E00000#32) (k0_pay6 (F := Ideal)) (ix3 b t f)
      = clip (Ideal.div (Y (ix3 b t f)) (Z (ix2 b t))) := by
  unfold clip top8 bot8
  pointwise [k0_pay1, k0_pay6]

theorem pay1_apply (v0 : Vec Ideal S2x1024x1536 .fp8e4m3) (v2 : Vec Ideal S1536x8960 .fp8e4m3) (v5 : Vec Ideal S2x1024 .f32) (v9 : Vec Ideal S8960 .f32) (v13 : Vec Ideal S8960 .f32) (b : Fin 2) (t : Fin 1024) (f : Fin 8960) :
    k0_pay1 (F := Ideal) (k0_pay5 (F := Ideal) v0 v2 v5 v9 v13) (Scalar.ofBits .f32 0x43E00000#32) (k0_pay6 (F := Ideal)) (ix3 b t f)
      = rowC (refY v0 v5 v2 v9 v13 b t) f := by
  refine (clip_apply (k0_pay3 (F := Ideal) v0 v2 v5 v9 v13) (k0_pay4 (F := Ideal) v0 v2 v5 v9 v13) b t f).trans ?_
  rw [pay3_apply, pay4_apply]
  rfl

theorem pay2_apply (v36 : FVec Ideal S2x1024 .f32) (v39 : FVec Ideal S2x1024x8960 .f32) (cst_16 : Ideal .f32) (v40 : FVec Ideal S2x1024x8960 .f32) (v48 : Vec Ideal S8960x1536 .fp8e4m3) (v54 : Vec Ideal S1536 .f32) (v58 : Vec Ideal S1536 .f32) (v62 : Vec Ideal S6x1536 .f32) (v64 : Vec Ideal S2x6x1536 .f32) (v68 : Vec Ideal S2x1024x1536 .f32) (b : Fin 2) (t : Fin 1024) (d : Fin 1536) :
   k0_pay2 (F := Ideal) v36 v39 cst_16 v40 v48 v54 v58 v62 v64 v68 (ix3 b t d) =
     v68 (ix3 b t d) + (v62 (ix2 5 d) + v64 (ix3 b 5 d)) *
        ((∑ x, k0_pay1 (F := Ideal) v39 cst_16 v40 (ix3 b t x) * v48 (ix2 x d)) * v36 (ix2 b t) * v54 (ix1 d) + v58 (ix1 d)) := by
  pointwise [k0_pay2]

section Results
variable (a0 : S2x1024x1536.Idx → EReal) (a1 : S2x1024.Idx → EReal) (a2 : S2x1024x1536.Idx → EReal) (a3 : S2x6x1536.Idx → EReal) (a4 : S6x1536.Idx → EReal)
  (a5 : S1536x8960.Idx → EReal) (a6 a7 : S8960.Idx → EReal) (a8 : S8960x1536.Idx → EReal) (a9 a10 : S1536.Idx → EReal)

/-- The codes, of the argument arrays. -/
def resC : S2x1024x8960.Idx → EReal := fun j => rowC (refY a0 a1 a5 a6 a7 (j 0) (j 1)) (j 2)
/-- The scales, of the argument arrays. -/
def resS : S2x1024.Idx → EReal := fun j => rowS (refY a0 a1 a5 a6 a7 (j 0) (j 1))
/-- The output, of the argument arrays. -/
def resO : S2x1024x1536.Idx → EReal := fun j =>
  rowO (refY a0 a1 a5 a6 a7 (j 0) (j 1)) (fun f => a8 (ix2 f (j 2))) (a9 (ix1 (j 2))) (a10 (ix1 (j 2))) (a2 j) (a4 (ix2 5 (j 2)) + a3 (ix3 (j 0) 5 (j 2)))

theorem l0 (X : S2x1024x1536.Idx → EReal) : View.ld (Val := Elt Ideal) (e' := .fp8e4m3) X r0_0 = X := View.ld_unit_zero (Val := Elt Ideal) (e := .fp8e4m3) (S := S2x1024x1536) (off := ![0, 0, 0]) (funext (by decide)) _ X
theorem l1 (X : S1536x8960.Idx → EReal) : View.ld (Val := Elt Ideal) (e' := .fp8e4m3) X r0_1 = X := View.ld_unit_zero (Val := Elt Ideal) (e := .fp8e4m3) (S := S1536x8960) (off := ![0, 0]) (funext (by decide)) _ X
theorem l2 (X : S2x1024.Idx → EReal) : View.ld (Val := Elt Ideal) (e' := .f32) X r0_2 = X := View.ld_unit_zero (Val := Elt Ideal) (e := .f32) (S := S2x1024) (off := ![0, 0]) (funext (by decide)) _ X
theorem l3 (X : S8960.Idx → EReal) : View.ld (Val := Elt Ideal) (e' := .f32) X r0_3 = X := View.ld_unit_zero (Val := Elt Ideal) (e := .f32) (S := S8960) (off := ![0]) (funext (by decide)) _ X

theorem v7 : k0_pay7 (F := Ideal) a0 a1 a2 a3 a4 a5 a6 a7 a8 a9 a10 = k0_pay4 (F := Ideal) a0 a5 a1 a6 a7 := by
  unfold k0_pay7
  rw [l0, l1, l2, l3, l3]
theorem v8 : k0_pay8 (F := Ideal) a0 a1 a2 a3 a4 a5 a6 a7 a8 a9 a10 = k0_pay5 (F := Ideal) a0 a5 a1 a6 a7 := by
  unfold k0_pay8
  rw [l0, l1, l2, l3, l3]
theorem v9 : k0_pay9 (F := Ideal) a0 a1 a2 a3 a4 a5 a6 a7 a8 a9 a10 = k0_pay6 (F := Ideal) := rfl

theorem G11_eq : Value.G11 (F := Ideal) a0 a1 a2 a3 a4 a5 a6 a7 a8 a9 a10 = resC a0 a1 a5 a6 a7 := by
  funext j
  rw [Value.G11, v8, v9]
  obtain ⟨b, t, f, rfl⟩ : ∃ b t f, j = ix3 b t f := ⟨j 0, j 1, j 2, eq_ix3 j⟩
  exact pay1_apply a0 a5 a1 a6 a7 b t f
theorem G12_eq : Value.G12 (F := Ideal) a0 a1 a2 a3 a4 a5 a6 a7 a8 a9 a10 = resS a0 a1 a5 a6 a7 := by
  funext j
  rw [Value.G12, v7]
  obtain ⟨b, t, rfl⟩ : ∃ b t, j = ix2 b t := ⟨j 0, j 1, eq_ix2 j⟩
  exact pay4_apply a0 a5 a1 a6 a7 b t
theorem G13_eq : Value.G13 (F := Ideal) a0 a1 a2 a3 a4 a5 a6 a7 a8 a9 a10 = resO a0 a1 a2 a3 a4 a5 a6 a7 a8 a9 a10 := by
  funext j
  rw [Value.G13, v7, v8, v9]
  obtain ⟨b, t, d, rfl⟩ : ∃ b t d, j = ix3 b t d := ⟨j 0, j 1, j 2, eq_ix3 j⟩
  refine (pay2_apply _ _ _ _ _ _ _ _ _ _ b t d).trans ?_
  rw [pay4_apply]
  unfold resO rowO
  refine congrArg (fun q : EReal => a2 (ix3 b t d) + (a4 (ix2 5 d) + a3 (ix3 b 5 d)) * (q * rowS (refY a0 a1 a5 a6 a7 b t) * a9 (ix1 d) + a10 (ix1 d))) ?_
  exact Finset.sum_congr rfl fun x _ => congrArg (· * a8 (ix2 x d)) (pay1_apply a0 a5 a1 a6 a7 b t x)

end Results
end Cert.FfnRefIdeal.Val
-- ==== Proof.FfnArrays.lean ====
/-
  The blocks that a grid point of the kernel reads, at their places in the argument arrays. -/
module

public import proofs.«01_k».proof.Proof.FfnFrame
public import proofs.«01_k».proof.Proof.FfnOut
public import proofs.«01_k».proof.Proof.FfnRefValue
public import Idealize.ShloMosaic.Lib.Pipeline.ValueKit

@[expose] public section
set_option maxRecDepth 16384
noncomputable section
namespace Cert.FfnIdeal.Val
open Idealize.ShloMosaic Idealize.ShloMosaic.TcCoe Idealize.ShloMosaic.Tactic Cert.FfnIdeal Cert.FfnIdeal.Gen Cert.FfnVal Cert.FfnIdeal.Run
open Idealize.SL Idealize.SL.Sem

variable (m : (ℓ : Loc nD τ sig) → Buf (Elt Ideal) ℓ) (ρ : Dev nD → PrngReg)

theorem gB_val (i : grid0.Coords) : (gB i).val = (i 0).val := rfl
theorem gT_val (i : grid0.Coords) (r : Fin 256) : (gT i r).val = 256 * (i 1).val + r.val := rfl

/-- Every window's block index at a grid point. -/
theorem idx : ∀ t : Fin cfg0.N, win0_0.index t = ![(grid0.coords t 0).val, (grid0.coords t 1).val, 0] ∧ win0_1.index t = ![0, 0]
    ∧ win0_2.index t = ![(grid0.coords t 0).val, (grid0.coords t 1).val, 0] ∧ win0_3.index t = ![0, 0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![(grid0.coords t 0).val, (grid0.coords t 1).val, 0] ∧ win0_12.index t = ![0, 0] ∧ win0_13.index t = ![(grid0.coords t 0).val, (grid0.coords t 1).val, 0] :=
  (by decide +kernel : ∀ t : Fin grid0.N, _)

theorem b0 (c : Dev nD) (t : Fin cfg0.N) (r : Fin 256) (k : Fin 1536) :
    iblk m c 0 t (ix3 0 r k) = m ((c : Thread nD τ).loc main_arg0) (ix3 (gB (grid0.coords t)) (gT (grid0.coords t) r) k) := by
  blk_ext [iblk, V, idx t, gB_val, gT_val]
theorem b1 (c : Dev nD) (t : Fin cfg0.N) (b : Fin 2) (k : Fin 1024) :
    iblk m c 1 t (ix2 b k) = m ((c : Thread nD τ).loc main_arg1) (ix2 b k) := by
  blk_ext [iblk, V, idx t]
theorem b2 (c : Dev nD) (t : Fin cfg0.N) (r : Fin 256) (k : Fin 1536) :
    iblk m c 2 t (ix3 0 r k) = m ((c : Thread nD τ).loc main_arg2) (ix3 (gB (grid0.coords t)) (gT (grid0.coords t) r) k) := by
  blk_ext [iblk, V, idx t, gB_val, gT_val]
theorem b3 (c : Dev nD) (t : Fin cfg0.N) (s : Fin 6) (b : Fin 2) (k : Fin 1536) :
    iblk m c 3 t (ix3 s b k) = m ((c : Thread nD τ).loc main_arg3) (ix3 b s k) := by
  blk_ext! [iblk, V, idx t]
theorem b4 (c : Dev nD) (t : Fin cfg0.N) (s : Fin 6) (k : Fin 1536) :
    iblk m c 4 t (ix2 s k) = m ((c : Thread nD τ).loc main_arg4) (ix2 s k) := by
  blk_ext [iblk, V, idx t]
theorem b5 (c : Dev nD) (t : Fin cfg0.N) (k : Fin 1536) (f : Fin 8960) :
    iblk m c 5 t (ix2 k f) = m ((c : Thread nD τ).loc main_arg5) (ix2 k f) := by
  blk_ext [iblk, V, idx t]
theorem b6 (c : Dev nD) (t : Fin cfg0.N) (f : Fin 8960) :
    iblk m c 6 t (ix2 0 f) = m ((c : Thread nD τ).loc main_arg6) (ix1 f) := by
  blk_ext! [iblk, V, idx t]
theorem b7 (c : Dev nD) (t : Fin cfg0.N) (f : Fin 8960) :
    iblk m c 7 t (ix2 0 f) = m ((c : Thread nD τ).loc main_arg7) (ix1 f) := by
  blk_ext! [iblk, V, idx t]
theorem b8 (c : Dev nD) (t : Fin cfg0.N) (k : Fin 8960) (f : Fin 1536) :
    iblk m c 8 t (ix2 k f) = m ((c : Thread nD τ).loc main_arg8) (ix2 k f) := by
  blk_ext [iblk, V, idx t]
theorem b9 (c : Dev nD) (t : Fin cfg0.N) (f : Fin 1536) :
    iblk m c 9 t (ix2 0 f) = m ((c : Thread nD τ).loc main_arg9) (ix1 f) := by
  blk_ext! [iblk, V, idx t]
theorem b10 (c : Dev nD) (t : Fin cfg0.N) (f : Fin 1536) :
    iblk m c 10 t (ix2 0 f) = m ((c : Thread nD τ).loc main_arg10) (ix1 f) := by
  blk_ext! [iblk, V, idx t]

end Cert.FfnIdeal.Val
-- ==== Proof.FfnValue.lean ====
/-
  The kernel's three results as functions of the argument arrays. -/
module

public import proofs.«01_k».proof.Proof.FfnArrays

@[expose] public section
set_option maxRecDepth 16384
noncomputable section
namespace Cert.FfnIdeal.Val
open Idealize.ShloMosaic Idealize.ShloMosaic.TcCoe Idealize.ShloMosaic.Tactic Cert.FfnIdeal Cert.FfnIdeal.Gen Cert.FfnVal Cert.FfnIdeal.Run
open Idealize.SL Idealize.SL.Sem
open Cert.FfnRefIdeal.Val (refY resC resS resO)

variable (m : (ℓ : Loc nD τ sig) → Buf (Elt Ideal) ℓ) (ρ : Dev nD → PrngReg)

theorem blkY_eq (c : Dev nD) (t : Fin cfg0.N) (r : Fin 256) :
    blkY (grid0.coords t) (iblk m c 0 t) (iblk m c 1 t) (iblk m c 5 t) (iblk m c 6 t) (iblk m c 7 t) r
      = refY (m ((c : Thread nD τ).loc main_arg0)) (m ((c : Thread nD τ).loc main_arg1)) (m ((c : Thread nD τ).loc main_arg5)) (m ((c : Thread nD τ).loc main_arg6)) (m ((c : Thread nD τ).loc main_arg7))
          (gB (grid0.coords t)) (gT (grid0.coords t) r) := by
  unfold blkY refY
  rw [b1 m c t (gB (grid0.coords t)) (gT (grid0.coords t) r), show (fun k => iblk m c 0 t (ix3 0 r k)) = _ from funext fun k => b0 m c t r k,
    show (fun k f => iblk m c 5 t (ix2 k f)) = _ from funext fun k => funext fun f => b5 m c t k f,
    show (fun f => iblk m c 6 t (ix2 0 f)) = _ from funext fun f => b6 m c t f, show (fun f => iblk m c 7 t (ix2 0 f)) = _ from funext fun f => b7 m c t f]

/-- The codes. -/
theorem final11 (c : Dev nD) : (dats m 0 c).arrAt 11 cfg0.N
    = resC (m ((c : Thread nD τ).loc main_arg0)) (m ((c : Thread nD τ).loc main_arg1)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11]
  refine (View.canon_apply_of_pieces _ _ (code_pieces ..).mem y (cover11 m c t y)).trans ?_
  have e : (win0_11.blk t).view.emb y = ix3 (gB (grid0.coords t)) (gT (grid0.coords t) (y 1)) (y 2) := by
    blk_ext [idx t, gB_val, gT_val]
    exact (Nat.add_comm _ _).trans ((Nat.add_comm _ _).trans (congrArg (· + (y 1).val) (Nat.mul_comm _ _)))
  rw [e]
  exact congrArg (fun q => rowC q (y 2)) (blkY_eq m c t (y 1))

/-- The output. -/
theorem final13 (c : Dev nD) : (dats m 0 c).arrAt 13 cfg0.N
    = resO (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 13 _ (by decide +kernel) fun t hf y => ?_
  blk_simp
  rw [after0_13]
  refine (View.canon_apply_of_pieces _ _ (out_pieces ..).mem y (cover13 m c t y)).trans ?_
  have e : (win0_13.blk t).view.emb y = ix3 (gB (grid0.coords t)) (gT (grid0.coords t) (y 1)) (y 2) := by
    blk_ext [idx t, gB_val, gT_val]
    exact (Nat.add_comm _ _).trans ((Nat.add_comm _ _).trans (congrArg (· + (y 1).val) (Nat.mul_comm _ _)))
  rw [e]
  unfold arrO resO
  rw [blkY_eq m c t (y 1), b2 m c t (y 1) (y 2), b3 m c t 5 (gB (grid0.coords t)) (y 2), b4 m c t 5 (y 2), b9 m c t (y 2), b10 m c t (y 2),
    show (fun f => iblk m c 8 t (ix2 f (y 2))) = _ from funext fun f => b8 m c t f (y 2)]
  rfl

/-- The row of scales that a grid point stores. -/
theorem scale_at (c : Dev nD) (t : Fin cfg0.N) (y : S2x1024.Idx) (h : Seg m c t y) : View.canon (L12at m c t) y
    = resS (m ((c : Thread nD τ).loc main_arg0)) (m ((c : Thread nD τ).loc main_arg1)) (m ((c : Thread nD τ).loc main_arg5)) (m ((c : Thread nD τ).loc main_arg6)) (m ((c : Thread nD τ).loc main_arg7)) y := by
  have e : L12at m c t = [⟨Rect.unit (k0_off1 (grid0.coords t)) S1x256.size (k0_off1_inb (grid0.coords t)), rowSc (grid0.coords t) (iblk m c 0 t) (iblk m c 1 t) (iblk m c 5 t) (iblk m c 6 t) (iblk m c 7 t)⟩] :=
    scale_piece ..
  unfold Seg at h
  rw [e] at h ⊢
  refine View.canon_apply_of_pieces (Val := Elt Ideal) (e := .f32) (resS (m ((c : Thread nD τ).loc main_arg0)) (m ((c : Thread nD τ).loc main_arg1)) (m ((c : Thread nD τ).loc main_arg5)) (m ((c : Thread nD τ).loc main_arg6)) (m ((c : Thread nD τ).loc main_arg7))) _ (fun p hp => ?_) y h
  obtain rfl := List.mem_singleton.mp hp
  intro x
  refine (congrArg rowS (blkY_eq m c t (x 1))).trans ?_
  unfold resS
  refine congrArg₂ (fun a b => rowS (refY _ _ _ _ _ a b)) (Fin.ext ?_) (Fin.ext ?_)
  · refine Eq.symm ((Rect.idx_unit_val _ _ (k0_off1_inb (grid0.coords t)) x 0).trans ?_)
    refine (congrArg (· + _) (congrFun (k0_off1_eq (grid0.coords t)) 0)).trans ?_
    have hx : (x 0).val < 1 := (x 0).isLt
    show (grid0.coords t 0).val + (x 0).val = (grid0.coords t 0).val
    omega
  · refine Eq.symm ((Rect.idx_unit_val _ _ (k0_off1_inb (grid0.coords t)) x 1).trans ?_)
    exact congrArg (· + _) (congrFun (k0_off1_eq (grid0.coords t)) 1)

/-- Every index of the scales is stored by some point. -/
theorem seg_cover (c : Dev nD) (y : S2x1024.Idx) : ∃ t : Fin cfg0.N, Seg m c t y := by
  have h0 : (y 0).val < 2 := (y 0).isLt
  have h1 : (y 1).val < 1024 := (y 1).isLt
  have key : ∀ a : Fin 2, ∀ b : Fin 4, ∃ t : Fin grid0.N, (grid0.coords t 0).val = a.val ∧ (grid0.coords t 1).val = b.val := by decide +kernel
  obtain ⟨t, e0, e1⟩ := key ⟨(y 0).val, h0⟩ ⟨(y 1).val / 256, by omega⟩
  refine ⟨t, (seg_iff m c t y).mpr ⟨e0.symm, ?_, ?_⟩⟩
  · rw [e1]; show 256 * ((y 1).val / 256) ≤ _; omega
  · rw [e1]; show _ < 256 * ((y 1).val / 256) + 256; omega

/-- The last grid point. -/
def tLast : Fin cfg0.N := ⟨7, by decide +kernel⟩

/-- The scales. -/
theorem final12 (c : Dev nD) (G : Buf (Elt Ideal) ((c : Thread nD τ).loc main_v5_1)) (hG : (rdat m c).ArrAt 12 cfg0.N G) :
    G = resS (m ((c : Thread nD τ).loc main_arg0)) (m ((c : Thread nD τ).loc main_arg1)) (m ((c : Thread nD τ).loc main_arg5)) (m ((c : Thread nD τ).loc main_arg6)) (m ((c : Thread nD τ).loc main_arg7)) := by
  obtain ⟨X, hl, hX⟩ := Pipeline.RDat.ArrAt.emb_eq_of_wholeAt hG (t₀ := tLast) (by decide +kernel)
  have hr : Rows m c tLast X := (dats m 0 c).toRRel_leaves (fgt := rel0) (Rl := Rl0 m c) (w := 12) rfl hl
  funext y
  obtain ⟨t, ht⟩ := seg_cover m c y
  have ht7 : t ≤ tLast := by
    have h8 : t.val < 8 := t.isLt
    show t.val ≤ 7
    omega
  have h := hX y
  have h' : G y = X y := h
  exact h'.trans ((hr t ht7 y ht).trans (scale_at m c t y ht))

end Cert.FfnIdeal.Val
-- ==== Proof.FfnEnd.lean ====
/-
  The run of the kernel with its three results, and the value claim against the reference. -/
module

public import proofs.«01_k».proof.Proof.FfnValue
public import proofs.«01_k».proof.Proof.FfnRefValue

@[expose] public section
set_option maxRecDepth 16384
noncomputable section
namespace Cert.FfnIdeal.Val
open Idealize.ShloMosaic Idealize.ShloMosaic.TcCoe Idealize.ShloMosaic.Tactic Cert.FfnIdeal Cert.FfnIdeal.Gen Cert.FfnVal Cert.FfnIdeal.Run
open Idealize.SL Idealize.SL.Sem
open Cert.FfnRefIdeal.Val (refY resC resS resO)

variable (m : (ℓ : Loc nD τ sig) → Buf (Elt Ideal) ℓ) (ρ : Dev nD → PrngReg)

/-- A frame run says of every window what its array may hold at the end (stated at a variable configuration). -/
theorem arr_out {cfg₁ : Pipeline.Cfg sig Λ₀} {rd : (c : Dev nD) → Pipeline.RDat τ (Elt Ideal) Unit ℕ (UR sig nD τ) ℕ cfg₁ c}
    {V : (c : Dev nD) → (b : Ref sig .tc) → Buf (Elt Ideal) ((c.tc : Thread nD τ).loc b)} {r : PUnit × MemSt nD τ sig (Elt Ideal)}
    (h : Pipeline.RDat.FramePost cfg₁ rd V r) (c : Dev nD) (w : Fin cfg₁.W) :
    (rd c).ArrAt w cfg₁.N (r.2.mem ((cfg₁.spec w).arr.view.loc (c.tc : Thread nD τ))) := (h c).1 w

/-- A window whose contents are named point by point ends at the array those contents make. -/
theorem arr_named (c : Dev nD) (w : Fin cfg0.W) (hw : rel0 w = false) (n : ℕ) (G : Buf (Elt Ideal) ((cfg0.win w).arr.view.loc (c.tc : Thread nD τ)))
    (h : (rdat m c).ArrAt w n G) : G = (dats m 0 c).arrAt w n :=
  ((dats m 0 c).toR_arrAt_iff w n G).mp (((dats m 0 c).toR.override_arrAt (by simp only [hw]) n G).mp h)

/-- The three results. -/
theorem results : θ_run defs (onTc (τ := τ) (main (F := Ideal))) ⟨m, fun _ => 0, ρ⟩ (fun r => ∀ c : Dev nD,
      r.2.mem ((c.tc : Thread nD τ).loc main_v5_0) = resC (m ((c : Thread nD τ).loc main_arg0)) (m ((c : Thread nD τ).loc main_arg1)) (m ((c : Thread nD τ).loc main_arg5)) (m ((c : Thread nD τ).loc main_arg6)) (m ((c : Thread nD τ).loc main_arg7))
      ∧ r.2.mem ((c.tc : Thread nD τ).loc main_v5_1) = resS (m ((c : Thread nD τ).loc main_arg0)) (m ((c : Thread nD τ).loc main_arg1)) (m ((c : Thread nD τ).loc main_arg5)) (m ((c : Thread nD τ).loc main_arg6)) (m ((c : Thread nD τ).loc main_arg7))
      ∧ r.2.mem ((c.tc : Thread nD τ).loc main_v5_2) = resO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (θ_run defs _ _).mono (fun _ h c => ⟨(arr_named m c 11 rfl _ _ (arr_out h c 11)).trans (final11 m c), final12 m c _ (arr_out h c 12),
    (arr_named m c 13 rfl _ _ (arr_out h c 13)).trans (final13 m c)⟩) (run_main m ρ)

/-- The three results, and the arguments unchanged. -/
theorem run : θ_run defs (onTc (τ := τ) (main (F := Ideal))) ⟨m, fun _ => 0, ρ⟩ (fun r => ∀ c : Dev nD,
      r.2.mem ((c.tc : Thread nD τ).loc main_v5_0) = resC (m ((c : Thread nD τ).loc main_arg0)) (m ((c : Thread nD τ).loc main_arg1)) (m ((c : Thread nD τ).loc main_arg5)) (m ((c : Thread nD τ).loc main_arg6)) (m ((c : Thread nD τ).loc main_arg7))
      ∧ r.2.mem ((c.tc : Thread nD τ).loc main_v5_1) = resS (m ((c : Thread nD τ).loc main_arg0)) (m ((c : Thread nD τ).loc main_arg1)) (m ((c : Thread nD τ).loc main_arg5)) (m ((c : Thread nD τ).loc main_arg6)) (m ((c : Thread nD τ).loc main_arg7))
      ∧ r.2.mem ((c.tc : Thread nD τ).loc main_v5_2) = resO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h.1 c).1, (h.1 c).2.1, (h.1 c).2.2, h.2 c⟩) (θ_run_and (results m ρ) (unchanged m ρ))

end Cert.FfnIdeal.Val
-- ==== Proof.QkvPlain.lean ====
/-
  The frame of the program as printed: it runs, faults nowhere, leaves its arguments as they were and every semaphore at zero.
  Nothing is said of what its outputs hold.
-/
module

public import proofs.«01_k».proof.Proof.Gen.Qkv.Frame
public import proofs.«01_k».proof.Proof.Gen.Qkv.Skeleton
public import Idealize.ShloMosaic.Lib.Claim

@[expose] public section

set_option maxRecDepth 16384

noncomputable section

namespace Cert.Qkv.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments end unchanged, from a run that leaves every staged input and every other buffer as it was. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c)),
      (Pipeline.RDat.FramePost.arr_in h c 13 rfl).trans ((hA c 13).trans (V_main_arg13 m c)),
      (Pipeline.RDat.FramePost.arr_in h c 14 rfl).trans ((hA c 14).trans (V_main_arg14 m c)),
      (Pipeline.RDat.FramePost.arr_in h c 15 rfl).trans ((hA c 15).trans (V_main_arg15 m c))⟩) h

/-! ## The body's run -/

/-- Each window's current staging memref at point `t`, and its wholeness. -/
abbrev ms0_0 (t : Fin cfg0.N) : Memref sig .tc .vmem S1x256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x2x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x1536x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x1536x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x1536x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S12x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S12x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S12x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S12x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S12x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S12x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S12x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256x1536 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x12x256x128 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x12x256x128 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x12x128x256 .bf16 := win0_20.stage (cfg0.slots t 20)
abbrev hs0_20 (t : Fin cfg0.N) : (ms0_20 t).IsWhole := hstage0_20 ((cfg0.slots t 20).cast nbuf0_20)
/-- The scratch operand. -/
abbrev scM0_0 : Memref sig .tc .vmem S256x1536 .f32 := Memref.whole cc0_scratch0

/-- The invariant with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 8000000 in
/-- The body on whole staging memrefs: the inputs end as they were, the outputs and the scratch at something. -/
theorem kernelRun0_A (c : Dev nD) (i : grid0.Coords) (arg1 : Memref sig .tc .vmem S1x256x1536 .bf16) (harg1 : arg1.IsWhole) (arg2 : Memref sig .tc .vmem S6x2x1536 .f32) (harg2 : arg2.IsWhole) (arg3 : Memref sig .tc .vmem S6x1536 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S12x1536x128 .fp8e4m3) (harg6 : arg6.IsWhole) (arg7 : Memref sig .tc .vmem S12x1536x128 .fp8e4m3) (harg7 : arg7.IsWhole) (arg8 : Memref sig .tc .vmem S12x1536x128 .fp8e4m3) (harg8 : arg8.IsWhole) (arg9 : Memref sig .tc .vmem S12x128 .f32) (harg9 : arg9.IsWhole) (arg10 : Memref sig .tc .vmem S12x128 .f32) (harg10 : arg10.IsWhole) (arg11 : Memref sig .tc .vmem S12x128 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S12x128 .f32) (harg14 : arg14.IsWhole) (arg15 : Memref sig .tc .vmem S12x128 .f32) (harg15 : arg15.IsWhole) (arg16 : Memref sig .tc .vmem S12x128 .f32) (harg16 : arg16.IsWhole) (arg17 : Memref sig .tc .vmem S1x256x1536 .fp8e4m3) (harg17 : arg17.IsWhole) (arg18 : Memref sig .tc .vmem S2x1024 .f32) (harg18 : arg18.IsWhole) (arg19 : Memref sig .tc .vmem S1x12x256x128 .bf16) (harg19 : arg19.IsWhole) (arg20 : Memref sig .tc .vmem S1x12x256x128 .bf16) (harg20 : arg20.IsWhole) (arg21 : Memref sig .tc .vmem S1x12x128x256 .bf16) (harg21 : arg21.IsWhole) (arg22 : Memref sig .tc .vmem S256x1536 .f32) (harg22 : arg22.IsWhole)
    (x0 : Vec F S1x256x1536 .bf16) (x1 : Vec F S6x2x1536 .f32) (x2 : Vec F S6x1536 .f32) (x3 : Vec F S64x256 .f32) (x4 : Vec F S64x256 .f32) (x5 : Vec F S12x1536x128 .fp8e4m3) (x6 : Vec F S12x1536x128 .fp8e4m3) (x7 : Vec F S12x1536x128 .fp8e4m3) (x8 : Vec F S12x128 .f32) (x9 : Vec F S12x128 .f32) (x10 : Vec F S12x128 .f32) (x11 : Vec F S12x128 .f32) (x12 : Vec F S12x128 .f32) (x13 : Vec F S12x128 .f32) (x14 : Vec F S12x128 .f32) (x15 : Vec F S12x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_qkv_eq_skeleton]; unfold cc0_qkv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact HS0
    ipureintro; rfl

/-! ## The pipeline's proof data -/

/-- The output windows, of which nothing is named. -/
def forgets0 : Fin 21 → Bool := fun w => w.val == 16 || w.val == 17 || w.val == 18 || w.val == 19 || w.val == 20

/-- The proof data: the arrays as the region finds them, each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨n + 21, h⟩ => absurd h (by show ¬ n + 21 < 21; omega)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  iintro ⟨H0, H1, H2, H3, H4, H5, H6, H7, H8, H9, H10, H11, H12, H13, H14, H15, H16, H17, H18, H19, H20, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run, every semaphore at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Qkv.Run

end
-- ==== Proof.QkvRun.lean ====
/-
  The body of the ideal kernel, run once at any grid point: every store it does, as a list of pieces per
  output.  Output 17 keeps what it held before, since the body stores only a part of it.
-/
module

public import proofs.«01_k».proof.Proof.Gen.QkvIdeal.Frame
public import proofs.«01_k».proof.Proof.Gen.QkvIdeal.Skeleton

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen
open Idealize.ShloMosaic.Pipeline (Dat Cfg Window BodyObligation cellOf)

variable {F : FTy → Type} [FloatOps F] [Named F]

local notation "𝕄" => MT nD τ sig Unit (Elt F) ℕ (UR sig nD τ) ℕ

/-- Each window's current staging memref at point `t`, and its wholeness. -/
abbrev ms0_0 (t : Fin cfg0.N) : Memref sig .tc .vmem S1x256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x2x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x1536x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x1536x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x1536x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S12x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S12x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S12x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S12x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S12x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S12x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S12x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256x1536 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x12x256x128 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x12x256x128 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x12x128x256 .bf16 := win0_20.stage (cfg0.slots t 20)
abbrev hs0_20 (t : Fin cfg0.N) : (ms0_20 t).IsWhole := hstage0_20 ((cfg0.slots t 20).cast nbuf0_20)
/-- The scratch operand. -/
abbrev scM0_0 : Memref sig .tc .vmem S256x1536 .f32 := Memref.whole cc0_scratch0

/-- The invariant with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

variable (m : (ℓ : Loc nD τ sig) → Buf (Elt F) ℓ) (ρ : Dev nD → PrngReg)

set_option maxHeartbeats 8000000 in
/-- What the body's stores leave in each output's staging memref, as pieces (last first), with the proof that the body
    runs and leaves them. -/
noncomputable def kernelRun0_A (c : Dev nD) (i : grid0.Coords) (arg1 : Memref sig .tc .vmem S1x256x1536 .bf16) (harg1 : arg1.IsWhole) (arg2 : Memref sig .tc .vmem S6x2x1536 .f32) (harg2 : arg2.IsWhole) (arg3 : Memref sig .tc .vmem S6x1536 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S12x1536x128 .fp8e4m3) (harg6 : arg6.IsWhole) (arg7 : Memref sig .tc .vmem S12x1536x128 .fp8e4m3) (harg7 : arg7.IsWhole) (arg8 : Memref sig .tc .vmem S12x1536x128 .fp8e4m3) (harg8 : arg8.IsWhole) (arg9 : Memref sig .tc .vmem S12x128 .f32) (harg9 : arg9.IsWhole) (arg10 : Memref sig .tc .vmem S12x128 .f32) (harg10 : arg10.IsWhole) (arg11 : Memref sig .tc .vmem S12x128 .f32) (harg11 : arg11.IsWhole) (arg12 : Memref sig .tc .vmem S12x128 .f32) (harg12 : arg12.IsWhole) (arg13 : Memref sig .tc .vmem S12x128 .f32) (harg13 : arg13.IsWhole) (arg14 : Memref sig .tc .vmem S12x128 .f32) (harg14 : arg14.IsWhole) (arg15 : Memref sig .tc .vmem S12x128 .f32) (harg15 : arg15.IsWhole) (arg16 : Memref sig .tc .vmem S12x128 .f32) (harg16 : arg16.IsWhole) (arg17 : Memref sig .tc .vmem S1x256x1536 .fp8e4m3) (harg17 : arg17.IsWhole) (arg18 : Memref sig .tc .vmem S2x1024 .f32) (harg18 : arg18.IsWhole) (arg19 : Memref sig .tc .vmem S1x12x256x128 .bf16) (harg19 : arg19.IsWhole) (arg20 : Memref sig .tc .vmem S1x12x256x128 .bf16) (harg20 : arg20.IsWhole) (arg21 : Memref sig .tc .vmem S1x12x128x256 .bf16) (harg21 : arg21.IsWhole) (arg22 : Memref sig .tc .vmem S256x1536 .f32) (harg22 : arg22.IsWhole)
    (x0 : Vec F S1x256x1536 .bf16) (x1 : Vec F S6x2x1536 .f32) (x2 : Vec F S6x1536 .f32) (x3 : Vec F S64x256 .f32) (x4 : Vec F S64x256 .f32) (x5 : Vec F S12x1536x128 .fp8e4m3) (x6 : Vec F S12x1536x128 .fp8e4m3) (x7 : Vec F S12x1536x128 .fp8e4m3) (x8 : Vec F S12x128 .f32) (x9 : Vec F S12x128 .f32) (x10 : Vec F S12x128 .f32) (x11 : Vec F S12x128 .f32) (x12 : Vec F S12x128 .f32) (x13 : Vec F S12x128 .f32) (x14 : Vec F S12x128 .f32) (x15 : Vec F S12x128 .f32) :
    Σ' (L16 : List (View.Piece (Elt F) S1x256x1536 .fp8e4m3)), Σ' (L17 : List (View.Piece (Elt F) S2x1024 .f32)), Σ' (L18 : List (View.Piece (Elt F) S1x12x256x128 .bf16)), Σ' (L19 : List (View.Piece (Elt F) S1x12x256x128 .bf16)), Σ' (L20 : List (View.Piece (Elt F) S1x12x128x256 .bf16)), { LT0 : List (View.Piece (Elt F) S256x1536 .f32) //
      ∀ (x17 : Vec F S2x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (arg18.view.loc (c : Thread nD τ) ↦[arg18.view.set]{fullShare} arg18.view.writes (Elt F) (harg18.unread x17) L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f LT0)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, fun x17 E K => ?run⟩
  case run =>
    simp only [cc0_qkv_eq_skeleton]; unfold cc0_qkv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, ⟨%d19, %f19, -, H19⟩, ⟨%d20, %f20, -, H20⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    obtain rfl := harg18.eq_unread hf17
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexact H17
    isplitl [H18]; · iexists _; iexact H18
    isplitl [H19]; · iexists _; iexact H19
    isplitl [H20]; · iexists _; iexact H20
    iexists _; iexact HS0

end Cert.QkvIdeal.Run

end
-- ==== Proof.QkvFrame.lean ====
/-
  The frame of the ideal kernel, with what its outputs hold: output 17 (a whole
  array kept on chip, into which each point stores one row) by the rows stored so far, the others point by point.
-/
module

public import proofs.«01_k».proof.Proof.QkvRun
public import Idealize.ShloMosaic.Lib.Claim
public import Idealize.ShloMosaic.Lib.Pipeline.DatRel
public import Idealize.ShloMosaic.Lib.Pipeline.ArrRel

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arguments end unchanged, from a run that leaves every staged input and every other buffer as it was. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c)),
      (Pipeline.RDat.FramePost.arr_in h c 13 rfl).trans ((hA c 13).trans (V_main_arg13 m c)),
      (Pipeline.RDat.FramePost.arr_in h c 14 rfl).trans ((hA c 14).trans (V_main_arg14 m c)),
      (Pipeline.RDat.FramePost.arr_in h c 15 rfl).trans ((hA c 15).trans (V_main_arg15 m c))⟩) h

/-! ## The body's run at a grid point -/

/-- The run of the body at point `t`, on that point's staging buffers and input blocks. -/
def runAt (c : Dev nD) (t : Fin cfg0.N) := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The stores into output 16 at point `t` (last first). -/
def L16at (c : Dev nD) (t : Fin cfg0.N) : List (View.Piece (Elt F) S1x256x1536 .fp8e4m3) := (runAt m c t).1
/-- The stores into output 17 at point `t` (last first). -/
def L17at (c : Dev nD) (t : Fin cfg0.N) : List (View.Piece (Elt F) S2x1024 .f32) := (runAt m c t).2.1
/-- The stores into output 18 at point `t` (last first). -/
def L18at (c : Dev nD) (t : Fin cfg0.N) : List (View.Piece (Elt F) S1x12x256x128 .bf16) := (runAt m c t).2.2.1
/-- The stores into output 19 at point `t` (last first). -/
def L19at (c : Dev nD) (t : Fin cfg0.N) : List (View.Piece (Elt F) S1x12x256x128 .bf16) := (runAt m c t).2.2.2.1
/-- The stores into output 20 at point `t` (last first). -/
def L20at (c : Dev nD) (t : Fin cfg0.N) : List (View.Piece (Elt F) S1x12x128x256 .bf16) := (runAt m c t).2.2.2.2.1

/-- The stores into output 16 cover its block. -/
theorem cover16 (c : Dev nD) (t : Fin cfg0.N) (y : S1x256x1536.Idx) : ∃ pc ∈ L16at m c t, y ∈ pc.1.set :=
  View.cover_of_tiledL (L16at m c t) S1x256x1536.size (by sl_kernel_rfl) y

/-- The stores into output 18 cover its block. -/
theorem cover18 (c : Dev nD) (t : Fin cfg0.N) (y : S1x12x256x128.Idx) : ∃ pc ∈ L18at m c t, y ∈ pc.1.set :=
  View.cover_of_tiledL (L18at m c t) S1x1x256x128.size (by sl_kernel_rfl) y

/-- The stores into output 19 cover its block. -/
theorem cover19 (c : Dev nD) (t : Fin cfg0.N) (y : S1x12x256x128.Idx) : ∃ pc ∈ L19at m c t, y ∈ pc.1.set :=
  View.cover_of_tiledL (L19at m c t) S1x1x256x128.size (by sl_kernel_rfl) y

/-- The stores into output 20 cover its block. -/
theorem cover20 (c : Dev nD) (t : Fin cfg0.N) (y : S1x12x128x256.Idx) : ∃ pc ∈ L20at m c t, y ∈ pc.1.set :=
  View.cover_of_tiledL (L20at m c t) S1x1x128x256.size (by sl_kernel_rfl) y

/-- The place that a grid point stores its scales at, read off its coordinate. -/
theorem off_eq : ∀ i : grid0.Coords, k0_off3 i = ![(i 0).val / 4, 256 * ((i 0).val % 4)] := by
  decide +kernel

/-- The one store into output 17: a row of 256 numbers at the place that the grid point names. -/
theorem L17at_eq (c : Dev nD) (t : Fin cfg0.N) : ∃ h p, L17at m c t = [⟨Rect.unit (k0_off3 (grid0.coords t)) S1x256.size h, p⟩] :=
  ⟨_, _, rfl⟩

/-- Index `y` of output 17 is one that point `t` stores. -/
def Seg (c : Dev nD) (t : Fin cfg0.N) (y : S2x1024.Idx) : Prop := ∃ pc ∈ L17at m c t, y ∈ pc.1.set

theorem seg_iff (c : Dev nD) (t : Fin cfg0.N) (y : S2x1024.Idx) :
    Seg m c t y ↔ (y 0).val = (grid0.coords t 0).val / 4 ∧ 256 * ((grid0.coords t 0).val % 4) ≤ (y 1).val ∧ (y 1).val < 256 * ((grid0.coords t 0).val % 4) + 256 := by
  obtain ⟨h, p, e⟩ := L17at_eq m c t
  unfold Seg; rw [e]
  simp only [List.mem_singleton, exists_eq_left, Rect.mem_set_unit, off_eq]
  rw [Fin.forall_fin_two]
  simp only [Matrix.cons_val_zero, Matrix.cons_val_one]
  have e0 : S1x256.size 0 = 1 := rfl
  have e1 : S1x256.size 1 = 256 := rfl
  constructor
  · rintro ⟨⟨h1, h2⟩, h3, h4⟩; refine ⟨?_, h3, ?_⟩
    · have : (y 0).val < (grid0.coords t 0).val / 4 + 1 := h2
      omega
    · exact h4
  · rintro ⟨h1, h2, h3⟩; refine ⟨⟨by omega, ?_⟩, h2, h3⟩
    show (y 0).val < (grid0.coords t 0).val / 4 + 1
    omega

theorem coords_inj : ∀ u t : Fin cfg0.N, (grid0.coords u 0).val = (grid0.coords t 0).val → u = t :=
  (by decide +kernel : ∀ u t : Fin grid0.N, (grid0.coords u 0).val = (grid0.coords t 0).val → u = t)

/-- No two points store the same index of output 17. -/
theorem seg_disjoint (c : Dev nD) (u t : Fin cfg0.N) (y : S2x1024.Idx) (hu : Seg m c u y) (ht : Seg m c t y) : u = t := by
  rw [seg_iff] at hu ht
  exact coords_inj u t (by omega)

/-- Window 17 is held to a property; the other outputs are named. -/
def rel0 : Fin 21 → Bool := fun w => w.val == 17

/-- What output 17's buffer holds after point `t`: every row stored so far. -/
def Rows (c : Dev nD) (t : Fin cfg0.N) (X : Vec F S2x1024 .f32) : Prop :=
  ∀ u : Fin cfg0.N, u ≤ t → ∀ y, Seg m c u y → X y = View.canon (L17at m c u) y

/-- The property of window 17 (nothing is asked of the others). -/
def Rl0 (c : Dev nD) : (w : Fin cfg0.W) → Fin cfg0.N → ((cfg0.win w).block.Idx → Elt F (cfg0.win w).elt) → Prop := fun w t X =>
  match w with
  | ⟨17, _⟩ => Rows m c t X
  | _ => True

/-! ## The pipeline's proof data -/

/-- The proof data: each input's buffer at its block, the named outputs at what the stores leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => View.canon (L16at m c t)
    | ⟨17, h⟩ => Pipeline.Dat.unnamed (cfg := cfg0) ⟨17, h⟩ t
    | ⟨18, _⟩ => View.canon (L18at m c t)
    | ⟨19, _⟩ => View.canon (L19at m c t)
    | ⟨20, _⟩ => View.canon (L20at m c t)
    | ⟨n + 21, h⟩ => absurd h (by show ¬ n + 21 < 21; omega)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = View.canon (L16at m c t) := by dsimp only [dats]
theorem after0_18 (c : Dev nD) (t : Fin cfg0.N) : (dats m 0 c).after 18 t = View.canon (L18at m c t) := by dsimp only [dats]
theorem after0_19 (c : Dev nD) (t : Fin cfg0.N) : (dats m 0 c).after 19 t = View.canon (L19at m c t) := by dsimp only [dats]
theorem after0_20 (c : Dev nD) (t : Fin cfg0.N) : (dats m 0 c).after 20 t = View.canon (L20at m c t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- The data with window 17 held to `Rows`. -/
def rdat (c : Dev nD) : Pipeline.RDat τ (Elt F) Unit ℕ (UR sig nD τ) ℕ cfg0 c := (dats m 0 c).toRRel rel0 (Rl0 m c)

theorem fetch17 : ∀ t : Fin cfg0.N, (cfg0.win 17).fetch t = false :=
  (by decide +kernel : ∀ t : Fin grid0.N, win0_17.fetch t = false)

theorem flush17 : ∀ t : Fin cfg0.N, t.val < 7 → (cfg0.win 17).flush t = false :=
  (by decide +kernel : ∀ t : Fin grid0.N, t.val < 7 → win0_17.flush t = false)

/-- What the body finds in output 17's buffer: the rows of the points before. -/
theorem found17 (c : Dev nD) (t : Fin cfg0.N) (Y : Vec F S2x1024 .f32) (h : (rdat m c).Finds 17 t Y) :
    ∀ u : Fin cfg0.N, u < t → ∀ y, Seg m c u y → Y y = View.canon (L17at m c u) y := by
  intro u hu y hy
  have ht : t.val ≠ 0 := by have : u.val < t.val := hu; omega
  have htN : t.val < 8 := t.isLt
  rcases ((rdat m c).finds_of_pos (fetch17 t) ht Y).mp h with hf | hl
  · rw [flush17 _ (by show t.val - 1 < 7; omega)] at hf; exact absurd hf Bool.false_ne_true
  · have hr : Rows m c ⟨t.val - 1, _⟩ Y := (dats m 0 c).toRRel_leaves (fgt := rel0) (Rl := Rl0 m c) (w := 17) rfl hl
    exact hr u (by show u.val ≤ t.val - 1; have : u.val < t.val := hu; omega) y hy

/-- Storing point `t`'s row into such a buffer leaves the rows up to `t`. -/
theorem rows_step (c : Dev nD) (t : Fin cfg0.N) (v : View sig .tc .vmem S2x1024 .f32) (f : v.ty.Contents (Elt F)) (Y : Vec F S2x1024 .f32)
    (hf : v.read (Elt F) f = Y) (h : ∀ u : Fin cfg0.N, u < t → ∀ y, Seg m c u y → Y y = View.canon (L17at m c u) y) :
    Rows m c t (v.read (Elt F) (v.writes (Elt F) f (L17at m c t))) := by
  intro u hu y hy
  rcases lt_or_eq_of_le hu with hlt | rfl
  · rw [View.read_writes_apply_of_forall_not_mem v f y _ (fun p hp hmem => hlt.ne (seg_disjoint m c u t y hy ⟨p, hp, hmem⟩)), hf]
    exact h u hlt y hy
  · exact View.read_writes_apply_eq_canon v f y _ hy

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ Y, ⌜(rdat m c).Finds 17 t Y⌝ ∗ owns (c : Thread nD τ) (ms0_17 t) fullShare Y)
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ X, ⌜Rows m c t X⌝ ∗ owns (c : Thread nD τ) (ms0_17 t) fullShare X)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_18, after0_19, after0_20]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%Y17, %hY17, H17⟩, ⟨%d18, H18⟩, ⟨%d19, H19⟩, ⟨%d20, H20⟩⟩
  iapply ((runAt m c t).2.2.2.2.2.2 Y17 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [H18]; · iexists _; iexact H18
  isplitl [H19]; · iexists _; iexact H19
  isplitl [H20]; · iexists _; iexact H20
  isplitl [HS0]; · iexact HS0
  iintro ⟨H0, H1, H2, H3, H4, H5, H6, H7, H8, H9, H10, H11, H12, H13, H14, H15, ⟨%e16, H16⟩, H17, ⟨%e18, H18⟩, ⟨%e19, H19⟩, ⟨%e20, H20⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_eq_canon _ _ _ (cover16 m c t)
  isplitl [H17]
  · iexists _; isplitr
    swap
    · unfold owns; iexists _; isplitr
      swap; · iexact H17
      ipureintro; rfl
    ipureintro; exact rows_step m c t _ _ _ (Memref.IsWhole.read_unread _ _) (found17 m c t Y17 hY17)
  isplitl [H18]
  · unfold owns; iexists _; isplitr
    swap; · iexact H18
    ipureintro; exact View.read_writes_eq_canon _ _ _ (cover18 m c t)
  isplitl [H19]
  · unfold owns; iexists _; isplitr
    swap; · iexact H19
    ipureintro; exact View.read_writes_eq_canon _ _ _ (cover19 m c t)
  unfold owns; iexists _; isplitr
  swap; · iexact H20
  ipureintro; exact View.read_writes_eq_canon _ _ _ (cover20 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dats (F := F) m 0 c) (defs₀ (F := F)) Variants.none () Set.univ rel0 (Rl0 m c) := fun t => by
  rw [bigSep_W0, bigSep_W0, defs₀_row]
  exact triple_restated (sound_body m c t) rfl .rfl fun _ => .rfl

/-! ## The run and the frame -/

set_option backward.isDefEq.respectTransparency.types false in
/-- The run, every semaphore at zero at its end. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (rdat m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.QkvIdeal.Run
-- ==== Proof.ProjModel.lean ====
/-
  A quantised projection row by row, over the extended reals: the scale and the codes of a row, one element of a
  projection of it, and the normalisation of the projected row by its root mean square. -/
module

public import proofs.«01_k».proof.Proof.FfnModel

@[expose] public section

noncomputable section
namespace Cert.ProjVal
open Idealize.ShloMosaic Cert.FfnVal

/-- The number of features. -/
def nD : EReal := Ideal.ofBits .f32 0x44C00000#32
/-- The number added to a mean of squares before its root. -/
def eps : EReal := Ideal.ofBits .f32 0x358637BD#32

/-- The scale of a row. -/
def rowSc (x : Fin 1536 → EReal) : EReal :=
  quant ((Finset.univ : Finset (Fin 1536)).fold max mInit (fun k => FloatOps.absf (F := Ideal) (φ := .f32) (x k)))

/-- The codes of a row. -/
def rowCode (x : Fin 1536 → EReal) (k : Fin 1536) : EReal := clip (Ideal.div (x k) (rowSc x))

/-- One element of a projection of a row. -/
def lin (x : Fin 1536 → EReal) (w : Fin 1536 → EReal) (s b : EReal) : EReal := (∑ k, rowCode x k * w k) * rowSc x * s + b

/-- The sum of the squares of a projected row. -/
def ssq (y : Fin 12 → Fin 128 → EReal) : EReal := ∑ h, ∑ l, y h l * y h l

/-- The root of the mean of the squares. -/
def root (y : Fin 12 → Fin 128 → EReal) : EReal := Ideal.sqrt (Ideal.div (ssq y) nD + eps)

/-- An element of the normalised row, times its gain. -/
def rms (y : Fin 12 → Fin 128 → EReal) (g : EReal) (h : Fin 12) (l : Fin 128) : EReal := Ideal.div (y h l) (root y) * g

theorem rowSc_ne_zero (x : Fin 1536 → EReal) : rowSc x ≠ 0 := quant_ne_zero _

theorem nD_eq : nD = ((1536 : ℝ) : EReal) := by
  unfold nD
  have : ((12582912 : ℝ) : EReal) * (((2 ^ 13 : ℝ)⁻¹ : ℝ) : EReal) = ((1536 : ℝ) : EReal) := by
    rw [← EReal.coe_mul]; norm_num
  simp [Ideal.ofBits, Ideal.ieee]
  exact this

theorem eps_pos : 0 < eps := by
  unfold eps
  have : (0 : EReal) < ((8796093 : ℝ) : EReal) * (((2 ^ 43 : ℝ)⁻¹ : ℝ) : EReal) := by
    rw [← EReal.coe_mul, EReal.coe_pos]; positivity
  simp [Ideal.ofBits, Ideal.ieee]
  exact this

theorem sq_nonneg' (y : EReal) : 0 ≤ y * y := by
  rcases le_total 0 y with h | h
  · exact mul_nonneg h h
  · rw [← neg_mul_neg]
    exact mul_nonneg (EReal.neg_nonneg.mpr h) (EReal.neg_nonneg.mpr h)

/-- Dividing by the number of features is multiplying by its reciprocal. -/
theorem div_nD (x : EReal) : Ideal.div x nD = x * ((1 / 1536 : ℝ) : EReal) := by
  rw [nD_eq, Ideal.div_coe (by norm_num)]

theorem sqrt_pos {z : EReal} (h : 0 < z) : Ideal.sqrt z ≠ 0 := by
  induction z using EReal.rec with
  | bot => exact absurd h (by simp)
  | top => exact EReal.top_ne_zero
  | coe r =>
    have hr : 0 < r := EReal.coe_pos.mp h
    show (if r < 0 then ⊥ else (Real.sqrt r : EReal)) ≠ 0
    rw [if_neg hr.le.not_gt]
    exact fun h0 => (Real.sqrt_pos.mpr hr).ne' (EReal.coe_eq_zero.mp h0)

theorem mean_root_ne_zero {z : EReal} (h : 0 ≤ z) : Ideal.sqrt (Ideal.div z nD + eps) ≠ 0 := by
  refine sqrt_pos (lt_of_lt_of_le eps_pos ?_)
  rw [div_nD]
  exact le_add_of_nonneg_left (mul_nonneg h (EReal.coe_nonneg.mpr (by norm_num)))

theorem ssq_nonneg (y : Fin 12 → Fin 128 → EReal) : 0 ≤ ssq y :=
  Finset.sum_nonneg fun _ _ => Finset.sum_nonneg fun _ _ => sq_nonneg' _

theorem root_ne_zero (y : Fin 12 → Fin 128 → EReal) : root y ≠ 0 := mean_root_ne_zero (ssq_nonneg y)

/-- A lane's running sum of squares, head after head. -/
def laneQ (y : Fin 12 → EReal) : EReal :=
  0 + y 0 * y 0 + y 1 * y 1 + y 2 * y 2 + y 3 * y 3 + y 4 * y 4 + y 5 * y 5 + y 6 * y 6 + y 7 * y 7 + y 8 * y 8 + y 9 * y 9 + y 10 * y 10 + y 11 * y 11

theorem laneQ_eq (y : Fin 12 → EReal) : laneQ y = ∑ h, y h * y h := by
  iterate 12 rw [Fin.sum_univ_castSucc]
  rw [Fin.sum_univ_zero]
  rfl

/-- The kernel's sum, lane by lane. -/
theorem lanes_ssq (y : Fin 12 → Fin 128 → EReal) : ∑ l, laneQ (fun h => y h l) = ssq y := by
  unfold ssq
  rw [Finset.sum_comm]
  exact Finset.sum_congr rfl fun l _ => laneQ_eq _

/-- The kernel's reciprocal of the root. -/
def rootK (y : Fin 12 → Fin 128 → EReal) : EReal := Ideal.div 1 (Ideal.sqrt ((∑ l, laneQ (fun h => y h l)) * ((1 / 1536 : ℝ) : EReal) + eps))

theorem rms_eq (y : Fin 12 → Fin 128 → EReal) (g : EReal) (h : Fin 12) (l : Fin 128) : y h l * rootK y * g = rms y g h l := by
  unfold rootK rms
  rw [lanes_ssq, ← div_nD]
  exact congrArg (· * g) (mul_recip (y h l) (root y) (root_ne_zero y))

end Cert.ProjVal
-- ==== Proof.QkvModel.lean ====
/-
  A layer norm that is scaled and shifted, and the rotation of a normalised projection, over the extended reals. -/
module

public import proofs.«01_k».proof.Proof.ProjModel

@[expose] public section

noncomputable section
namespace Cert.QkvVal
open Idealize.ShloMosaic Cert.FfnVal Cert.ProjVal

/-- A row less its mean. -/
def dev (x : Fin 1536 → EReal) (k : Fin 1536) : EReal := x k - Ideal.div (∑ k, x k) nD
/-- The root of the mean of its squares. -/
def devRoot (x : Fin 1536 → EReal) : EReal := Ideal.sqrt (Ideal.div (∑ k, dev x k * dev x k) nD + eps)
/-- The row normalised, scaled and shifted. -/
def mnorm (x sc sh : Fin 1536 → EReal) (k : Fin 1536) : EReal := Ideal.div (dev x k) (devRoot x) * (1 + sc k) + sh k

theorem devRoot_ne_zero (x : Fin 1536 → EReal) : devRoot x ≠ 0 :=
  mean_root_ne_zero (Finset.sum_nonneg fun _ _ => sq_nonneg' _)

theorem mnorm_eq (x sc sh : Fin 1536 → EReal) (k : Fin 1536) :
    dev x k * Ideal.div 1 (devRoot x) * (1 + sc k) + sh k = mnorm x sc sh k := by
  unfold mnorm
  exact congrArg (fun q => q * (1 + sc k) + sh k) (mul_recip (dev x k) (devRoot x) (devRoot_ne_zero x))

/-- The number of the pair that a lane is of. -/
def pr (l : Fin 128) : Fin 64 := ⟨l.val / 2, by have := l.isLt; omega⟩
/-- The first lane of a pair; -/
def lo (p : Fin 64) : Fin 128 := ⟨2 * p.val, by have := p.isLt; omega⟩
/-- the second. -/
def hi (p : Fin 64) : Fin 128 := ⟨2 * p.val + 1, by have := p.isLt; omega⟩

/-- A head's vector, rotated pair by pair. -/
def rot (c s : Fin 64 → EReal) (v : Fin 128 → EReal) (l : Fin 128) : EReal :=
  if l.val % 2 = 0 then v (lo (pr l)) * c (pr l) - v (hi (pr l)) * s (pr l) else v (lo (pr l)) * s (pr l) + v (hi (pr l)) * c (pr l)

/-- A table's entry for a lane, picked out by a sum. -/
theorem pick (t : Fin 64 → EReal) (l : Fin 128) (u : EReal) : (∑ j : Fin 64, t j * (if j = pr l then u else 0)) = t (pr l) * u := by
  rw [Finset.sum_eq_single (pr l) (fun j _ h => by rw [if_neg h, mul_zero]) (fun h => absurd (Finset.mem_univ _) h), if_pos rfl]

/-- The lane that a lane is paired with. -/
def swap (l : Fin 128) : Fin 128 := if l.val % 2 = 0 then hi (pr l) else lo (pr l)
/-- The sign of the sine at a lane. -/
def sgn (l : Fin 128) : EReal := if l.val % 2 = 0 then -1 else 1

theorem lo_even {l : Fin 128} (h : l.val % 2 = 0) : lo (pr l) = l := Fin.ext (by show 2 * (l.val / 2) = l.val; omega)
theorem hi_odd {l : Fin 128} (h : ¬ l.val % 2 = 0) : hi (pr l) = l := Fin.ext (by show 2 * (l.val / 2) + 1 = l.val; omega)

/-- The rotation as the kernel writes it. -/
theorem rot_eq (c s : Fin 64 → EReal) (v : Fin 128 → EReal) (l : Fin 128) :
    v l * (c (pr l) * 1) + v (swap l) * (s (pr l) * sgn l) = rot c s v l := by
  unfold rot swap sgn
  by_cases h : l.val % 2 = 0
  · simp only [if_pos h, lo_even h, mul_one]
    rw [mul_neg, mul_one, mul_neg, ← sub_eq_add_neg]
  · simp only [if_neg h, hi_odd h, mul_one]
    exact add_comm _ _

end Cert.QkvVal
-- ==== Proof.CtxPay.lean ====
/-
  The words of one grid point of the kernel, read at an index over the extended reals. -/
module

public import proofs.«01_k».proof.Proof.Gen.CtxIdeal.Skeleton
public import proofs.«01_k».proof.Proof.ProjModel
public import Idealize.ShloMosaic.Lib.Pointwise
public import Idealize.ShloMosaic.Lib.Pipeline.ReadBack

@[expose] public section
set_option maxRecDepth 16384
noncomputable section
namespace Cert.CtxIdeal.Val
open Idealize.ShloMosaic Cert.CtxIdeal Cert.CtxIdeal.Gen Cert.FfnVal Cert.ProjVal

theorem named_inv : (Named.named κ "inv_d" 0x3A2AAAAB#32 : Ideal .f32) = ((1 / 1536 : ℝ) : EReal) :=
  IdealRules.named_const.ideal_named_scalar _ _ _ _ rfl

/-- The scale of a row, from the row. -/
theorem scale_apply (X : FVec Ideal S256x1536 .f32) (r : Fin 256) :
    select (cmpf .oeq (shapeCast S256x1 (multiReduction .maximumf [1] S256 (absf X) 0xFF800000#32 reduces_S256x1536_S256 (.inl rfl) rfl) shapeCasts_S256_S256x1) (broadcast S256x1 (Scalar.ofBits .f32 0x00000000#32 : Ideal .f32)))
      (broadcast S256x1 (Scalar.ofBits .f32 0x3F800000#32 : Ideal .f32))
      (divf (shapeCast S256x1 (multiReduction .maximumf [1] S256 (absf X) 0xFF800000#32 reduces_S256x1536_S256 (.inl rfl) rfl) shapeCasts_S256_S256x1) (broadcast S256x1 (Scalar.ofBits .f32 0x43E00000#32 : Ideal .f32))) (ix2 r 0)
      = rowSc (fun k => X (ix2 r k)) := by
  have g : ∀ v957 : FVec Ideal S256 .f32, select (cmpf .oeq (shapeCast S256x1 v957 shapeCasts_S256_S256x1) (broadcast S256x1 (Scalar.ofBits .f32 0x00000000#32 : Ideal .f32)))
      (broadcast S256x1 (Scalar.ofBits .f32 0x3F800000#32 : Ideal .f32))
      (divf (shapeCast S256x1 v957 shapeCasts_S256_S256x1) (broadcast S256x1 (Scalar.ofBits .f32 0x43E00000#32 : Ideal .f32))) (ix2 r 0) = quant (v957 (ix1 r)) := by
    intro v957
    unfold quant top8
    pointwise
  exact (g _).trans (congrArg quant (red_max2 (absf X) reduces_S256x1536_S256 (.inl rfl) rfl r))

/-- A code of a row. -/
theorem code_apply (X : FVec Ideal S256x1536 .f32) (sc : FVec Ideal S256x1 .f32) (r : Fin 256) (k : Fin 1536) (hs : sc (ix2 r 0) = rowSc (fun k => X (ix2 r k))) :
    (truncf .fp8e4m3 (minimumf (broadcast S256x1536 (Scalar.ofBits .f32 0x43E00000#32 : Ideal .f32)) (maximumf (broadcast S256x1536 (Scalar.ofBits .f32 0xC3E00000#32 : Ideal .f32))
      (mulf X (broadcastTo S256x1536 (divf (broadcast S256x1 (Scalar.ofBits .f32 0x3F800000#32 : Ideal .f32)) sc) broadcasts_S256x1_S256x1536)))) bitsLt_fp8e4m3_f32 : FVec Ideal S256x1536 .fp8e4m3) (ix2 r k)
      = rowCode (fun k => X (ix2 r k)) k := by
  unfold rowCode
  rw [← mul_recip _ _ (rowSc_ne_zero _), ← hs]
  unfold clip top8 bot8
  pointwise

/-- The scales as the row that is stored. -/
theorem scale_row (v964 : FVec Ideal S256x1 .f32) (r : Fin 256) :
    extractStridedSlice S1x256 ![0, 0] (transpose S128x256 [1, 0] (broadcastTo S256x128 (shapeCast S256x1 v964 shapeCasts_S256x1_S256x1) broadcasts_S256x1_S256x128) transposes_S256x128_p1_0_S128x256) slices_S128x256_o0_0_S1x256 (ix2 0 r)
      = v964 (ix2 r 0) := by
  pointwise

/-- The first head of a pair, projected. -/
theorem head_lo (C : FVec Ideal S256x1536 .fp8e4m3) (sc : FVec Ideal S256x1 .f32) (A B : Vec Ideal S1x1536x128 .fp8e4m3) (s b : Vec Ideal S1x128 .f32) (r : Fin 256) (l : Fin 128) :
    (addf (mulf (mulf (extractStridedSlice S256x128 ![0, 0] (matmul (φ₂ := .fp8e4m3) dot_S256x1536_S1536x256_S256x256_1_0_0_1_n_n none C
      (concatenate S1536x256 1 [⟨S1536x128, shapeCast S1536x128 A shapeCasts_S1x1536x128_S1536x128⟩, ⟨S1536x128, shapeCast S1536x128 B shapeCasts_S1x1536x128_S1536x128⟩] concatenates_S1536x128_S1536x128_S1536x256_d1)
      (constant S256x256 .f32 0x00000000#32 : FVec Ideal S256x256 .f32)) slices_S256x256_o0_0_S256x128) (broadcastTo S256x128 sc broadcasts_S256x1_S256x128))
      (broadcastTo S256x128 s broadcasts_S1x128_S256x128)) (broadcastTo S256x128 b broadcasts_S1x128_S256x128) : FVec Ideal S256x128 .f32) (ix2 r l)
      = (∑ k : Fin 1536, C (ix2 r k) * A (ix3 0 k l)) * sc (ix2 r 0) * s (ix2 0 l) + b (ix2 0 l) := by
  pointwise

/-- The second head of a pair, projected. -/
theorem head_hi (C : FVec Ideal S256x1536 .fp8e4m3) (sc : FVec Ideal S256x1 .f32) (A B : Vec Ideal S1x1536x128 .fp8e4m3) (s b : Vec Ideal S1x128 .f32) (r : Fin 256) (l : Fin 128) :
    (addf (mulf (mulf (extractStridedSlice S256x128 ![0, 128] (matmul (φ₂ := .fp8e4m3) dot_S256x1536_S1536x256_S256x256_1_0_0_1_n_n none C
      (concatenate S1536x256 1 [⟨S1536x128, shapeCast S1536x128 A shapeCasts_S1x1536x128_S1536x128⟩, ⟨S1536x128, shapeCast S1536x128 B shapeCasts_S1x1536x128_S1536x128⟩] concatenates_S1536x128_S1536x128_S1536x256_d1)
      (constant S256x256 .f32 0x00000000#32 : FVec Ideal S256x256 .f32)) slices_S256x256_o0_128_S256x128) (broadcastTo S256x128 sc broadcasts_S256x1_S256x128))
      (broadcastTo S256x128 s broadcasts_S1x128_S256x128)) (broadcastTo S256x128 b broadcasts_S1x128_S256x128) : FVec Ideal S256x128 .f32) (ix2 r l)
      = (∑ k : Fin 1536, C (ix2 r k) * B (ix3 0 k l)) * sc (ix2 r 0) * s (ix2 0 l) + b (ix2 0 l) := by
  pointwise

/-- One more square. -/
theorem add_sq (A Y : FVec Ideal S256x128 .f32) (r : Fin 256) (l : Fin 128) (a y : EReal) (hA : A (ix2 r l) = a) (hY : Y (ix2 r l) = y) :
    (addf A (mulf Y Y) : FVec Ideal S256x128 .f32) (ix2 r l) = a + y * y := by
  rw [← hA, ← hY]; rfl

/-- The reciprocal of the root of the mean of the squares. -/
theorem inv_apply (A : FVec Ideal S256x128 .f32) (y : Fin 12 → Fin 128 → EReal) (r : Fin 256) (hA : ∀ l : Fin 128, A (ix2 r l) = laneQ (fun h => y h l)) :
    k0_pay49 (F := Ideal) A (ix2 r 0) = rootK y := by
  unfold rootK eps
  rw [← Finset.sum_congr rfl fun l _ => hA l, ← named_inv]
  pointwise [k0_pay49]

/-- A head of the normalised projection, as it is stored. -/
theorem norm_apply (V : FVec Ideal S256x128 .f32) (inv : FVec Ideal S256x1 .f32) (g : Vec Ideal S1x128 .f32) (r : Fin 256) (l : Fin 128) :
    (shapeCast S1x1x256x128 (truncf .bf16 (mulf (mulf V (broadcastTo S256x128 inv broadcasts_S256x1_S256x128)) (broadcastTo S256x128 g broadcasts_S1x128_S256x128)) bitsLt_bf16_f32) shapeCasts_S256x128_S1x1x256x128 : FVec Ideal S1x1x256x128 .bf16) (ix4 0 0 r l)
      = V (ix2 r l) * inv (ix2 r 0) * g (ix2 0 l) := by
  pointwise

/-- A head of the values, transposed as it is stored. -/
theorem tr_apply (V : FVec Ideal S256x128 .f32) (r : Fin 256) (l : Fin 128) :
    (shapeCast S1x1x128x256 (truncf .bf16 (transpose S128x256 [1, 0] V transposes_S256x128_p1_0_S128x256) bitsLt_bf16_f32) shapeCasts_S128x256_S1x1x128x256 : FVec Ideal S1x1x128x256 .bf16) (ix4 0 0 l r)
      = V (ix2 r l) := by
  pointwise

theorem cast_self (v : FVec Ideal S256x128 .f32) (h : S256x128.ShapeCasts S256x128) (r : Fin 256) (l : Fin 128) : shapeCast S256x128 v h (ix2 r l) = v (ix2 r l) := by
  pointwise

theorem cast_codes (v : FVec Ideal S256x1536 .fp8e4m3) (r : Fin 256) (k : Fin 1536) : shapeCast S1x256x1536 v shapeCasts_S256x1536_S1x256x1536 (ix3 0 r k) = v (ix2 r k) := by
  pointwise

theorem cast_in (v : Vec Ideal S1x256x1536 .bf16) (r : Fin 256) (k : Fin 1536) : (extf .f32 (shapeCast S256x1536 v shapeCasts_S1x256x1536_S256x1536) bitsLt_bf16_f32 : FVec Ideal S256x1536 .f32) (ix2 r k) = v (ix3 0 r k) := by
  pointwise

end Cert.CtxIdeal.Val
-- ==== Proof.ProjBlock.lean ====
/-
  The pieces that a grid point of a projection kernel stores: the heads of a projection kept in the scratch, read back, normalised and stored, and the values stored transposed. -/
module

public import proofs.«01_k».proof.Proof.CtxPay
public import Idealize.ShloMosaic.Lib.Pipeline.ValueKit

@[expose] public section
set_option maxRecDepth 16384
noncomputable section
namespace Cert.CtxIdeal.Val
open Idealize.ShloMosaic Idealize.ShloMosaic.Tactic Cert.CtxIdeal Cert.CtxIdeal.Gen Cert.FfnVal Cert.ProjVal

variable {sg : RefSig}

/-- A row's projection onto every head. -/
def projRow (x : Fin 1536 → EReal) (w : S12x1536x128.Idx → EReal) (s b : S12x128.Idx → EReal) : Fin 12 → Fin 128 → EReal :=
  fun h l => lin x (fun k => w (ix3 h k l)) (s (ix2 h l)) (b (ix2 h l))

/-- A load of one head's weights. -/
theorem rdW (arg : Memref sg .tc .vmem S12x1536x128 .fp8e4m3) (harg : arg.IsWhole) (w : Vec Ideal S12x1536x128 .fp8e4m3) (n : ℕ) (hn : n < 12)
    (h : ∀ a, ![n, 0, 0] a + S1x1536x128.size a ≤ S12x1536x128.size a) (k : Fin 1536) (l : Fin 128) :
    View.readAt (Elt Ideal) arg.view (Rect.unit (s := S12x1536x128) ![n, 0, 0] S1x1536x128.size h).toLoadRect (harg.unread w) (ix3 0 k l) = w (ix3 ⟨n, hn⟩ k l) := by
  refine (congrFun (harg.read_unread w) _).trans (congrArg w ?_)
  funext a
  refine Fin.ext ((Rect.idx_unit_val _ _ h _ a).trans ?_)
  match a with
  | ⟨0, _⟩ => rfl
  | ⟨1, _⟩ => exact Nat.zero_add _
  | ⟨2, _⟩ => exact Nat.zero_add _

/-- A load of one head's row of scales, of the bias, or of the gain. -/
theorem rdS (arg : Memref sg .tc .vmem S12x128 .f32) (harg : arg.IsWhole) (s : Vec Ideal S12x128 .f32) (n : ℕ) (hn : n < 12)
    (h : ∀ a, ![n, 0] a + S1x128.size a ≤ S12x128.size a) (l : Fin 128) :
    View.readAt (Elt Ideal) arg.view (Rect.unit (s := S12x128) ![n, 0] S1x128.size h).toLoadRect (harg.unread s) (ix2 0 l) = s (ix2 ⟨n, hn⟩ l) := by
  refine (congrFun (harg.read_unread s) _).trans (congrArg s ?_)
  funext a
  refine Fin.ext ((Rect.idx_unit_val _ _ h _ a).trans ?_)
  match a with
  | ⟨0, _⟩ => rfl
  | ⟨1, _⟩ => exact Nat.zero_add _

section Heads
variable (C : FVec Ideal S256x1536 .fp8e4m3) (sc : FVec Ideal S256x1 .f32) (X : Fin 256 → Fin 1536 → EReal)
  (hC : ∀ r k, C (ix2 r k) = rowCode (X r) k) (hs : ∀ r, sc (ix2 r 0) = rowSc (X r))
  (aw : Memref sg .tc .vmem S12x1536x128 .fp8e4m3) (haw : aw.IsWhole) (w : Vec Ideal S12x1536x128 .fp8e4m3)
  (aS : Memref sg .tc .vmem S12x128 .f32) (haS : aS.IsWhole) (s : Vec Ideal S12x128 .f32)
  (ab : Memref sg .tc .vmem S12x128 .f32) (hab : ab.IsWhole) (b : Vec Ideal S12x128 .f32)
include hC hs

/-- The first head of a pair. -/
theorem headLo (n n' : ℕ) (hn : n < 12) (h : ∀ a, ![n, 0, 0] a + S1x1536x128.size a ≤ S12x1536x128.size a) (h' : ∀ a, ![n', 0, 0] a + S1x1536x128.size a ≤ S12x1536x128.size a)
    (hS : ∀ a, ![n, 0] a + S1x128.size a ≤ S12x128.size a) (r : Fin 256) (l : Fin 128) :
    (addf (mulf (mulf (extractStridedSlice S256x128 ![0, 0] (matmul (φ₂ := .fp8e4m3) dot_S256x1536_S1536x256_S256x256_1_0_0_1_n_n none C
      (concatenate S1536x256 1 [⟨S1536x128, shapeCast S1536x128 (View.readAt (Elt Ideal) aw.view (Rect.unit (s := S12x1536x128) ![n, 0, 0] S1x1536x128.size h).toLoadRect (haw.unread w) : Vec Ideal S1x1536x128 .fp8e4m3) shapeCasts_S1x1536x128_S1536x128⟩,
        ⟨S1536x128, shapeCast S1536x128 (View.readAt (Elt Ideal) aw.view (Rect.unit (s := S12x1536x128) ![n', 0, 0] S1x1536x128.size h').toLoadRect (haw.unread w) : Vec Ideal S1x1536x128 .fp8e4m3) shapeCasts_S1x1536x128_S1536x128⟩] concatenates_S1536x128_S1536x128_S1536x256_d1)
      (constant S256x256 .f32 0x00000000#32 : FVec Ideal S256x256 .f32)) slices_S256x256_o0_0_S256x128) (broadcastTo S256x128 sc broadcasts_S256x1_S256x128))
      (broadcastTo S256x128 (View.readAt (Elt Ideal) aS.view (Rect.unit (s := S12x128) ![n, 0] S1x128.size hS).toLoadRect (haS.unread s) : Vec Ideal S1x128 .f32) broadcasts_S1x128_S256x128))
      (broadcastTo S256x128 (View.readAt (Elt Ideal) ab.view (Rect.unit (s := S12x128) ![n, 0] S1x128.size hS).toLoadRect (hab.unread b) : Vec Ideal S1x128 .f32) broadcasts_S1x128_S256x128) : FVec Ideal S256x128 .f32) (ix2 r l)
      = projRow (X r) w s b ⟨n, hn⟩ l := by
  refine (head_lo C sc _ _ _ _ r l).trans ?_
  unfold projRow lin
  rw [hs r, rdS aS haS s n hn hS l, rdS ab hab b n hn hS l]
  refine congrArg (fun q : EReal => q * rowSc (X r) * s (ix2 ⟨n, hn⟩ l) + b (ix2 ⟨n, hn⟩ l)) (Finset.sum_congr rfl fun k _ => ?_)
  exact congrArg₂ (fun p q : EReal => p * q) (hC r k) (rdW aw haw w n hn h k l)

/-- The second head of a pair. -/
theorem headHi (n' n : ℕ) (hn : n < 12) (h' : ∀ a, ![n', 0, 0] a + S1x1536x128.size a ≤ S12x1536x128.size a) (h : ∀ a, ![n, 0, 0] a + S1x1536x128.size a ≤ S12x1536x128.size a)
    (hS : ∀ a, ![n, 0] a + S1x128.size a ≤ S12x128.size a) (r : Fin 256) (l : Fin 128) :
    (addf (mulf (mulf (extractStridedSlice S256x128 ![0, 128] (matmul (φ₂ := .fp8e4m3) dot_S256x1536_S1536x256_S256x256_1_0_0_1_n_n none C
      (concatenate S1536x256 1 [⟨S1536x128, shapeCast S1536x128 (View.readAt (Elt Ideal) aw.view (Rect.unit (s := S12x1536x128) ![n', 0, 0] S1x1536x128.size h').toLoadRect (haw.unread w) : Vec Ideal S1x1536x128 .fp8e4m3) shapeCasts_S1x1536x128_S1536x128⟩,
        ⟨S1536x128, shapeCast S1536x128 (View.readAt (Elt Ideal) aw.view (Rect.unit (s := S12x1536x128) ![n, 0, 0] S1x1536x128.size h).toLoadRect (haw.unread w) : Vec Ideal S1x1536x128 .fp8e4m3) shapeCasts_S1x1536x128_S1536x128⟩] concatenates_S1536x128_S1536x128_S1536x256_d1)
      (constant S256x256 .f32 0x00000000#32 : FVec Ideal S256x256 .f32)) slices_S256x256_o0_128_S256x128) (broadcastTo S256x128 sc broadcasts_S256x1_S256x128))
      (broadcastTo S256x128 (View.readAt (Elt Ideal) aS.view (Rect.unit (s := S12x128) ![n, 0] S1x128.size hS).toLoadRect (haS.unread s) : Vec Ideal S1x128 .f32) broadcasts_S1x128_S256x128))
      (broadcastTo S256x128 (View.readAt (Elt Ideal) ab.view (Rect.unit (s := S12x128) ![n, 0] S1x128.size hS).toLoadRect (hab.unread b) : Vec Ideal S1x128 .f32) broadcasts_S1x128_S256x128) : FVec Ideal S256x128 .f32) (ix2 r l)
      = projRow (X r) w s b ⟨n, hn⟩ l := by
  refine (head_hi C sc _ _ _ _ r l).trans ?_
  unfold projRow lin
  rw [hs r, rdS aS haS s n hn hS l, rdS ab hab b n hn hS l]
  refine congrArg (fun q : EReal => q * rowSc (X r) * s (ix2 ⟨n, hn⟩ l) + b (ix2 ⟨n, hn⟩ l)) (Finset.sum_congr rfl fun k _ => ?_)
  exact congrArg₂ (fun p q : EReal => p * q) (hC r k) (rdW aw haw w n hn h k l)

end Heads

section Pieces
variable (Y : Fin 256 → Fin 12 → Fin 128 → EReal) (g : S12x128.Idx → EReal)

/-- The projected rows of the block, side by side as the scratch keeps them; -/
def arrY : S256x1536.Idx → EReal :=
  fun j => Y (j 0) ⟨(j 1).val / 128, Nat.div_lt_of_lt_mul (j 1).isLt⟩ ⟨(j 1).val % 128, Nat.mod_lt _ (by decide)⟩
/-- normalised, head by head; -/
def arrN : S1x12x256x128.Idx → EReal := fun j => rms (Y (j 2)) (g (ix2 (j 1) (j 3))) (j 1) (j 3)
/-- head by head; -/
def arrH : S1x12x256x128.Idx → EReal := fun j => Y (j 2) (j 1) (j 3)
/-- head by head and transposed. -/
def arrT : S1x12x128x256.Idx → EReal := fun j => Y (j 3) (j 1) (j 2)

theorem arrY_at (n : ℕ) (hn : n < 12) (r : Fin 256) (l : Fin 128) (j : S256x1536.Idx) (h0 : (j 0).val = r.val) (h1 : (j 1).val = 128 * n + l.val) : arrY Y j = Y r ⟨n, hn⟩ l := by
  have hl := l.isLt
  unfold arrY
  refine congr (congr (congrArg Y (Fin.ext h0)) (Fin.ext ?_)) (Fin.ext ?_)
  · show (j 1).val / 128 = n; omega
  · show (j 1).val % 128 = l.val; omega

/-- A head as it is kept. -/
theorem keep_piece (n o : ℕ) (hn : n < 12) (ho : o = 128 * n) (h : ∀ a, ![0, o] a + S256x128.size a ≤ S256x1536.size a) (V : FVec Ideal S256x128 .f32)
    (hV : ∀ r l, V (ix2 r l) = Y r ⟨n, hn⟩ l) (x : S256x128.Idx) :
    shapeCast S256x128 V rfl x = arrY Y ((Rect.unit (s := S256x1536) ![0, o] S256x128.size h).emb x) := by
  obtain ⟨r, l, rfl⟩ : ∃ r l, x = ix2 r l := ⟨x 0, x 1, eq_ix2 x⟩
  refine (cast_self _ _ r l).trans ((hV r l).trans (arrY_at Y n hn r l _ ?_ ?_).symm)
  · show 0 + 1 * r.val = r.val; omega
  · show o + 1 * l.val = 128 * n + l.val; omega

/-- A load of what a list of stores left, when the list leaves `G`. -/
theorem read_of {s : Shape} {e : EltTy} (v : View sg .tc .vmem s e) (L : List (View.Piece (Elt Ideal) s e)) (B : LoadRect s) (j : B.shape.Idx) (G : s.Idx → Elt Ideal e)
    (h : ∀ y, View.canon L y = G y) : v.readCov L B j = G (B.idx j) :=
  (congrFun (View.readCov_eq_canon' v L B) j).trans (h _)

/-- A head read back. -/
theorem keep_read (arg : Memref sg .tc .vmem S256x1536 .f32) (L : List (View.Piece (Elt Ideal) S256x1536 .f32)) (hL : ∀ y, View.canon L y = arrY Y y) (n o : ℕ) (hn : n < 12) (ho : o = 128 * n)
    (h : ∀ a, ![0, o] a + S256x128.size a ≤ S256x1536.size a) (r : Fin 256) (l : Fin 128) :
    arg.view.readCov L (Rect.unit (s := S256x1536) ![0, o] S256x128.size h).toLoadRect (ix2 r l) = Y r ⟨n, hn⟩ l := by
  refine (read_of arg.view L _ _ (arrY Y) hL).trans (arrY_at Y n hn r l _ ?_ ?_)
  · show 0 + 1 * r.val = r.val; omega
  · show o + 1 * l.val = 128 * n + l.val; omega

theorem eq_ix4' (a b : ℕ) (x : (⟨4, ![1, 1, a, b]⟩ : Shape).Idx) : x = ix4 0 0 (x 2) (x 3) := by
  funext i
  match i with
  | ⟨0, _⟩ => exact Fin.fin_one_eq_zero (x 0)
  | ⟨1, _⟩ => exact Fin.fin_one_eq_zero (x 1)
  | ⟨2, _⟩ => rfl
  | ⟨3, _⟩ => rfl

/-- A head normalised, as it is stored. -/
theorem norm_piece (n : ℕ) (hn : n < 12) (h : ∀ a, ![0, n, 0, 0] a + S1x1x256x128.size a ≤ S1x12x256x128.size a) (V : FVec Ideal S256x128 .f32) (inv : FVec Ideal S256x1 .f32)
    (G : Vec Ideal S1x128 .f32) (hV : ∀ r l, V (ix2 r l) = Y r ⟨n, hn⟩ l) (hi : ∀ r, inv (ix2 r 0) = rootK (Y r)) (hG : ∀ l, G (ix2 0 l) = g (ix2 ⟨n, hn⟩ l)) (x : S1x1x256x128.Idx) :
    (shapeCast S1x1x256x128 (truncf .bf16 (mulf (mulf V (broadcastTo S256x128 inv broadcasts_S256x1_S256x128)) (broadcastTo S256x128 G broadcasts_S1x128_S256x128)) bitsLt_bf16_f32) shapeCasts_S256x128_S1x1x256x128 : FVec Ideal S1x1x256x128 .bf16) x
      = arrN Y g ((Rect.unit (s := S1x12x256x128) ![0, n, 0, 0] S1x1x256x128.size h).emb x) := by
  obtain ⟨r, l, rfl⟩ : ∃ (r : Fin 256) (l : Fin 128), x = ix4 0 0 r l := ⟨x 2, x 3, eq_ix4' 256 128 x⟩
  refine (norm_apply V inv G r l).trans ?_
  rw [hV, hi, hG]
  refine (rms_eq (Y r) _ ⟨n, hn⟩ l).trans ?_
  unfold arrN
  have e1 : (Rect.unit (s := S1x12x256x128) ![0, n, 0, 0] S1x1x256x128.size h).emb (ix4 0 0 r l) 1 = (⟨n, hn⟩ : Fin 12) := Fin.ext (by show n + 1 * 0 = n; omega)
  have e2 : (Rect.unit (s := S1x12x256x128) ![0, n, 0, 0] S1x1x256x128.size h).emb (ix4 0 0 r l) 2 = r := Fin.ext (by show 0 + 1 * r.val = r.val; omega)
  have e3 : (Rect.unit (s := S1x12x256x128) ![0, n, 0, 0] S1x1x256x128.size h).emb (ix4 0 0 r l) 3 = l := Fin.ext (by show 0 + 1 * l.val = l.val; omega)
  exact (congr (congr (congrArg (fun (y : Fin 256) (a : Fin 12) (b : Fin 128) => rms (Y y) (g (ix2 a b)) a b) e2) e1) e3).symm

/-- A head of the values, as it is stored. -/
theorem val_piece (n : ℕ) (hn : n < 12) (h : ∀ a, ![0, n, 0, 0] a + S1x1x128x256.size a ≤ S1x12x128x256.size a) (V : FVec Ideal S256x128 .f32)
    (hV : ∀ r l, V (ix2 r l) = Y r ⟨n, hn⟩ l) (x : S1x1x128x256.Idx) :
    (shapeCast S1x1x128x256 (truncf .bf16 (transpose S128x256 [1, 0] V transposes_S256x128_p1_0_S128x256) bitsLt_bf16_f32) shapeCasts_S128x256_S1x1x128x256 : FVec Ideal S1x1x128x256 .bf16) x
      = arrT Y ((Rect.unit (s := S1x12x128x256) ![0, n, 0, 0] S1x1x128x256.size h).emb x) := by
  obtain ⟨l, r, rfl⟩ : ∃ (l : Fin 128) (r : Fin 256), x = ix4 0 0 l r := ⟨x 2, x 3, eq_ix4' 128 256 x⟩
  refine (tr_apply V r l).trans ((hV r l).trans ?_)
  unfold arrT
  refine congr (congr (congrArg Y (Fin.ext ?_)) (Fin.ext ?_)) (Fin.ext ?_)
  · show r.val = 0 + 1 * r.val; omega
  · show n = n + 1 * 0; omega
  · show l.val = 0 + 1 * l.val; omega

end Pieces
end Cert.CtxIdeal.Val
-- ==== Proof.QkvPay.lean ====
/-
  The words of one grid point of the kernel, read at an index over the extended reals. -/
module

public import proofs.«01_k».proof.Proof.Gen.QkvIdeal.Skeleton
public import proofs.«01_k».proof.Proof.QkvModel
public import proofs.«01_k».proof.Proof.ProjBlock

@[expose] public section
set_option maxRecDepth 16384
noncomputable section
namespace Cert.QkvIdeal.Val
open Idealize.ShloMosaic Cert.QkvIdeal Cert.QkvIdeal.Gen Cert.FfnVal Cert.ProjVal Cert.QkvVal

theorem half_word : ∀ l : Fin 128, Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 2#32 0#32))
              (Scalar.extui (Scalar.cmpi CmpIPredicate.slt 2#32 0#32))))
          (IntOp.cmpi CmpIPredicate.ne (IntOp.remsi ArithUnit.vector (BitVec.ofNat 32 l.val) 2#32) 0#32))
        (IntOp.subi (IntOp.divsi ArithUnit.vector (BitVec.ofNat 32 l.val) 2#32) 1#32)
        (IntOp.divsi ArithUnit.vector (BitVec.ofNat 32 l.val) 2#32) = BitVec.ofNat 32 (pr l).val := by decide +kernel

theorem ofNat_eq_iff (a b : Fin 64) : (BitVec.ofNat 32 a.val = BitVec.ofNat 32 b.val) ↔ b = a := by
  constructor
  · intro h
    have := congrArg BitVec.toNat h
    simp only [BitVec.toNat_ofNat] at this
    have ha := a.isLt
    have hb := b.isLt
    exact Fin.ext (by omega)
  · rintro rfl; rfl

theorem eq_word (a b : BitVec 32) (p : Prop) [Decidable p] (h : a = b ↔ p) : IntOp.cmpi CmpIPredicate.eq a b = if p then 1#1 else 0#1 := by
  by_cases hp : p
  · rw [if_pos hp, h.mpr hp]; simp [IntOp.cmpi]
  · rw [if_neg hp]; have : a ≠ b := fun e => hp (h.mp e); simp only [IntOp.cmpi, beq_eq_false_iff_ne.mpr this]; rfl

/-- Which pair's entry a lane takes. -/
theorem pay10_apply (j : Fin 64) (l : Fin 128) : k0_pay10 (ix2 j l) = if j = pr l then 1#1 else 0#1 := by
  pointwise [k0_pay10]
  rw [half_word l]
  exact eq_word _ _ _ (ofNat_eq_iff (pr l) j)

theorem even_word : ∀ l : Fin 128, IntOp.cmpi CmpIPredicate.eq
      (Scalar.select
        (IntOp.andi
          (IntOp.xori
            (IntOp.cmpi CmpIPredicate.slt
              (IntOp.remsi ArithUnit.vector (BitVec.ofNat 32 l.val)
                (Scalar.select (Scalar.cmpi CmpIPredicate.eq 2#32 0#32) 1#32 2#32))
              0#32)
            (Scalar.cmpi CmpIPredicate.slt 2#32 0#32))
          (IntOp.cmpi CmpIPredicate.ne
            (IntOp.remsi ArithUnit.vector (BitVec.ofNat 32 l.val)
              (Scalar.select (Scalar.cmpi CmpIPredicate.eq 2#32 0#32) 1#32 2#32))
            0#32))
        (IntOp.addi
          (IntOp.remsi ArithUnit.vector (BitVec.ofNat 32 l.val)
            (Scalar.select (Scalar.cmpi CmpIPredicate.eq 2#32 0#32) 1#32 2#32))
          2#32)
        (IntOp.remsi ArithUnit.vector (BitVec.ofNat 32 l.val)
          (Scalar.select (Scalar.cmpi CmpIPredicate.eq 2#32 0#32) 1#32 2#32)))
      0#32 =
    if l.val % 2 = 0 then 1#1 else 0#1 := by decide +kernel

/-- Which lanes are the first of their pair. -/
theorem even_apply (r : Fin 256) (l : Fin 128) : (k0_pay17 2#32 k0_pay14 k0_pay15 k0_pay16 0#32) (ix2 r l) = if l.val % 2 = 0 then 1#1 else 0#1 := by
  pointwise [k0_pay17, k0_pay14, k0_pay15, k0_pay16]
  exact even_word l

theorem sel_bit {α : Type} (p : Prop) [Decidable p] (a b : α) : Scalar.select (if p then 1#1 else 0#1) a b = if p then a else b := by
  by_cases h : p
  · simp [h, Scalar.select]
  · simp [h, Scalar.select]

theorem one_bits : (Scalar.ofBits .f32 0x3F800000#32 : Ideal .f32) = (1 : EReal) := by pointwise
theorem neg_one_bits : (Scalar.ofBits .f32 0xBF800000#32 : Ideal .f32) = (-1 : EReal) := by
  show Ideal.ofBits .f32 0xBF800000#32 = -1
  simp [Ideal.ofBits, Ideal.ieee]
  rw [← EReal.coe_mul]
  norm_num

/-- The cosines of a row, lane by lane. -/
theorem cos_apply (t : Vec Ideal S64x256 .f32) (r : Fin 256) (l : Fin 128) :
    k0_pay12 (F := Ideal) (k0_pay11 (F := Ideal)) t (ix2 r l) = t (ix2 (pr l) r) * 1 := by
  refine Eq.trans ?_ (pick (fun j => t (ix2 j r)) l 1)
  have h : ∀ j : Fin 64, k0_pay11 (F := Ideal) (ix2 j l) = if j = pr l then (1 : EReal) else 0 := by
    intro j
    have e : k0_pay11 (F := Ideal) (ix2 j l) = Scalar.select (k0_pay10 (ix2 j l)) (1 : EReal) 0 := by
      pointwise [k0_pay11]
    rw [e, pay10_apply j l, sel_bit]
  have g : ∀ P : FVec Ideal S64x128 .f32, k0_pay12 (F := Ideal) P t (ix2 r l) = ∑ j : Fin 64, t (ix2 j r) * P (ix2 j l) := by
    intro P
    pointwise [k0_pay12]
  refine (g _).trans (Finset.sum_congr rfl fun j _ => ?_)
  rw [h j]

/-- The signs, at each lane's pair. -/
def signs : FVec Ideal S64x128 .f32 :=
  select k0_pay10 (select (cmpi .eq (select (andi (xori (cmpi .slt (remsi (iota Kind.tc S64x128 32 [1] iota_S64x128_d1_w32) (broadcast S64x128 (2#32 : BitVec 32))) (broadcast S64x128 0#32)) (broadcast S64x128 (0#1 : BitVec 1)))
      (cmpi .ne (remsi (iota Kind.tc S64x128 32 [1] iota_S64x128_d1_w32) (broadcast S64x128 (2#32 : BitVec 32))) (broadcast S64x128 0#32)))
      (addi (remsi (iota Kind.tc S64x128 32 [1] iota_S64x128_d1_w32) (broadcast S64x128 (2#32 : BitVec 32))) (broadcast S64x128 (2#32 : BitVec 32)))
      (remsi (iota Kind.tc S64x128 32 [1] iota_S64x128_d1_w32) (broadcast S64x128 (2#32 : BitVec 32)))) (broadcast S64x128 0#32))
    (broadcast S64x128 (Scalar.ofBits .f32 0xBF800000#32 : Ideal .f32)) (broadcast S64x128 (Scalar.ofBits .f32 0x3F800000#32 : Ideal .f32)))
    (broadcast S64x128 (Scalar.ofBits .f32 0x00000000#32 : Ideal .f32))

theorem sign_word : ∀ l : Fin 128, IntOp.cmpi CmpIPredicate.eq
      (Scalar.select
        (IntOp.andi (IntOp.xori (IntOp.cmpi CmpIPredicate.slt (IntOp.remsi ArithUnit.vector (BitVec.ofNat 32 l.val) 2#32) 0#32) 0#1)
          (IntOp.cmpi CmpIPredicate.ne (IntOp.remsi ArithUnit.vector (BitVec.ofNat 32 l.val) 2#32) 0#32))
        (IntOp.addi (IntOp.remsi ArithUnit.vector (BitVec.ofNat 32 l.val) 2#32) 2#32)
        (IntOp.remsi ArithUnit.vector (BitVec.ofNat 32 l.val) 2#32))
      0#32 =
    if l.val % 2 = 0 then 1#1 else 0#1 := by decide +kernel

theorem signs_apply (j : Fin 64) (l : Fin 128) : signs (ix2 j l) = if j = pr l then sgn l else 0 := by
  have h : signs (ix2 j l) = Scalar.select (k0_pay10 (ix2 j l)) (Scalar.select (IntOp.cmpi CmpIPredicate.eq
      (Scalar.select
        (IntOp.andi (IntOp.xori (IntOp.cmpi CmpIPredicate.slt (IntOp.remsi ArithUnit.vector (BitVec.ofNat 32 l.val) 2#32) 0#32) 0#1)
          (IntOp.cmpi CmpIPredicate.ne (IntOp.remsi ArithUnit.vector (BitVec.ofNat 32 l.val) 2#32) 0#32))
        (IntOp.addi (IntOp.remsi ArithUnit.vector (BitVec.ofNat 32 l.val) 2#32) 2#32)
        (IntOp.remsi ArithUnit.vector (BitVec.ofNat 32 l.val) 2#32))
      0#32) (Scalar.ofBits .f32 0xBF800000#32 : Ideal .f32) (1 : EReal)) (0 : EReal) := by
    pointwise [signs]
  rw [h, pay10_apply j l, sel_bit, sign_word l, sel_bit, neg_one_bits]
  rfl

theorem mat_apply (P : FVec Ideal S64x128 .f32) (t : Vec Ideal S64x256 .f32) (r : Fin 256) (l : Fin 128) :
    k0_pay12 (F := Ideal) P t (ix2 r l) = ∑ j : Fin 64, t (ix2 j r) * P (ix2 j l) := by
  pointwise [k0_pay12]

/-- The signed sines of a row, lane by lane. -/
theorem sin_apply (t : Vec Ideal S64x256 .f32) (r : Fin 256) (l : Fin 128) :
    k0_pay13 (F := Ideal) (iota Kind.tc S64x128 32 [1] iota_S64x128_d1_w32) k0_pay10 2#32 0#32 t (ix2 r l) = t (ix2 (pr l) r) * sgn l := by
  refine Eq.trans ?_ (pick (fun j => t (ix2 j r)) l (sgn l))
  have e : k0_pay13 (F := Ideal) (iota Kind.tc S64x128 32 [1] iota_S64x128_d1_w32) k0_pay10 2#32 0#32 t = k0_pay12 (F := Ideal) signs t := rfl
  rw [e]
  refine (mat_apply _ t r l).trans (Finset.sum_congr rfl fun j _ => ?_)
  rw [signs_apply j l]

/-- A head's rows, normalised and rotated. -/
theorem rotate_apply (V : FVec Ideal S256x128 .f32) (C S : FVec Ideal S256x128 .f32) (M : IVec S256x128 1) (r : Fin 256) (l : Fin 128)
    (v : Fin 128 → EReal) (hv : ∀ l, V (ix2 r l) = v l) (c s : Fin 64 → EReal) (hC : ∀ l, C (ix2 r l) = c (pr l) * 1) (hS : ∀ l, S (ix2 r l) = s (pr l) * sgn l)
    (hM : ∀ l : Fin 128, M (ix2 r l) = if l.val % 2 = 0 then 1#1 else 0#1) :
    (shapeCast S1x1x256x128 (truncf .bf16 (addf (mulf V C) (mulf (select M (dynamicRotate 1 127#32 none V rotates_S256x128_d1) (dynamicRotate 1 1#32 none V rotates_S256x128_d1)) S)) bitsLt_bf16_f32) shapeCasts_S256x128_S1x1x256x128 : FVec Ideal S1x1x256x128 .bf16) (ix4 0 0 r l)
      = rot c s v l := by
  rw [← rot_eq, ← hC, ← hS]
  have h : (shapeCast S1x1x256x128 (truncf .bf16 (addf (mulf V C) (mulf (select M (dynamicRotate 1 127#32 none V rotates_S256x128_d1) (dynamicRotate 1 1#32 none V rotates_S256x128_d1)) S)) bitsLt_bf16_f32) shapeCasts_S256x128_S1x1x256x128 : FVec Ideal S1x1x256x128 .bf16) (ix4 0 0 r l)
      = V (ix2 r l) * C (ix2 r l) + Scalar.select (M (ix2 r l)) (V (ix2 r ⟨(l.val + 128 - 127) % 128, Nat.mod_lt _ (by decide)⟩)) (V (ix2 r ⟨(l.val + 128 - 1) % 128, Nat.mod_lt _ (by decide)⟩)) * S (ix2 r l) := by
    pointwise
  rw [h, hM, sel_bit, hv, hv, hv]
  refine congrArg (fun q => v l * C (ix2 r l) + q * S (ix2 r l)) ?_
  unfold swap
  have hl := l.isLt
  by_cases h : l.val % 2 = 0
  · rw [if_pos h, if_pos h]; exact congrArg v (Fin.ext (by show (l.val + 128 - 127) % 128 = 2 * (l.val / 2) + 1; omega))
  · rw [if_neg h, if_neg h]; exact congrArg v (Fin.ext (by show (l.val + 128 - 1) % 128 = 2 * (l.val / 2); omega))

theorem gain_apply (V : FVec Ideal S256x128 .f32) (inv : FVec Ideal S256x1 .f32) (G : Vec Ideal S1x128 .f32) (r : Fin 256) (l : Fin 128) :
    (mulf (mulf V (broadcastTo S256x128 inv broadcasts_S256x1_S256x128)) (broadcastTo S256x128 G broadcasts_S1x128_S256x128) : FVec Ideal S256x128 .f32) (ix2 r l)
      = V (ix2 r l) * inv (ix2 r 0) * G (ix2 0 l) := by
  pointwise

theorem named_inv : (Named.named κ "inv_d" 0x3A2AAAAB#32 : Ideal .f32) = ((1 / 1536 : ℝ) : EReal) :=
  IdealRules.named_const.ideal_named_scalar _ _ _ _ rfl

/-- The reciprocal of the root of the mean of the squares. -/
theorem inv_apply (A : FVec Ideal S256x128 .f32) (y : Fin 12 → Fin 128 → EReal) (r : Fin 256) (hA : ∀ l : Fin 128, A (ix2 r l) = laneQ (fun h => y h l)) :
    (divf (broadcast S256x1 (Scalar.ofBits .f32 0x3F800000#32 : Ideal .f32)) (sqrt (addf (mulf (shapeCast S256x1 (multiReduction .add [1] S256 A 0x00000000#32 reduces_S256x128_S256 (.inl rfl) rfl) shapeCasts_S256_S256x1)
      (broadcast S256x1 (Named.named κ "inv_d" 0x3A2AAAAB#32 : Ideal .f32))) (broadcast S256x1 (Scalar.ofBits .f32 0x358637BD#32 : Ideal .f32)))) : FVec Ideal S256x1 .f32) (ix2 r 0) = rootK y := by
  unfold rootK eps
  rw [← Finset.sum_congr rfl fun l _ => hA l, ← named_inv]
  pointwise

theorem norm_apply (x : Vec Ideal S1x256x1536 .bf16) (sh sc : FVec Ideal S1x1536 .f32) (e : Vec Ideal S1x1x1536 .f32) (r : Fin 256) (k : Fin 1536) :
    k0_pay3 (F := Ideal) sh sc e x (ix2 r k) = mnorm (fun k => x (ix3 0 r k)) (fun k => sc (ix2 0 k) + e (ix3 0 0 k)) (fun k => sh (ix2 0 k)) k := by
  rw [← mnorm_eq]
  unfold devRoot dev ProjVal.nD eps
  pointwise [k0_pay3]

theorem shift_apply (a : Vec Ideal S1x1536 .f32) (e : Vec Ideal S1x1x1536 .f32) (k : Fin 1536) : k0_pay2 (F := Ideal) a e (ix2 0 k) = a (ix2 0 k) + e (ix3 0 0 k) := by
  pointwise [k0_pay2]

section Pieces
variable (Y : Fin 256 → Fin 12 → Fin 128 → EReal) (g : S12x128.Idx → EReal) (ct st : S64x256.Idx → EReal)

/-- The projected rows of the block, normalised and rotated, head by head. -/
def arrR : S1x12x256x128.Idx → EReal :=
  fun j => rot (fun p => ct (ix2 p (j 2))) (fun p => st (ix2 p (j 2))) (fun l => rms (Y (j 2)) (g (ix2 (j 1) l)) (j 1) l) (j 3)

/-- A head normalised and rotated, as it is stored. -/
theorem rot_piece (n : ℕ) (hn : n < 12) (h : ∀ a, ![0, n, 0, 0] a + S1x1x256x128.size a ≤ S1x12x256x128.size a) (V : FVec Ideal S256x128 .f32) (inv : FVec Ideal S256x1 .f32)
    (G : Vec Ideal S1x128 .f32) (C S : FVec Ideal S256x128 .f32) (M : IVec S256x128 1)
    (hV : ∀ r l, V (ix2 r l) = Y r ⟨n, hn⟩ l) (hi : ∀ r, inv (ix2 r 0) = rootK (Y r)) (hG : ∀ l, G (ix2 0 l) = g (ix2 ⟨n, hn⟩ l))
    (hC : ∀ r l, C (ix2 r l) = ct (ix2 (pr l) r) * 1) (hS : ∀ r l, S (ix2 r l) = st (ix2 (pr l) r) * sgn l)
    (hM : ∀ (r : Fin 256) (l : Fin 128), M (ix2 r l) = if l.val % 2 = 0 then 1#1 else 0#1) (x : S1x1x256x128.Idx) :
    (shapeCast S1x1x256x128 (truncf .bf16 (addf (mulf (mulf (mulf V (broadcastTo S256x128 inv broadcasts_S256x1_S256x128)) (broadcastTo S256x128 G broadcasts_S1x128_S256x128)) C)
      (mulf (select M (dynamicRotate 1 127#32 none (mulf (mulf V (broadcastTo S256x128 inv broadcasts_S256x1_S256x128)) (broadcastTo S256x128 G broadcasts_S1x128_S256x128)) rotates_S256x128_d1)
        (dynamicRotate 1 1#32 none (mulf (mulf V (broadcastTo S256x128 inv broadcasts_S256x1_S256x128)) (broadcastTo S256x128 G broadcasts_S1x128_S256x128)) rotates_S256x128_d1)) S)) bitsLt_bf16_f32)
      shapeCasts_S256x128_S1x1x256x128 : FVec Ideal S1x1x256x128 .bf16) x
      = arrR Y g ct st ((Rect.unit (s := S1x12x256x128) ![0, n, 0, 0] S1x1x256x128.size h).emb x) := by
  obtain ⟨r, l, rfl⟩ : ∃ (r : Fin 256) (l : Fin 128), x = ix4 0 0 r l := ⟨x 2, x 3, Cert.CtxIdeal.Val.eq_ix4' 256 128 x⟩
  refine (rotate_apply _ C S M r l (fun l => rms (Y r) (g (ix2 ⟨n, hn⟩ l)) ⟨n, hn⟩ l) (fun l => ?_) (fun p => ct (ix2 p r)) (fun p => st (ix2 p r)) (hC r) (hS r) (hM r)).trans ?_
  · refine (gain_apply V inv G r l).trans ?_
    rw [hV, hi, hG]
    exact rms_eq (Y r) _ ⟨n, hn⟩ l
  unfold arrR
  have e1 : (Rect.unit (s := S1x12x256x128) ![0, n, 0, 0] S1x1x256x128.size h).emb (ix4 0 0 r l) 1 = (⟨n, hn⟩ : Fin 12) := Fin.ext (by show n + 1 * 0 = n; omega)
  have e2 : (Rect.unit (s := S1x12x256x128) ![0, n, 0, 0] S1x1x256x128.size h).emb (ix4 0 0 r l) 2 = r := Fin.ext (by show 0 + 1 * r.val = r.val; omega)
  have e3 : (Rect.unit (s := S1x12x256x128) ![0, n, 0, 0] S1x1x256x128.size h).emb (ix4 0 0 r l) 3 = l := Fin.ext (by show 0 + 1 * l.val = l.val; omega)
  exact (congr (congr (congrArg (fun (y : Fin 256) (a : Fin 12) (b : Fin 128) => rot (fun p => ct (ix2 p y)) (fun p => st (ix2 p y)) (fun l => rms (Y y) (g (ix2 a l)) a l) b) e2) e1) e3).symm

end Pieces

end Cert.QkvIdeal.Val
-- ==== Proof.QkvBlock.lean ====
/-
  One grid point of the kernel, read at an index: the codes, their row scales as they are stored, the normalised and rotated heads and the values. -/
module

public import proofs.«01_k».proof.Proof.QkvRun
public import proofs.«01_k».proof.Proof.QkvPay

@[expose] public section
set_option maxRecDepth 16384
noncomputable section
namespace Cert.QkvIdeal.Val
open Idealize.ShloMosaic Idealize.ShloMosaic.Tactic Cert.QkvIdeal Cert.QkvIdeal.Gen Cert.FfnVal Cert.ProjVal Cert.QkvVal Cert.QkvIdeal.Run
open Cert.CtxIdeal.Val (projRow rdW rdS headLo headHi arrY arrT keep_piece keep_read val_piece add_sq scale_apply code_apply scale_row cast_codes)

/-- The sequence of a grid point. -/
def gB (i : grid0.Coords) : Fin 2 := ⟨(i 0).val / 4, by have h : (i 0).val < 8 := (i 0).isLt; omega⟩
theorem gB_val (i : grid0.Coords) : (gB i).val = (i 0).val / 4 := rfl

/-- A row of a block, normalised, scaled and shifted. -/
def rowX (x0 : S1x256x1536.Idx → EReal) (x1 : S6x2x1536.Idx → EReal) (x2 : S6x1536.Idx → EReal) (i : grid0.Coords) (r : Fin 256) : Fin 1536 → EReal :=
  mnorm (fun k => x0 (ix3 0 r k)) (fun k => x2 (ix2 1 k) + x1 (ix3 1 (gB i) k)) (fun k => x2 (ix2 0 k) + x1 (ix3 0 (gB i) k))
/-- The block's rows projected. -/
def blkP (x0 : S1x256x1536.Idx → EReal) (x1 : S6x2x1536.Idx → EReal) (x2 : S6x1536.Idx → EReal) (i : grid0.Coords) (w : S12x1536x128.Idx → EReal) (s b : S12x128.Idx → EReal) :
    Fin 256 → Fin 12 → Fin 128 → EReal :=
  fun r => projRow (rowX x0 x1 x2 i r) w s b
/-- The block's codes; -/
def arrC (x0 : S1x256x1536.Idx → EReal) (x1 : S6x2x1536.Idx → EReal) (x2 : S6x1536.Idx → EReal) (i : grid0.Coords) : S1x256x1536.Idx → EReal :=
  fun j => rowCode (rowX x0 x1 x2 i (j 1)) (j 2)
/-- their scales as the row that is stored. -/
def arrS (x0 : S1x256x1536.Idx → EReal) (x1 : S6x2x1536.Idx → EReal) (x2 : S6x1536.Idx → EReal) (i : grid0.Coords) : S1x256.Idx → EReal :=
  fun j => rowSc (rowX x0 x1 x2 i (j 1))

theorem off1_eq : ∀ i : grid0.Coords, k0_off1 i = ![0, (i 0).val / 4, 0] := by decide +kernel
theorem off2_eq : ∀ i : grid0.Coords, k0_off2 i = ![1, (i 0).val / 4, 0] := by decide +kernel

section Block
variable (c : Dev nD) (i : grid0.Coords)
  (arg1 : Memref sig .tc .vmem S1x256x1536 .bf16) (harg1 : arg1.IsWhole)
  (arg2 : Memref sig .tc .vmem S6x2x1536 .f32) (harg2 : arg2.IsWhole)
  (arg3 : Memref sig .tc .vmem S6x1536 .f32) (harg3 : arg3.IsWhole)
  (arg4 : Memref sig .tc .vmem S64x256 .f32) (harg4 : arg4.IsWhole)
  (arg5 : Memref sig .tc .vmem S64x256 .f32) (harg5 : arg5.IsWhole)
  (arg6 : Memref sig .tc .vmem S12x1536x128 .fp8e4m3) (harg6 : arg6.IsWhole)
  (arg7 : Memref sig .tc .vmem S12x1536x128 .fp8e4m3) (harg7 : arg7.IsWhole)
  (arg8 : Memref sig .tc .vmem S12x1536x128 .fp8e4m3) (harg8 : arg8.IsWhole)
  (arg9 : Memref sig .tc .vmem S12x128 .f32) (harg9 : arg9.IsWhole)
  (arg10 : Memref sig .tc .vmem S12x128 .f32) (harg10 : arg10.IsWhole)
  (arg11 : Memref sig .tc .vmem S12x128 .f32) (harg11 : arg11.IsWhole)
  (arg12 : Memref sig .tc .vmem S12x128 .f32) (harg12 : arg12.IsWhole)
  (arg13 : Memref sig .tc .vmem S12x128 .f32) (harg13 : arg13.IsWhole)
  (arg14 : Memref sig .tc .vmem S12x128 .f32) (harg14 : arg14.IsWhole)
  (arg15 : Memref sig .tc .vmem S12x128 .f32) (harg15 : arg15.IsWhole)
  (arg16 : Memref sig .tc .vmem S12x128 .f32) (harg16 : arg16.IsWhole)
  (arg17 : Memref sig .tc .vmem S1x256x1536 .fp8e4m3) (harg17 : arg17.IsWhole)
  (arg18 : Memref sig .tc .vmem S2x1024 .f32) (harg18 : arg18.IsWhole)
  (arg19 : Memref sig .tc .vmem S1x12x256x128 .bf16) (harg19 : arg19.IsWhole)
  (arg20 : Memref sig .tc .vmem S1x12x256x128 .bf16) (harg20 : arg20.IsWhole)
  (arg21 : Memref sig .tc .vmem S1x12x128x256 .bf16) (harg21 : arg21.IsWhole)
  (arg22 : Memref sig .tc .vmem S256x1536 .f32) (harg22 : arg22.IsWhole)
  (x0 : Vec Ideal S1x256x1536 .bf16)
  (x1 : Vec Ideal S6x2x1536 .f32)
  (x2 : Vec Ideal S6x1536 .f32)
  (x3 : Vec Ideal S64x256 .f32)
  (x4 : Vec Ideal S64x256 .f32)
  (x5 : Vec Ideal S12x1536x128 .fp8e4m3)
  (x6 : Vec Ideal S12x1536x128 .fp8e4m3)
  (x7 : Vec Ideal S12x1536x128 .fp8e4m3)
  (x8 : Vec Ideal S12x128 .f32)
  (x9 : Vec Ideal S12x128 .f32)
  (x10 : Vec Ideal S12x128 .f32)
  (x11 : Vec Ideal S12x128 .f32)
  (x12 : Vec Ideal S12x128 .f32)
  (x13 : Vec Ideal S12x128 .f32)
  (x14 : Vec Ideal S12x128 .f32)
  (x15 : Vec Ideal S12x128 .f32)

/-- A load of one row of the shared shifts and scales. -/
theorem rdM (n : ℕ) (hn : n < 6) (h : ∀ a, ![n, 0] a + S1x1536.size a ≤ S6x1536.size a) (k : Fin 1536) :
    View.readAt (Elt Ideal) arg3.view (Rect.unit (s := S6x1536) ![n, 0] S1x1536.size h).toLoadRect (harg3.unread x2) (ix2 0 k) = x2 (ix2 ⟨n, hn⟩ k) := by
  refine (congrFun (harg3.read_unread x2) _).trans (congrArg x2 ?_)
  funext a
  refine Fin.ext ((Rect.idx_unit_val _ _ h _ a).trans ?_)
  match a with
  | ⟨0, _⟩ => rfl
  | ⟨1, _⟩ => exact Nat.zero_add _

/-- A load of the sequence's own. -/
theorem rdE (n : ℕ) (hn : n < 6) (off : Fin 3 → ℕ) (ho : off = ![n, (i 0).val / 4, 0]) (h : ∀ a, off a + S1x1x1536.size a ≤ S6x2x1536.size a) (k : Fin 1536) :
    View.readAt (Elt Ideal) arg2.view (Rect.unit (s := S6x2x1536) off S1x1x1536.size h).toLoadRect (harg2.unread x1) (ix3 0 0 k) = x1 (ix3 ⟨n, hn⟩ (gB i) k) := by
  subst ho
  refine (congrFun (harg2.read_unread x1) _).trans (congrArg x1 ?_)
  funext a
  refine Fin.ext ((Rect.idx_unit_val _ _ h _ a).trans ?_)
  match a with
  | ⟨0, _⟩ => rfl
  | ⟨1, _⟩ => rfl
  | ⟨2, _⟩ => exact Nat.zero_add _

/-- A load of a whole table. -/
theorem rdT (arg : Memref sig .tc .vmem S64x256 .f32) (harg : arg.IsWhole) (x : Vec Ideal S64x256 .f32) (h : ∀ a, ![0, 0] a + S64x256.size a ≤ S64x256.size a) (p : Fin 64) (r : Fin 256) :
    View.readAt (Elt Ideal) arg.view (Rect.unit (s := S64x256) ![0, 0] S64x256.size h).toLoadRect (harg.unread x) (ix2 p r) = x (ix2 p r) := by
  refine (congrFun (harg.read_unread x) _).trans (congrArg x ?_)
  funext a
  refine Fin.ext ((Rect.idx_unit_val _ _ h _ a).trans ?_)
  match a with
  | ⟨0, _⟩ => exact Nat.zero_add _
  | ⟨1, _⟩ => exact Nat.zero_add _

/-- A load of the whole block. -/
theorem rdX (h : ∀ a, ![0, 0, 0] a + S1x256x1536.size a ≤ S1x256x1536.size a) (r : Fin 256) (k : Fin 1536) :
    View.readAt (Elt Ideal) arg1.view (Rect.unit (s := S1x256x1536) ![0, 0, 0] S1x256x1536.size h).toLoadRect (harg1.unread x0) (ix3 0 r k) = x0 (ix3 0 r k) := by
  refine (congrFun (harg1.read_unread x0) _).trans (congrArg x0 ?_)
  funext a
  refine Fin.ext ((Rect.idx_unit_val _ _ h _ a).trans ?_)
  match a with
  | ⟨0, _⟩ => rfl
  | ⟨1, _⟩ => exact Nat.zero_add _
  | ⟨2, _⟩ => exact Nat.zero_add _

/-- The block, normalised, scaled and shifted. -/
def nrm : FVec Ideal S256x1536 .f32 :=
  k0_pay3 (F := Ideal) (kernelRun0_A.sl.r (F := Ideal) c i arg2 harg2 arg3 harg3 x1 x2) (kernelRun0_A.sl.r_1 (F := Ideal) c arg3 harg3 x2) (kernelRun0_A.sl.r_2 (F := Ideal) c i arg2 harg2 x1)
    (View.readAt (Elt Ideal) arg1.view (Rect.unit (s := S1x256x1536) ![0, 0, 0] S1x256x1536.size inb_S1x256x1536_S1x256x1536_0_0_0).toLoadRect (harg1.unread x0))

theorem nrm_eq (r : Fin 256) (k : Fin 1536) : nrm c i arg1 harg1 arg2 harg2 arg3 harg3 x0 x1 x2 (ix2 r k) = rowX x0 x1 x2 i r k := by
  refine (norm_apply _ _ _ _ r k).trans (congrFun (congr (congrArg₂ mnorm (funext fun k => ?_) (funext fun k => ?_)) (funext fun k => ?_)) k)
  · exact rdX arg1 harg1 x0 _ r k
  · exact congrArg₂ (fun p q : EReal => p + q) (rdM arg3 harg3 x2 1 (by decide) (by decide) k) (rdE i arg2 harg2 x1 1 (by decide) _ (off2_eq i) _ k)
  · refine (shift_apply _ _ k).trans ?_
    exact congrArg₂ (fun p q : EReal => p + q) (rdM arg3 harg3 x2 0 (by decide) (by decide) k) (rdE i arg2 harg2 x1 0 (by decide) _ (off1_eq i) _ k)

theorem scale_eq (r : Fin 256) : kernelRun0_A.sl.r_3 (F := Ideal) c i arg1 harg1 arg2 harg2 arg3 harg3 x0 x1 x2 (ix2 r 0) = rowSc (rowX x0 x1 x2 i r) :=
  (scale_apply (nrm c i arg1 harg1 arg2 harg2 arg3 harg3 x0 x1 x2) r).trans (congrArg rowSc (funext fun k => nrm_eq c i arg1 harg1 arg2 harg2 arg3 harg3 x0 x1 x2 r k))

theorem code_eq (r : Fin 256) (k : Fin 1536) : kernelRun0_A.sl.r_5 (F := Ideal) c i arg1 harg1 arg2 harg2 arg3 harg3 x0 x1 x2 (ix2 r k) = rowCode (rowX x0 x1 x2 i r) k :=
  (code_apply (nrm c i arg1 harg1 arg2 harg2 arg3 harg3 x0 x1 x2) (kernelRun0_A.sl.r_3 (F := Ideal) c i arg1 harg1 arg2 harg2 arg3 harg3 x0 x1 x2) r k (scale_apply (nrm c i arg1 harg1 arg2 harg2 arg3 harg3 x0 x1 x2) r)).trans
    (congrArg (fun x => rowCode x k) (funext fun k => nrm_eq c i arg1 harg1 arg2 harg2 arg3 harg3 x0 x1 x2 r k))

theorem cos_eq (r : Fin 256) (l : Fin 128) : kernelRun0_A.sl.r_6 (F := Ideal) c arg4 harg4 x3 (ix2 r l) = x3 (ix2 (pr l) r) * 1 :=
  (cos_apply _ r l).trans (congrArg (fun q : EReal => q * 1) (rdT arg4 harg4 x3 (by decide) (pr l) r))
theorem sin_eq (r : Fin 256) (l : Fin 128) : kernelRun0_A.sl.r_7 (F := Ideal) c arg5 harg5 x4 (ix2 r l) = x4 (ix2 (pr l) r) * sgn l :=
  (sin_apply _ r l).trans (congrArg (fun q : EReal => q * sgn l) (rdT arg5 harg5 x4 (by decide) (pr l) r))

theorem code_pieces : View.PiecesOf (arrC x0 x1 x2 i) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15).1 := by
  refine ⟨fun x => ?_, trivial⟩
  obtain ⟨r, k, rfl⟩ : ∃ (r : Fin 256) (k : Fin 1536), x = ix3 0 r k := ⟨x 1, x 2, by
    funext a
    match a with
    | ⟨0, _⟩ => exact Fin.fin_one_eq_zero (x 0)
    | ⟨1, _⟩ => rfl
    | ⟨2, _⟩ => rfl⟩
  refine (cast_codes _ r k).trans ((code_eq c i arg1 harg1 arg2 harg2 arg3 harg3 x0 x1 x2 r k).trans ?_)
  unfold arrC
  refine congrArg₂ (fun a b => rowCode (rowX x0 x1 x2 i a) b) (Fin.ext ?_) (Fin.ext ?_)
  · show r.val = 0 + 1 * r.val; omega
  · show k.val = 0 + 1 * k.val; omega

theorem scale_piece : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15).2.1 = [⟨Rect.unit (k0_off3 i) S1x256.size (k0_off3_inb i), arrS x0 x1 x2 i⟩] := by
  refine congrArg (fun q : S1x256.Idx → EReal => ([⟨Rect.unit (k0_off3 i) S1x256.size (k0_off3_inb i), q⟩] : List (View.Piece (Elt Ideal) S2x1024 .f32))) (funext fun x => ?_)
  obtain ⟨r, rfl⟩ : ∃ r, x = ix2 0 r := ⟨x 1, by
    funext a
    match a with
    | ⟨0, _⟩ => exact Fin.fin_one_eq_zero (x 0)
    | ⟨1, _⟩ => rfl⟩
  exact (scale_row _ r).trans (scale_eq c i arg1 harg1 arg2 harg2 arg3 harg3 x0 x1 x2 r)

end Block
end Cert.QkvIdeal.Val
-- ==== Proof.QkvHeadQ.lean ====
/-
  The heads of the first projection as the kernel keeps them, and the reciprocal root of their mean square. -/
module

public import proofs.«01_k».proof.Proof.QkvBlock

@[expose] public section
set_option maxRecDepth 16384
noncomputable section
namespace Cert.QkvIdeal.Val
open Idealize.ShloMosaic Idealize.ShloMosaic.Tactic Cert.QkvIdeal Cert.QkvIdeal.Gen Cert.FfnVal Cert.ProjVal Cert.QkvVal Cert.QkvIdeal.Run
open Cert.CtxIdeal.Val (projRow rdW rdS headLo headHi arrY arrT keep_piece keep_read val_piece add_sq scale_apply code_apply scale_row cast_codes)

section Block
variable (c : Dev nD) (i : grid0.Coords)
  (arg1 : Memref sig .tc .vmem S1x256x1536 .bf16) (harg1 : arg1.IsWhole)
  (arg2 : Memref sig .tc .vmem S6x2x1536 .f32) (harg2 : arg2.IsWhole)
  (arg3 : Memref sig .tc .vmem S6x1536 .f32) (harg3 : arg3.IsWhole)
  (arg4 : Memref sig .tc .vmem S64x256 .f32) (harg4 : arg4.IsWhole)
  (arg5 : Memref sig .tc .vmem S64x256 .f32) (harg5 : arg5.IsWhole)
  (arg6 : Memref sig .tc .vmem S12x1536x128 .fp8e4m3) (harg6 : arg6.IsWhole)
  (arg7 : Memref sig .tc .vmem S12x1536x128 .fp8e4m3) (harg7 : arg7.IsWhole)
  (arg8 : Memref sig .tc .vmem S12x1536x128 .fp8e4m3) (harg8 : arg8.IsWhole)
  (arg9 : Memref sig .tc .vmem S12x128 .f32) (harg9 : arg9.IsWhole)
  (arg10 : Memref sig .tc .vmem S12x128 .f32) (harg10 : arg10.IsWhole)
  (arg11 : Memref sig .tc .vmem S12x128 .f32) (harg11 : arg11.IsWhole)
  (arg12 : Memref sig .tc .vmem S12x128 .f32) (harg12 : arg12.IsWhole)
  (arg13 : Memref sig .tc .vmem S12x128 .f32) (harg13 : arg13.IsWhole)
  (arg14 : Memref sig .tc .vmem S12x128 .f32) (harg14 : arg14.IsWhole)
  (arg15 : Memref sig .tc .vmem S12x128 .f32) (harg15 : arg15.IsWhole)
  (arg16 : Memref sig .tc .vmem S12x128 .f32) (harg16 : arg16.IsWhole)
  (arg17 : Memref sig .tc .vmem S1x256x1536 .fp8e4m3) (harg17 : arg17.IsWhole)
  (arg18 : Memref sig .tc .vmem S2x1024 .f32) (harg18 : arg18.IsWhole)
  (arg19 : Memref sig .tc .vmem S1x12x256x128 .bf16) (harg19 : arg19.IsWhole)
  (arg20 : Memref sig .tc .vmem S1x12x256x128 .bf16) (harg20 : arg20.IsWhole)
  (arg21 : Memref sig .tc .vmem S1x12x128x256 .bf16) (harg21 : arg21.IsWhole)
  (arg22 : Memref sig .tc .vmem S256x1536 .f32) (harg22 : arg22.IsWhole)
  (x0 : Vec Ideal S1x256x1536 .bf16)
  (x1 : Vec Ideal S6x2x1536 .f32)
  (x2 : Vec Ideal S6x1536 .f32)
  (x3 : Vec Ideal S64x256 .f32)
  (x4 : Vec Ideal S64x256 .f32)
  (x5 : Vec Ideal S12x1536x128 .fp8e4m3)
  (x6 : Vec Ideal S12x1536x128 .fp8e4m3)
  (x7 : Vec Ideal S12x1536x128 .fp8e4m3)
  (x8 : Vec Ideal S12x128 .f32)
  (x9 : Vec Ideal S12x128 .f32)
  (x10 : Vec Ideal S12x128 .f32)
  (x11 : Vec Ideal S12x128 .f32)
  (x12 : Vec Ideal S12x128 .f32)
  (x13 : Vec Ideal S12x128 .f32)
  (x14 : Vec Ideal S12x128 .f32)
  (x15 : Vec Ideal S12x128 .f32)

theorem invQ_eq (r : Fin 256) : kernelRun0_A.sl.r_18 (F := Ideal) c i arg1 harg1 arg2 harg2 arg3 harg3 arg6 harg6 arg9 harg9 arg12 harg12 x0 x1 x2 x5 x8 x11 (ix2 r 0) = rootK ((blkP x0 x1 x2 i x5 x8 x11) r) :=
  inv_apply _ ((blkP x0 x1 x2 i x5 x8 x11) r) r (fun l =>
    add_sq _ _ r l _ _ (add_sq _ _ r l _ _ (add_sq _ _ r l _ _ (add_sq _ _ r l _ _ (add_sq _ _ r l _ _ (add_sq _ _ r l _ _ (add_sq _ _ r l _ _ (add_sq _ _ r l _ _ (add_sq _ _ r l _ _ (add_sq _ _ r l _ _ (add_sq _ _ r l _ _ (add_sq _ _ r l _ _ (by pointwise) (headLo _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 0 1 (by decide) (by decide) (by decide) (by decide) r l)) (headHi _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 0 1 (by decide) (by decide) (by decide) (by decide) r l)) (headLo _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 2 3 (by decide) (by decide) (by decide) (by decide) r l)) (headHi _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 2 3 (by decide) (by decide) (by decide) (by decide) r l)) (headLo _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 4 5 (by decide) (by decide) (by decide) (by decide) r l)) (headHi _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 4 5 (by decide) (by decide) (by decide) (by decide) r l)) (headLo _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 6 7 (by decide) (by decide) (by decide) (by decide) r l)) (headHi _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 6 7 (by decide) (by decide) (by decide) (by decide) r l)) (headLo _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 8 9 (by decide) (by decide) (by decide) (by decide) r l)) (headHi _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 8 9 (by decide) (by decide) (by decide) (by decide) r l)) (headLo _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 10 11 (by decide) (by decide) (by decide) (by decide) r l)) (headHi _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 10 11 (by decide) (by decide) (by decide) (by decide) r l))

theorem hq_pieces : View.PiecesOf (arrY (blkP x0 x1 x2 i x5 x8 x11)) (kernelRun0_A.sl.HS0_12 (F := Ideal) c i arg1 harg1 arg2 harg2 arg3 harg3 arg6 harg6 arg9 harg9 arg12 harg12 x0 x1 x2 x5 x8 x11) :=
  ⟨(by have e := fun (r : Fin 256) (l : Fin 128) => headHi _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 10 11 (by decide) (by decide) (by decide) (by decide) r l; exact keep_piece (blkP x0 x1 x2 i x5 x8 x11) 11 1408 (by decide) rfl (by decide) _ e),
   (by have e := fun (r : Fin 256) (l : Fin 128) => headLo _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 10 11 (by decide) (by decide) (by decide) (by decide) r l; exact keep_piece (blkP x0 x1 x2 i x5 x8 x11) 10 1280 (by decide) rfl (by decide) _ e),
   (by have e := fun (r : Fin 256) (l : Fin 128) => headHi _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 8 9 (by decide) (by decide) (by decide) (by decide) r l; exact keep_piece (blkP x0 x1 x2 i x5 x8 x11) 9 1152 (by decide) rfl (by decide) _ e),
   (by have e := fun (r : Fin 256) (l : Fin 128) => headLo _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 8 9 (by decide) (by decide) (by decide) (by decide) r l; exact keep_piece (blkP x0 x1 x2 i x5 x8 x11) 8 1024 (by decide) rfl (by decide) _ e),
   (by have e := fun (r : Fin 256) (l : Fin 128) => headHi _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 6 7 (by decide) (by decide) (by decide) (by decide) r l; exact keep_piece (blkP x0 x1 x2 i x5 x8 x11) 7 896 (by decide) rfl (by decide) _ e),
   (by have e := fun (r : Fin 256) (l : Fin 128) => headLo _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 6 7 (by decide) (by decide) (by decide) (by decide) r l; exact keep_piece (blkP x0 x1 x2 i x5 x8 x11) 6 768 (by decide) rfl (by decide) _ e),
   (by have e := fun (r : Fin 256) (l : Fin 128) => headHi _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 4 5 (by decide) (by decide) (by decide) (by decide) r l; exact keep_piece (blkP x0 x1 x2 i x5 x8 x11) 5 640 (by decide) rfl (by decide) _ e),
   (by have e := fun (r : Fin 256) (l : Fin 128) => headLo _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 4 5 (by decide) (by decide) (by decide) (by decide) r l; exact keep_piece (blkP x0 x1 x2 i x5 x8 x11) 4 512 (by decide) rfl (by decide) _ e),
   (by have e := fun (r : Fin 256) (l : Fin 128) => headHi _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 2 3 (by decide) (by decide) (by decide) (by decide) r l; exact keep_piece (blkP x0 x1 x2 i x5 x8 x11) 3 384 (by decide) rfl (by decide) _ e),
   (by have e := fun (r : Fin 256) (l : Fin 128) => headLo _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 2 3 (by decide) (by decide) (by decide) (by decide) r l; exact keep_piece (blkP x0 x1 x2 i x5 x8 x11) 2 256 (by decide) rfl (by decide) _ e),
   (by have e := fun (r : Fin 256) (l : Fin 128) => headHi _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 0 1 (by decide) (by decide) (by decide) (by decide) r l; exact keep_piece (blkP x0 x1 x2 i x5 x8 x11) 1 128 (by decide) rfl (by decide) _ e),
   (by have e := fun (r : Fin 256) (l : Fin 128) => headLo _ _ (rowX x0 x1 x2 i) (code_eq c i arg1 harg1 arg2 harg2 arg3 harg3 x0 x1 x2) (scale_eq c i arg1 harg1 arg2 harg2 arg3 harg3 x0 x1 x2) arg6 harg6 x5 arg9 harg9 x8 arg12 harg12 x11 0 1 (by decide) (by decide) (by decide) (by decide) r l; exact keep_piece (blkP x0 x1 x2 i x5 x8 x11) 0 0 (by decide) rfl (by decide) _ e), trivial⟩

/-- What the scratch holds once the last head of the first projection is in. -/
theorem hq_eq (y : S256x1536.Idx) : View.canon (kernelRun0_A.sl.HS0_12 (F := Ideal) c i arg1 harg1 arg2 harg2 arg3 harg3 arg6 harg6 arg9 harg9 arg12 harg12 x0 x1 x2 x5 x8 x11) y = arrY (blkP x0 x1 x2 i x5 x8 x11) y :=
  View.canon_apply_of_pieces _ _ (hq_pieces c i arg1 harg1 arg2 harg2 arg3 harg3 arg6 harg6 arg9 harg9 arg12 harg12 x0 x1 x2 x5 x8 x11).mem y (View.cover_of_tiledL (kernelRun0_A.sl.HS0_12 (F := Ideal) c i arg1 harg1 arg2 harg2 arg3 harg3 arg6 harg6 arg9 harg9 arg12 harg12 x0 x1 x2 x5 x8 x11) S256x128.size (by sl_kernel_rfl) y)

end Block
end Cert.QkvIdeal.Val
-- ==== Proof.QkvRotQ.lean ====
/-
  The first projection, normalised and rotated, as it is stored. -/
module

public import proofs.«01_k».proof.Proof.QkvHeadQ

@[expose] public section
set_option maxRecDepth 16384
noncomputable section
namespace Cert.QkvIdeal.Val
open Idealize.ShloMosaic Idealize.ShloMosaic.Tactic Cert.QkvIdeal Cert.QkvIdeal.Gen Cert.FfnVal Cert.ProjVal Cert.QkvVal Cert.QkvIdeal.Run
open Cert.CtxIdeal.Val (projRow rdW rdS headLo headHi arrY arrT keep_piece keep_read val_piece add_sq scale_apply code_apply scale_row cast_codes)

section Block
variable (c : Dev nD) (i : grid0.Coords)
  (arg1 : Memref sig .tc .vmem S1x256x1536 .bf16) (harg1 : arg1.IsWhole)
  (arg2 : Memref sig .tc .vmem S6x2x1536 .f32) (harg2 : arg2.IsWhole)
  (arg3 : Memref sig .tc .vmem S6x1536 .f32) (harg3 : arg3.IsWhole)
  (arg4 : Memref sig .tc .vmem S64x256 .f32) (harg4 : arg4.IsWhole)
  (arg5 : Memref sig .tc .vmem S64x256 .f32) (harg5 : arg5.IsWhole)
  (arg6 : Memref sig .tc .vmem S12x1536x128 .fp8e4m3) (harg6 : arg6.IsWhole)
  (arg7 : Memref sig .tc .vmem S12x1536x128 .fp8e4m3) (harg7 : arg7.IsWhole)
  (arg8 : Memref sig .tc .vmem S12x1536x128 .fp8e4m3) (harg8 : arg8.IsWhole)
  (arg9 : Memref sig .tc .vmem S12x128 .f32) (harg9 : arg9.IsWhole)
  (arg10 : Memref sig .tc .vmem S12x128 .f32) (harg10 : arg10.IsWhole)
  (arg11 : Memref sig .tc .vmem S12x128 .f32) (harg11 : arg11.IsWhole)
  (arg12 : Memref sig .tc .vmem S12x128 .f32) (harg12 : arg12.IsWhole)
  (arg13 : Memref sig .tc .vmem S12x128 .f32) (harg13 : arg13.IsWhole)
  (arg14 : Memref sig .tc .vmem S12x128 .f32) (harg14 : arg14.IsWhole)
  (arg15 : Memref sig .tc .vmem S12x128 .f32) (harg15 : arg15.IsWhole)
  (arg16 : Memref sig .tc .vmem S12x128 .f32) (harg16 : arg16.IsWhole)
  (arg17 : Memref sig .tc .vmem S1x256x1536 .fp8e4m3) (harg17 : arg17.IsWhole)
  (arg18 : Memref sig .tc .vmem S2x1024 .f32) (harg18 : arg18.IsWhole)
  (arg19 : Memref sig .tc .vmem S1x12x256x128 .bf16) (harg19 : arg19.IsWhole)
  (arg20 : Memref sig .tc .vmem S1x12x256x128 .bf16) (harg20 : arg20.IsWhole)
  (arg21 : Memref sig .tc .vmem S1x12x128x256 .bf16) (harg21 : arg21.IsWhole)
  (arg22 : Memref sig .tc .vmem S256x1536 .f32) (harg22 : arg22.IsWhole)
  (x0 : Vec Ideal S1x256x1536 .bf16)
  (x1 : Vec Ideal S6x2x1536 .f32)
  (x2 : Vec Ideal S6x1536 .f32)
  (x3 : Vec Ideal S64x256 .f32)
  (x4 : Vec Ideal S64x256 .f32)
  (x5 : Vec Ideal S12x1536x128 .fp8e4m3)
  (x6 : Vec Ideal S12x1536x128 .fp8e4m3)
  (x7 : Vec Ideal S12x1536x128 .fp8e4m3)
  (x8 : Vec Ideal S12x128 .f32)
  (x9 : Vec Ideal S12x128 .f32)
  (x10 : Vec Ideal S12x128 .f32)
  (x11 : Vec Ideal S12x128 .f32)
  (x12 : Vec Ideal S12x128 .f32)
  (x13 : Vec Ideal S12x128 .f32)
  (x14 : Vec Ideal S12x128 .f32)
  (x15 : Vec Ideal S12x128 .f32)

set_option maxHeartbeats 4000000 in
theorem q_pieces : View.PiecesOf (arrR (blkP x0 x1 x2 i x5 x8 x11) x14 x3 x4) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15).2.2.1 :=
  ⟨rot_piece _ _ x3 x4 11 (by decide) (by decide) _ _ _ _ _ _ (keep_read _ arg22 _ (hq_eq c i arg1 harg1 arg2 harg2 arg3 harg3 arg6 harg6 arg9 harg9 arg12 harg12 x0 x1 x2 x5 x8 x11) 11 1408 (by decide) rfl (by decide)) (invQ_eq c i arg1 harg1 arg2 harg2 arg3 harg3 arg6 harg6 arg9 harg9 arg12 harg12 x0 x1 x2 x5 x8 x11) (rdS arg15 harg15 x14 11 (by decide) (by decide)) (cos_eq c arg4 harg4 x3) (sin_eq c arg5 harg5 x4) even_apply,
   rot_piece _ _ x3 x4 10 (by decide) (by decide) _ _ _ _ _ _ (keep_read _ arg22 _ (hq_eq c i arg1 harg1 arg2 harg2 arg3 harg3 arg6 harg6 arg9 harg9 arg12 harg12 x0 x1 x2 x5 x8 x11) 10 1280 (by decide) rfl (by decide)) (invQ_eq c i arg1 harg1 arg2 harg2 arg3 harg3 arg6 harg6 arg9 harg9 arg12 harg12 x0 x1 x2 x5 x8 x11) (rdS arg15 harg15 x14 10 (by decide) (by decide)) (cos_eq c arg4 harg4 x3) (sin_eq c arg5 harg5 x4) even_apply,
   rot_piece _ _ x3 x4 9 (by decide) (by decide) _ _ _ _ _ _ (keep_read _ arg22 _ (hq_eq c i arg1 harg1 arg2 harg2 arg3 harg3 arg6 harg6 arg9 harg9 arg12 harg12 x0 x1 x2 x5 x8 x11) 9 1152 (by decide) rfl (by decide)) (invQ_eq c i arg1 harg1 arg2 harg2 arg3 harg3 arg6 harg6 arg9 harg9 arg12 harg12 x0 x1 x2 x5 x8 x11) (rdS arg15 harg15 x14 9 (by decide) (by decide)) (cos_eq c arg4 harg4 x3) (sin_eq c arg5 harg5 x4) even_apply,
   rot_piece _ _ x3 x4 8 (by decide) (by decide) _ _ _ _ _ _ (keep_read _ arg22 _ (hq_eq c i arg1 harg1 arg2 harg2 arg3 harg3 arg6 harg6 arg9 harg9 arg12 harg12 x0 x1 x2 x5 x8 x11) 8 1024 (by decide) rfl (by decide)) (invQ_eq c i arg1 harg1 arg2 harg2 arg3 harg3 arg6 harg6 arg9 harg9 arg12 harg12 x0 x1 x2 x5 x8 x11) (rdS arg15 harg15 x14 8 (by decide) (by decide)) (cos_eq c arg4 harg4 x3) (sin_eq c arg5 harg5 x4) even_apply,
   rot_piece _ _ x3 x4 7 (by decide) (by decide) _ _ _ _ _ _ (keep_read _ arg22 _ (hq_eq c i arg1 harg1 arg2 harg2 arg3 harg3 arg6 harg6 arg9 harg9 arg12 harg12 x0 x1 x2 x5 x8 x11) 7 896 (by decide) rfl (by decide)) (invQ_eq c i arg1 harg1 arg2 harg2 arg3 harg3 arg6 harg6 arg9 harg9 arg12 harg12 x0 x1 x2 x5 x8 x11) (rdS arg15 harg15 x14 7 (by decide) (by decide)) (cos_eq c arg4 harg4 x3) (sin_eq c arg5 harg5 x4) even_apply,
   rot_piece _ _ x3 x4 6 (by decide) (by decide) _ _ _ _ _ _ (keep_read _ arg22 _ (hq_eq c i arg1 harg1 arg2 harg2 arg3 harg3 arg6 harg6 arg9 harg9 arg12 harg12 x0 x1 x2 x5 x8 x11) 6 768 (by decide) rfl (by decide)) (invQ_eq c i arg1 harg1 arg2 harg2 arg3 harg3 arg6 harg6 arg9 harg9 arg12 harg12 x0 x1 x2 x5 x8 x11) (rdS arg15 harg15 x14 6 (by decide) (by decide)) (cos_eq c arg4 harg4 x3) (sin_eq c arg5 harg5 x4) even_apply,
   rot_piece _ _ x3 x4 5 (by decide) (by decide) _ _ _ _ _ _ (keep_read _ arg22 _ (hq_eq c i arg1 harg1 arg2 harg2 arg3 harg3 arg6 harg6 arg9 harg9 arg12 harg12 x0 x1 x2 x5 x8 x11) 5 640 (by decide) rfl (by decide)) (invQ_eq c i arg1 harg1 arg2 harg2 arg3 harg3 arg6 harg6 arg9 harg9 arg12 harg12 x0 x1 x2 x5 x8 x11) (rdS arg15 harg15 x14 5 (by decide) (by decide)) (cos_eq c arg4 harg4 x3) (sin_eq c arg5 harg5 x4) even_apply,
   rot_piece _ _ x3 x4 4 (by decide) (by decide) _ _ _ _ _ _ (keep_read _ arg22 _ (hq_eq c i arg1 harg1 arg2 harg2 arg3 harg3 arg6 harg6 arg9 harg9 arg12 harg12 x0 x1 x2 x5 x8 x11) 4 512 (by decide) rfl (by decide)) (invQ_eq c i arg1 harg1 arg2 harg2 arg3 harg3 arg6 harg6 arg9 harg9 arg12 harg12 x0 x1 x2 x5 x8 x11) (rdS arg15 harg15 x14 4 (by decide) (by decide)) (cos_eq c arg4 harg4 x3) (sin_eq c arg5 harg5 x4) even_apply,
   rot_piece _ _ x3 x4 3 (by decide) (by decide) _ _ _ _ _ _ (keep_read _ arg22 _ (hq_eq c i arg1 harg1 arg2 harg2 arg3 harg3 arg6 harg6 arg9 harg9 arg12 harg12 x0 x1 x2 x5 x8 x11) 3 384 (by decide) rfl (by decide)) (invQ_eq c i arg1 harg1 arg2 harg2 arg3 harg3 arg6 harg6 arg9 harg9 arg12 harg12 x0 x1 x2 x5 x8 x11) (rdS arg15 harg15 x14 3 (by decide) (by decide)) (cos_eq c arg4 harg4 x3) (sin_eq c arg5 harg5 x4) even_apply,
   rot_piece _ _ x3 x4 2 (by decide) (by decide) _ _ _ _ _ _ (keep_read _ arg22 _ (hq_eq c i arg1 harg1 arg2 harg2 arg3 harg3 arg6 harg6 arg9 harg9 arg12 harg12 x0 x1 x2 x5 x8 x11) 2 256 (by decide) rfl (by decide)) (invQ_eq c i arg1 harg1 arg2 harg2 arg3 harg3 arg6 harg6 arg9 harg9 arg12 harg12 x0 x1 x2 x5 x8 x11) (rdS arg15 harg15 x14 2 (by decide) (by decide)) (cos_eq c arg4 harg4 x3) (sin_eq c arg5 harg5 x4) even_apply,
   rot_piece _ _ x3 x4 1 (by decide) (by decide) _ _ _ _ _ _ (keep_read _ arg22 _ (hq_eq c i arg1 harg1 arg2 harg2 arg3 harg3 arg6 harg6 arg9 harg9 arg12 harg12 x0 x1 x2 x5 x8 x11) 1 128 (by decide) rfl (by decide)) (invQ_eq c i arg1 harg1 arg2 harg2 arg3 harg3 arg6 harg6 arg9 harg9 arg12 harg12 x0 x1 x2 x5 x8 x11) (rdS arg15 harg15 x14 1 (by decide) (by decide)) (cos_eq c arg4 harg4 x3) (sin_eq c arg5 harg5 x4) even_apply,
   rot_piece _ _ x3 x4 0 (by decide) (by decide) _ _ _ _ _ _ (keep_read _ arg22 _ (hq_eq c i arg1 harg1 arg2 harg2 arg3 harg3 arg6 harg6 arg9 harg9 arg12 harg12 x0 x1 x2 x5 x8 x11) 0 0 (by decide) rfl (by decide)) (invQ_eq c i arg1 harg1 arg2 harg2 arg3 harg3 arg6 harg6 arg9 harg9 arg12 harg12 x0 x1 x2 x5 x8 x11) (rdS arg15 harg15 x14 0 (by decide) (by decide)) (cos_eq c arg4 harg4 x3) (sin_eq c arg5 harg5 x4) even_apply, trivial⟩

end Block
end Cert.QkvIdeal.Val
-- ==== Proof.QkvHeadK.lean ====
/-
  The same of the second projection, whose heads come over those of the first. -/
module

public import proofs.«01_k».proof.Proof.QkvHeadQ

@[expose] public section
set_option maxRecDepth 16384
noncomputable section
namespace Cert.QkvIdeal.Val
open Idealize.ShloMosaic Idealize.ShloMosaic.Tactic Cert.QkvIdeal Cert.QkvIdeal.Gen Cert.FfnVal Cert.ProjVal Cert.QkvVal Cert.QkvIdeal.Run
open Cert.CtxIdeal.Val (projRow rdW rdS headLo headHi arrY arrT keep_piece keep_read val_piece add_sq scale_apply code_apply scale_row cast_codes)

section Block
variable (c : Dev nD) (i : grid0.Coords)
  (arg1 : Memref sig .tc .vmem S1x256x1536 .bf16) (harg1 : arg1.IsWhole)
  (arg2 : Memref sig .tc .vmem S6x2x1536 .f32) (harg2 : arg2.IsWhole)
  (arg3 : Memref sig .tc .vmem S6x1536 .f32) (harg3 : arg3.IsWhole)
  (arg4 : Memref sig .tc .vmem S64x256 .f32) (harg4 : arg4.IsWhole)
  (arg5 : Memref sig .tc .vmem S64x256 .f32) (harg5 : arg5.IsWhole)
  (arg6 : Memref sig .tc .vmem S12x1536x128 .fp8e4m3) (harg6 : arg6.IsWhole)
  (arg7 : Memref sig .tc .vmem S12x1536x128 .fp8e4m3) (harg7 : arg7.IsWhole)
  (arg8 : Memref sig .tc .vmem S12x1536x128 .fp8e4m3) (harg8 : arg8.IsWhole)
  (arg9 : Memref sig .tc .vmem S12x128 .f32) (harg9 : arg9.IsWhole)
  (arg10 : Memref sig .tc .vmem S12x128 .f32) (harg10 : arg10.IsWhole)
  (arg11 : Memref sig .tc .vmem S12x128 .f32) (harg11 : arg11.IsWhole)
  (arg12 : Memref sig .tc .vmem S12x128 .f32) (harg12 : arg12.IsWhole)
  (arg13 : Memref sig .tc .vmem S12x128 .f32) (harg13 : arg13.IsWhole)
  (arg14 : Memref sig .tc .vmem S12x128 .f32) (harg14 : arg14.IsWhole)
  (arg15 : Memref sig .tc .vmem S12x128 .f32) (harg15 : arg15.IsWhole)
  (arg16 : Memref sig .tc .vmem S12x128 .f32) (harg16 : arg16.IsWhole)
  (arg17 : Memref sig .tc .vmem S1x256x1536 .fp8e4m3) (harg17 : arg17.IsWhole)
  (arg18 : Memref sig .tc .vmem S2x1024 .f32) (harg18 : arg18.IsWhole)
  (arg19 : Memref sig .tc .vmem S1x12x256x128 .bf16) (harg19 : arg19.IsWhole)
  (arg20 : Memref sig .tc .vmem S1x12x256x128 .bf16) (harg20 : arg20.IsWhole)
  (arg21 : Memref sig .tc .vmem S1x12x128x256 .bf16) (harg21 : arg21.IsWhole)
  (arg22 : Memref sig .tc .vmem S256x1536 .f32) (harg22 : arg22.IsWhole)
  (x0 : Vec Ideal S1x256x1536 .bf16)
  (x1 : Vec Ideal S6x2x1536 .f32)
  (x2 : Vec Ideal S6x1536 .f32)
  (x3 : Vec Ideal S64x256 .f32)
  (x4 : Vec Ideal S64x256 .f32)
  (x5 : Vec Ideal S12x1536x128 .fp8e4m3)
  (x6 : Vec Ideal S12x1536x128 .fp8e4m3)
  (x7 : Vec Ideal S12x1536x128 .fp8e4m3)
  (x8 : Vec Ideal S12x128 .f32)
  (x9 : Vec Ideal S12x128 .f32)
  (x10 : Vec Ideal S12x128 .f32)
  (x11 : Vec Ideal S12x128 .f32)
  (x12 : Vec Ideal S12x128 .f32)
  (x13 : Vec Ideal S12x128 .f32)
  (x14 : Vec Ideal S12x128 .f32)
  (x15 : Vec Ideal S12x128 .f32)

theorem invK_eq (r : Fin 256) : kernelRun0_A.sl.r_36 (F := Ideal) c i arg1 harg1 arg2 harg2 arg3 harg3 arg7 harg7 arg10 harg10 arg13 harg13 x0 x1 x2 x6 x9 x12 (ix2 r 0) = rootK ((blkP x0 x1 x2 i x6 x9 x12) r) :=
  inv_apply _ ((blkP x0 x1 x2 i x6 x9 x12) r) r (fun l =>
    add_sq _ _ r l _ _ (add_sq _ _ r l _ _ (add_sq _ _ r l _ _ (add_sq _ _ r l _ _ (add_sq _ _ r l _ _ (add_sq _ _ r l _ _ (add_sq _ _ r l _ _ (add_sq _ _ r l _ _ (add_sq _ _ r l _ _ (add_sq _ _ r l _ _ (add_sq _ _ r l _ _ (add_sq _ _ r l _ _ (by pointwise) (headLo _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 0 1 (by decide) (by decide) (by decide) (by decide) r l)) (headHi _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 0 1 (by decide) (by decide) (by decide) (by decide) r l)) (headLo _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 2 3 (by decide) (by decide) (by decide) (by decide) r l)) (headHi _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 2 3 (by decide) (by decide) (by decide) (by decide) r l)) (headLo _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 4 5 (by decide) (by decide) (by decide) (by decide) r l)) (headHi _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 4 5 (by decide) (by decide) (by decide) (by decide) r l)) (headLo _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 6 7 (by decide) (by decide) (by decide) (by decide) r l)) (headHi _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 6 7 (by decide) (by decide) (by decide) (by decide) r l)) (headLo _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 8 9 (by decide) (by decide) (by decide) (by decide) r l)) (headHi _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 8 9 (by decide) (by decide) (by decide) (by decide) r l)) (headLo _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 10 11 (by decide) (by decide) (by decide) (by decide) r l)) (headHi _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 10 11 (by decide) (by decide) (by decide) (by decide) r l))

/-- The stores of the second projection's heads come over those of the first. -/
theorem hk_pieces : ∃ L : List (View.Piece (Elt Ideal) S256x1536 .f32), kernelRun0_A.sl.HS0_24 (F := Ideal) c i arg1 harg1 arg2 harg2 arg3 harg3 arg6 harg6 arg7 harg7 arg9 harg9 arg10 harg10 arg12 harg12 arg13 harg13 x0 x1 x2 x5 x6 x8 x9 x11 x12 = L ++ kernelRun0_A.sl.HS0_12 (F := Ideal) c i arg1 harg1 arg2 harg2 arg3 harg3 arg6 harg6 arg9 harg9 arg12 harg12 x0 x1 x2 x5 x8 x11 ∧ View.PiecesOf (arrY (blkP x0 x1 x2 i x6 x9 x12)) L
    ∧ ∀ y : S256x1536.Idx, ∃ p ∈ L, y ∈ p.1.set := by
  refine ⟨[_, _, _, _, _, _, _, _, _, _, _, _], rfl, ?_, ?_⟩
  · exact ⟨(by have e := fun (r : Fin 256) (l : Fin 128) => headHi _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 10 11 (by decide) (by decide) (by decide) (by decide) r l; exact keep_piece (blkP x0 x1 x2 i x6 x9 x12) 11 1408 (by decide) rfl (by decide) _ e),
   (by have e := fun (r : Fin 256) (l : Fin 128) => headLo _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 10 11 (by decide) (by decide) (by decide) (by decide) r l; exact keep_piece (blkP x0 x1 x2 i x6 x9 x12) 10 1280 (by decide) rfl (by decide) _ e),
   (by have e := fun (r : Fin 256) (l : Fin 128) => headHi _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 8 9 (by decide) (by decide) (by decide) (by decide) r l; exact keep_piece (blkP x0 x1 x2 i x6 x9 x12) 9 1152 (by decide) rfl (by decide) _ e),
   (by have e := fun (r : Fin 256) (l : Fin 128) => headLo _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 8 9 (by decide) (by decide) (by decide) (by decide) r l; exact keep_piece (blkP x0 x1 x2 i x6 x9 x12) 8 1024 (by decide) rfl (by decide) _ e),
   (by have e := fun (r : Fin 256) (l : Fin 128) => headHi _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 6 7 (by decide) (by decide) (by decide) (by decide) r l; exact keep_piece (blkP x0 x1 x2 i x6 x9 x12) 7 896 (by decide) rfl (by decide) _ e),
   (by have e := fun (r : Fin 256) (l : Fin 128) => headLo _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 6 7 (by decide) (by decide) (by decide) (by decide) r l; exact keep_piece (blkP x0 x1 x2 i x6 x9 x12) 6 768 (by decide) rfl (by decide) _ e),
   (by have e := fun (r : Fin 256) (l : Fin 128) => headHi _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 4 5 (by decide) (by decide) (by decide) (by decide) r l; exact keep_piece (blkP x0 x1 x2 i x6 x9 x12) 5 640 (by decide) rfl (by decide) _ e),
   (by have e := fun (r : Fin 256) (l : Fin 128) => headLo _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 4 5 (by decide) (by decide) (by decide) (by decide) r l; exact keep_piece (blkP x0 x1 x2 i x6 x9 x12) 4 512 (by decide) rfl (by decide) _ e),
   (by have e := fun (r : Fin 256) (l : Fin 128) => headHi _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 2 3 (by decide) (by decide) (by decide) (by decide) r l; exact keep_piece (blkP x0 x1 x2 i x6 x9 x12) 3 384 (by decide) rfl (by decide) _ e),
   (by have e := fun (r : Fin 256) (l : Fin 128) => headLo _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 2 3 (by decide) (by decide) (by decide) (by decide) r l; exact keep_piece (blkP x0 x1 x2 i x6 x9 x12) 2 256 (by decide) rfl (by decide) _ e),
   (by have e := fun (r : Fin 256) (l : Fin 128) => headHi _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 0 1 (by decide) (by decide) (by decide) (by decide) r l; exact keep_piece (blkP x0 x1 x2 i x6 x9 x12) 1 128 (by decide) rfl (by decide) _ e),
   (by have e := fun (r : Fin 256) (l : Fin 128) => headLo _ _ (rowX x0 x1 x2 i) (code_eq c i arg1 harg1 arg2 harg2 arg3 harg3 x0 x1 x2) (scale_eq c i arg1 harg1 arg2 harg2 arg3 harg3 x0 x1 x2) arg7 harg7 x6 arg10 harg10 x9 arg13 harg13 x12 0 1 (by decide) (by decide) (by decide) (by decide) r l; exact keep_piece (blkP x0 x1 x2 i x6 x9 x12) 0 0 (by decide) rfl (by decide) _ e), trivial⟩
  · exact View.cover_of_tiledL _ S256x128.size (by sl_kernel_rfl)

/-- What the scratch holds once the last head of the second is in. -/
theorem hk_eq (y : S256x1536.Idx) : View.canon (kernelRun0_A.sl.HS0_24 (F := Ideal) c i arg1 harg1 arg2 harg2 arg3 harg3 arg6 harg6 arg7 harg7 arg9 harg9 arg10 harg10 arg12 harg12 arg13 harg13 x0 x1 x2 x5 x6 x8 x9 x11 x12) y = arrY (blkP x0 x1 x2 i x6 x9 x12) y := by
  obtain ⟨L, e, h, hc⟩ := hk_pieces c i arg1 harg1 arg2 harg2 arg3 harg3 arg6 harg6 arg7 harg7 arg9 harg9 arg10 harg10 arg12 harg12 arg13 harg13 x0 x1 x2 x5 x6 x8 x9 x11 x12
  rw [e]
  exact View.canon_append_of_piecesOf (arrY (blkP x0 x1 x2 i x6 x9 x12)) _ L h y (hc y)

end Block
end Cert.QkvIdeal.Val
-- ==== Proof.QkvRotK.lean ====
/-
  The second projection, normalised and rotated, as it is stored. -/
module

public import proofs.«01_k».proof.Proof.QkvHeadK

@[expose] public section
set_option maxRecDepth 16384
noncomputable section
namespace Cert.QkvIdeal.Val
open Idealize.ShloMosaic Idealize.ShloMosaic.Tactic Cert.QkvIdeal Cert.QkvIdeal.Gen Cert.FfnVal Cert.ProjVal Cert.QkvVal Cert.QkvIdeal.Run
open Cert.CtxIdeal.Val (projRow rdW rdS headLo headHi arrY arrT keep_piece keep_read val_piece add_sq scale_apply code_apply scale_row cast_codes)

section Block
variable (c : Dev nD) (i : grid0.Coords)
  (arg1 : Memref sig .tc .vmem S1x256x1536 .bf16) (harg1 : arg1.IsWhole)
  (arg2 : Memref sig .tc .vmem S6x2x1536 .f32) (harg2 : arg2.IsWhole)
  (arg3 : Memref sig .tc .vmem S6x1536 .f32) (harg3 : arg3.IsWhole)
  (arg4 : Memref sig .tc .vmem S64x256 .f32) (harg4 : arg4.IsWhole)
  (arg5 : Memref sig .tc .vmem S64x256 .f32) (harg5 : arg5.IsWhole)
  (arg6 : Memref sig .tc .vmem S12x1536x128 .fp8e4m3) (harg6 : arg6.IsWhole)
  (arg7 : Memref sig .tc .vmem S12x1536x128 .fp8e4m3) (harg7 : arg7.IsWhole)
  (arg8 : Memref sig .tc .vmem S12x1536x128 .fp8e4m3) (harg8 : arg8.IsWhole)
  (arg9 : Memref sig .tc .vmem S12x128 .f32) (harg9 : arg9.IsWhole)
  (arg10 : Memref sig .tc .vmem S12x128 .f32) (harg10 : arg10.IsWhole)
  (arg11 : Memref sig .tc .vmem S12x128 .f32) (harg11 : arg11.IsWhole)
  (arg12 : Memref sig .tc .vmem S12x128 .f32) (harg12 : arg12.IsWhole)
  (arg13 : Memref sig .tc .vmem S12x128 .f32) (harg13 : arg13.IsWhole)
  (arg14 : Memref sig .tc .vmem S12x128 .f32) (harg14 : arg14.IsWhole)
  (arg15 : Memref sig .tc .vmem S12x128 .f32) (harg15 : arg15.IsWhole)
  (arg16 : Memref sig .tc .vmem S12x128 .f32) (harg16 : arg16.IsWhole)
  (arg17 : Memref sig .tc .vmem S1x256x1536 .fp8e4m3) (harg17 : arg17.IsWhole)
  (arg18 : Memref sig .tc .vmem S2x1024 .f32) (harg18 : arg18.IsWhole)
  (arg19 : Memref sig .tc .vmem S1x12x256x128 .bf16) (harg19 : arg19.IsWhole)
  (arg20 : Memref sig .tc .vmem S1x12x256x128 .bf16) (harg20 : arg20.IsWhole)
  (arg21 : Memref sig .tc .vmem S1x12x128x256 .bf16) (harg21 : arg21.IsWhole)
  (arg22 : Memref sig .tc .vmem S256x1536 .f32) (harg22 : arg22.IsWhole)
  (x0 : Vec Ideal S1x256x1536 .bf16)
  (x1 : Vec Ideal S6x2x1536 .f32)
  (x2 : Vec Ideal S6x1536 .f32)
  (x3 : Vec Ideal S64x256 .f32)
  (x4 : Vec Ideal S64x256 .f32)
  (x5 : Vec Ideal S12x1536x128 .fp8e4m3)
  (x6 : Vec Ideal S12x1536x128 .fp8e4m3)
  (x7 : Vec Ideal S12x1536x128 .fp8e4m3)
  (x8 : Vec Ideal S12x128 .f32)
  (x9 : Vec Ideal S12x128 .f32)
  (x10 : Vec Ideal S12x128 .f32)
  (x11 : Vec Ideal S12x128 .f32)
  (x12 : Vec Ideal S12x128 .f32)
  (x13 : Vec Ideal S12x128 .f32)
  (x14 : Vec Ideal S12x128 .f32)
  (x15 : Vec Ideal S12x128 .f32)

set_option maxHeartbeats 4000000 in
theorem k_pieces : View.PiecesOf (arrR (blkP x0 x1 x2 i x6 x9 x12) x15 x3 x4) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15).2.2.2.1 :=
  ⟨rot_piece _ _ x3 x4 11 (by decide) (by decide) _ _ _ _ _ _ (keep_read _ arg22 _ (hk_eq c i arg1 harg1 arg2 harg2 arg3 harg3 arg6 harg6 arg7 harg7 arg9 harg9 arg10 harg10 arg12 harg12 arg13 harg13 x0 x1 x2 x5 x6 x8 x9 x11 x12) 11 1408 (by decide) rfl (by decide)) (invK_eq c i arg1 harg1 arg2 harg2 arg3 harg3 arg7 harg7 arg10 harg10 arg13 harg13 x0 x1 x2 x6 x9 x12) (rdS arg16 harg16 x15 11 (by decide) (by decide)) (cos_eq c arg4 harg4 x3) (sin_eq c arg5 harg5 x4) even_apply,
   rot_piece _ _ x3 x4 10 (by decide) (by decide) _ _ _ _ _ _ (keep_read _ arg22 _ (hk_eq c i arg1 harg1 arg2 harg2 arg3 harg3 arg6 harg6 arg7 harg7 arg9 harg9 arg10 harg10 arg12 harg12 arg13 harg13 x0 x1 x2 x5 x6 x8 x9 x11 x12) 10 1280 (by decide) rfl (by decide)) (invK_eq c i arg1 harg1 arg2 harg2 arg3 harg3 arg7 harg7 arg10 harg10 arg13 harg13 x0 x1 x2 x6 x9 x12) (rdS arg16 harg16 x15 10 (by decide) (by decide)) (cos_eq c arg4 harg4 x3) (sin_eq c arg5 harg5 x4) even_apply,
   rot_piece _ _ x3 x4 9 (by decide) (by decide) _ _ _ _ _ _ (keep_read _ arg22 _ (hk_eq c i arg1 harg1 arg2 harg2 arg3 harg3 arg6 harg6 arg7 harg7 arg9 harg9 arg10 harg10 arg12 harg12 arg13 harg13 x0 x1 x2 x5 x6 x8 x9 x11 x12) 9 1152 (by decide) rfl (by decide)) (invK_eq c i arg1 harg1 arg2 harg2 arg3 harg3 arg7 harg7 arg10 harg10 arg13 harg13 x0 x1 x2 x6 x9 x12) (rdS arg16 harg16 x15 9 (by decide) (by decide)) (cos_eq c arg4 harg4 x3) (sin_eq c arg5 harg5 x4) even_apply,
   rot_piece _ _ x3 x4 8 (by decide) (by decide) _ _ _ _ _ _ (keep_read _ arg22 _ (hk_eq c i arg1 harg1 arg2 harg2 arg3 harg3 arg6 harg6 arg7 harg7 arg9 harg9 arg10 harg10 arg12 harg12 arg13 harg13 x0 x1 x2 x5 x6 x8 x9 x11 x12) 8 1024 (by decide) rfl (by decide)) (invK_eq c i arg1 harg1 arg2 harg2 arg3 harg3 arg7 harg7 arg10 harg10 arg13 harg13 x0 x1 x2 x6 x9 x12) (rdS arg16 harg16 x15 8 (by decide) (by decide)) (cos_eq c arg4 harg4 x3) (sin_eq c arg5 harg5 x4) even_apply,
   rot_piece _ _ x3 x4 7 (by decide) (by decide) _ _ _ _ _ _ (keep_read _ arg22 _ (hk_eq c i arg1 harg1 arg2 harg2 arg3 harg3 arg6 harg6 arg7 harg7 arg9 harg9 arg10 harg10 arg12 harg12 arg13 harg13 x0 x1 x2 x5 x6 x8 x9 x11 x12) 7 896 (by decide) rfl (by decide)) (invK_eq c i arg1 harg1 arg2 harg2 arg3 harg3 arg7 harg7 arg10 harg10 arg13 harg13 x0 x1 x2 x6 x9 x12) (rdS arg16 harg16 x15 7 (by decide) (by decide)) (cos_eq c arg4 harg4 x3) (sin_eq c arg5 harg5 x4) even_apply,
   rot_piece _ _ x3 x4 6 (by decide) (by decide) _ _ _ _ _ _ (keep_read _ arg22 _ (hk_eq c i arg1 harg1 arg2 harg2 arg3 harg3 arg6 harg6 arg7 harg7 arg9 harg9 arg10 harg10 arg12 harg12 arg13 harg13 x0 x1 x2 x5 x6 x8 x9 x11 x12) 6 768 (by decide) rfl (by decide)) (invK_eq c i arg1 harg1 arg2 harg2 arg3 harg3 arg7 harg7 arg10 harg10 arg13 harg13 x0 x1 x2 x6 x9 x12) (rdS arg16 harg16 x15 6 (by decide) (by decide)) (cos_eq c arg4 harg4 x3) (sin_eq c arg5 harg5 x4) even_apply,
   rot_piece _ _ x3 x4 5 (by decide) (by decide) _ _ _ _ _ _ (keep_read _ arg22 _ (hk_eq c i arg1 harg1 arg2 harg2 arg3 harg3 arg6 harg6 arg7 harg7 arg9 harg9 arg10 harg10 arg12 harg12 arg13 harg13 x0 x1 x2 x5 x6 x8 x9 x11 x12) 5 640 (by decide) rfl (by decide)) (invK_eq c i arg1 harg1 arg2 harg2 arg3 harg3 arg7 harg7 arg10 harg10 arg13 harg13 x0 x1 x2 x6 x9 x12) (rdS arg16 harg16 x15 5 (by decide) (by decide)) (cos_eq c arg4 harg4 x3) (sin_eq c arg5 harg5 x4) even_apply,
   rot_piece _ _ x3 x4 4 (by decide) (by decide) _ _ _ _ _ _ (keep_read _ arg22 _ (hk_eq c i arg1 harg1 arg2 harg2 arg3 harg3 arg6 harg6 arg7 harg7 arg9 harg9 arg10 harg10 arg12 harg12 arg13 harg13 x0 x1 x2 x5 x6 x8 x9 x11 x12) 4 512 (by decide) rfl (by decide)) (invK_eq c i arg1 harg1 arg2 harg2 arg3 harg3 arg7 harg7 arg10 harg10 arg13 harg13 x0 x1 x2 x6 x9 x12) (rdS arg16 harg16 x15 4 (by decide) (by decide)) (cos_eq c arg4 harg4 x3) (sin_eq c arg5 harg5 x4) even_apply,
   rot_piece _ _ x3 x4 3 (by decide) (by decide) _ _ _ _ _ _ (keep_read _ arg22 _ (hk_eq c i arg1 harg1 arg2 harg2 arg3 harg3 arg6 harg6 arg7 harg7 arg9 harg9 arg10 harg10 arg12 harg12 arg13 harg13 x0 x1 x2 x5 x6 x8 x9 x11 x12) 3 384 (by decide) rfl (by decide)) (invK_eq c i arg1 harg1 arg2 harg2 arg3 harg3 arg7 harg7 arg10 harg10 arg13 harg13 x0 x1 x2 x6 x9 x12) (rdS arg16 harg16 x15 3 (by decide) (by decide)) (cos_eq c arg4 harg4 x3) (sin_eq c arg5 harg5 x4) even_apply,
   rot_piece _ _ x3 x4 2 (by decide) (by decide) _ _ _ _ _ _ (keep_read _ arg22 _ (hk_eq c i arg1 harg1 arg2 harg2 arg3 harg3 arg6 harg6 arg7 harg7 arg9 harg9 arg10 harg10 arg12 harg12 arg13 harg13 x0 x1 x2 x5 x6 x8 x9 x11 x12) 2 256 (by decide) rfl (by decide)) (invK_eq c i arg1 harg1 arg2 harg2 arg3 harg3 arg7 harg7 arg10 harg10 arg13 harg13 x0 x1 x2 x6 x9 x12) (rdS arg16 harg16 x15 2 (by decide) (by decide)) (cos_eq c arg4 harg4 x3) (sin_eq c arg5 harg5 x4) even_apply,
   rot_piece _ _ x3 x4 1 (by decide) (by decide) _ _ _ _ _ _ (keep_read _ arg22 _ (hk_eq c i arg1 harg1 arg2 harg2 arg3 harg3 arg6 harg6 arg7 harg7 arg9 harg9 arg10 harg10 arg12 harg12 arg13 harg13 x0 x1 x2 x5 x6 x8 x9 x11 x12) 1 128 (by decide) rfl (by decide)) (invK_eq c i arg1 harg1 arg2 harg2 arg3 harg3 arg7 harg7 arg10 harg10 arg13 harg13 x0 x1 x2 x6 x9 x12) (rdS arg16 harg16 x15 1 (by decide) (by decide)) (cos_eq c arg4 harg4 x3) (sin_eq c arg5 harg5 x4) even_apply,
   rot_piece _ _ x3 x4 0 (by decide) (by decide) _ _ _ _ _ _ (keep_read _ arg22 _ (hk_eq c i arg1 harg1 arg2 harg2 arg3 harg3 arg6 harg6 arg7 harg7 arg9 harg9 arg10 harg10 arg12 harg12 arg13 harg13 x0 x1 x2 x5 x6 x8 x9 x11 x12) 0 0 (by decide) rfl (by decide)) (invK_eq c i arg1 harg1 arg2 harg2 arg3 harg3 arg7 harg7 arg10 harg10 arg13 harg13 x0 x1 x2 x6 x9 x12) (rdS arg16 harg16 x15 0 (by decide) (by decide)) (cos_eq c arg4 harg4 x3) (sin_eq c arg5 harg5 x4) even_apply, trivial⟩

end Block
end Cert.QkvIdeal.Val
-- ==== Proof.QkvVal.lean ====
/-
  The third projection as it is stored. -/
module

public import proofs.«01_k».proof.Proof.QkvBlock

@[expose] public section
set_option maxRecDepth 16384
noncomputable section
namespace Cert.QkvIdeal.Val
open Idealize.ShloMosaic Idealize.ShloMosaic.Tactic Cert.QkvIdeal Cert.QkvIdeal.Gen Cert.FfnVal Cert.ProjVal Cert.QkvVal Cert.QkvIdeal.Run
open Cert.CtxIdeal.Val (projRow rdW rdS headLo headHi arrY arrT keep_piece keep_read val_piece add_sq scale_apply code_apply scale_row cast_codes)

section Block
variable (c : Dev nD) (i : grid0.Coords)
  (arg1 : Memref sig .tc .vmem S1x256x1536 .bf16) (harg1 : arg1.IsWhole)
  (arg2 : Memref sig .tc .vmem S6x2x1536 .f32) (harg2 : arg2.IsWhole)
  (arg3 : Memref sig .tc .vmem S6x1536 .f32) (harg3 : arg3.IsWhole)
  (arg4 : Memref sig .tc .vmem S64x256 .f32) (harg4 : arg4.IsWhole)
  (arg5 : Memref sig .tc .vmem S64x256 .f32) (harg5 : arg5.IsWhole)
  (arg6 : Memref sig .tc .vmem S12x1536x128 .fp8e4m3) (harg6 : arg6.IsWhole)
  (arg7 : Memref sig .tc .vmem S12x1536x128 .fp8e4m3) (harg7 : arg7.IsWhole)
  (arg8 : Memref sig .tc .vmem S12x1536x128 .fp8e4m3) (harg8 : arg8.IsWhole)
  (arg9 : Memref sig .tc .vmem S12x128 .f32) (harg9 : arg9.IsWhole)
  (arg10 : Memref sig .tc .vmem S12x128 .f32) (harg10 : arg10.IsWhole)
  (arg11 : Memref sig .tc .vmem S12x128 .f32) (harg11 : arg11.IsWhole)
  (arg12 : Memref sig .tc .vmem S12x128 .f32) (harg12 : arg12.IsWhole)
  (arg13 : Memref sig .tc .vmem S12x128 .f32) (harg13 : arg13.IsWhole)
  (arg14 : Memref sig .tc .vmem S12x128 .f32) (harg14 : arg14.IsWhole)
  (arg15 : Memref sig .tc .vmem S12x128 .f32) (harg15 : arg15.IsWhole)
  (arg16 : Memref sig .tc .vmem S12x128 .f32) (harg16 : arg16.IsWhole)
  (arg17 : Memref sig .tc .vmem S1x256x1536 .fp8e4m3) (harg17 : arg17.IsWhole)
  (arg18 : Memref sig .tc .vmem S2x1024 .f32) (harg18 : arg18.IsWhole)
  (arg19 : Memref sig .tc .vmem S1x12x256x128 .bf16) (harg19 : arg19.IsWhole)
  (arg20 : Memref sig .tc .vmem S1x12x256x128 .bf16) (harg20 : arg20.IsWhole)
  (arg21 : Memref sig .tc .vmem S1x12x128x256 .bf16) (harg21 : arg21.IsWhole)
  (arg22 : Memref sig .tc .vmem S256x1536 .f32) (harg22 : arg22.IsWhole)
  (x0 : Vec Ideal S1x256x1536 .bf16)
  (x1 : Vec Ideal S6x2x1536 .f32)
  (x2 : Vec Ideal S6x1536 .f32)
  (x3 : Vec Ideal S64x256 .f32)
  (x4 : Vec Ideal S64x256 .f32)
  (x5 : Vec Ideal S12x1536x128 .fp8e4m3)
  (x6 : Vec Ideal S12x1536x128 .fp8e4m3)
  (x7 : Vec Ideal S12x1536x128 .fp8e4m3)
  (x8 : Vec Ideal S12x128 .f32)
  (x9 : Vec Ideal S12x128 .f32)
  (x10 : Vec Ideal S12x128 .f32)
  (x11 : Vec Ideal S12x128 .f32)
  (x12 : Vec Ideal S12x128 .f32)
  (x13 : Vec Ideal S12x128 .f32)
  (x14 : Vec Ideal S12x128 .f32)
  (x15 : Vec Ideal S12x128 .f32)

set_option maxHeartbeats 4000000 in
theorem v_pieces : View.PiecesOf (arrT (blkP x0 x1 x2 i x7 x10 x13)) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15).2.2.2.2.1 :=
  ⟨val_piece _ 11 (by decide) (by decide) _ (fun r l => headHi _ _ (rowX x0 x1 x2 i) (code_eq c i arg1 harg1 arg2 harg2 arg3 harg3 x0 x1 x2) (scale_eq c i arg1 harg1 arg2 harg2 arg3 harg3 x0 x1 x2) arg8 harg8 x7 arg11 harg11 x10 arg14 harg14 x13 10 11 (by decide) (by decide) (by decide) (by decide) r l),
   val_piece _ 10 (by decide) (by decide) _ (fun r l => headLo _ _ (rowX x0 x1 x2 i) (code_eq c i arg1 harg1 arg2 harg2 arg3 harg3 x0 x1 x2) (scale_eq c i arg1 harg1 arg2 harg2 arg3 harg3 x0 x1 x2) arg8 harg8 x7 arg11 harg11 x10 arg14 harg14 x13 10 11 (by decide) (by decide) (by decide) (by decide) r l),
   val_piece _ 9 (by decide) (by decide) _ (fun r l => headHi _ _ (rowX x0 x1 x2 i) (code_eq c i arg1 harg1 arg2 harg2 arg3 harg3 x0 x1 x2) (scale_eq c i arg1 harg1 arg2 harg2 arg3 harg3 x0 x1 x2) arg8 harg8 x7 arg11 harg11 x10 arg14 harg14 x13 8 9 (by decide) (by decide) (by decide) (by decide) r l),
   val_piece _ 8 (by decide) (by decide) _ (fun r l => headLo _ _ (rowX x0 x1 x2 i) (code_eq c i arg1 harg1 arg2 harg2 arg3 harg3 x0 x1 x2) (scale_eq c i arg1 harg1 arg2 harg2 arg3 harg3 x0 x1 x2) arg8 harg8 x7 arg11 harg11 x10 arg14 harg14 x13 8 9 (by decide) (by decide) (by decide) (by decide) r l),
   val_piece _ 7 (by decide) (by decide) _ (fun r l => headHi _ _ (rowX x0 x1 x2 i) (code_eq c i arg1 harg1 arg2 harg2 arg3 harg3 x0 x1 x2) (scale_eq c i arg1 harg1 arg2 harg2 arg3 harg3 x0 x1 x2) arg8 harg8 x7 arg11 harg11 x10 arg14 harg14 x13 6 7 (by decide) (by decide) (by decide) (by decide) r l),
   val_piece _ 6 (by decide) (by decide) _ (fun r l => headLo _ _ (rowX x0 x1 x2 i) (code_eq c i arg1 harg1 arg2 harg2 arg3 harg3 x0 x1 x2) (scale_eq c i arg1 harg1 arg2 harg2 arg3 harg3 x0 x1 x2) arg8 harg8 x7 arg11 harg11 x10 arg14 harg14 x13 6 7 (by decide) (by decide) (by decide) (by decide) r l),
   val_piece _ 5 (by decide) (by decide) _ (fun r l => headHi _ _ (rowX x0 x1 x2 i) (code_eq c i arg1 harg1 arg2 harg2 arg3 harg3 x0 x1 x2) (scale_eq c i arg1 harg1 arg2 harg2 arg3 harg3 x0 x1 x2) arg8 harg8 x7 arg11 harg11 x10 arg14 harg14 x13 4 5 (by decide) (by decide) (by decide) (by decide) r l),
   val_piece _ 4 (by decide) (by decide) _ (fun r l => headLo _ _ (rowX x0 x1 x2 i) (code_eq c i arg1 harg1 arg2 harg2 arg3 harg3 x0 x1 x2) (scale_eq c i arg1 harg1 arg2 harg2 arg3 harg3 x0 x1 x2) arg8 harg8 x7 arg11 harg11 x10 arg14 harg14 x13 4 5 (by decide) (by decide) (by decide) (by decide) r l),
   val_piece _ 3 (by decide) (by decide) _ (fun r l => headHi _ _ (rowX x0 x1 x2 i) (code_eq c i arg1 harg1 arg2 harg2 arg3 harg3 x0 x1 x2) (scale_eq c i arg1 harg1 arg2 harg2 arg3 harg3 x0 x1 x2) arg8 harg8 x7 arg11 harg11 x10 arg14 harg14 x13 2 3 (by decide) (by decide) (by decide) (by decide) r l),
   val_piece _ 2 (by decide) (by decide) _ (fun r l => headLo _ _ (rowX x0 x1 x2 i) (code_eq c i arg1 harg1 arg2 harg2 arg3 harg3 x0 x1 x2) (scale_eq c i arg1 harg1 arg2 harg2 arg3 harg3 x0 x1 x2) arg8 harg8 x7 arg11 harg11 x10 arg14 harg14 x13 2 3 (by decide) (by decide) (by decide) (by decide) r l),
   val_piece _ 1 (by decide) (by decide) _ (fun r l => headHi _ _ (rowX x0 x1 x2 i) (code_eq c i arg1 harg1 arg2 harg2 arg3 harg3 x0 x1 x2) (scale_eq c i arg1 harg1 arg2 harg2 arg3 harg3 x0 x1 x2) arg8 harg8 x7 arg11 harg11 x10 arg14 harg14 x13 0 1 (by decide) (by decide) (by decide) (by decide) r l),
   val_piece _ 0 (by decide) (by decide) _ (fun r l => headLo _ _ (rowX x0 x1 x2 i) (code_eq c i arg1 harg1 arg2 harg2 arg3 harg3 x0 x1 x2) (scale_eq c i arg1 harg1 arg2 harg2 arg3 harg3 x0 x1 x2) arg8 harg8 x7 arg11 harg11 x10 arg14 harg14 x13 0 1 (by decide) (by decide) (by decide) (by decide) r l), trivial⟩

end Block
end Cert.QkvIdeal.Val
-- ==== Proof.QkvRefPay.lean ====
/-
  The reference's five results, as they are computed, read at an index. -/
module

public import proofs.«01_k».proof.Proof.Gen.QkvRefIdeal.Value
public import proofs.«01_k».proof.Proof.QkvModel
public import Idealize.ShloMosaic.Lib.Pointwise

@[expose] public section
set_option maxRecDepth 16384
noncomputable section
namespace Cert.QkvRefIdeal.Val
open Idealize.ShloMosaic Cert.QkvRefIdeal Cert.QkvRefIdeal.Gen Cert.FfnVal Cert.ProjVal Cert.QkvVal

/-- Token `t` of sequence `b`, normalised, scaled and shifted. -/
def refX (a0 : S2x1024x1536.Idx → EReal) (a1 : S2x6x1536.Idx → EReal) (a2 : S6x1536.Idx → EReal) (b : Fin 2) (t : Fin 1024) : Fin 1536 → EReal :=
  mnorm (fun k => a0 (ix3 b t k)) (fun k => a2 (ix2 1 k) + a1 (ix3 b 1 k)) (fun k => a2 (ix2 0 k) + a1 (ix3 b 0 k))
/-- Its projection. -/
def refP (a0 : S2x1024x1536.Idx → EReal) (a1 : S2x6x1536.Idx → EReal) (a2 : S6x1536.Idx → EReal) (w : S1536x12x128.Idx → EReal) (s bi : S12x128.Idx → EReal) (b : Fin 2) (t : Fin 1024) :
    Fin 12 → Fin 128 → EReal :=
  fun h l => lin (refX a0 a1 a2 b t) (fun k => w (ix3 k h l)) (s (ix2 h l)) (bi (ix2 h l))

theorem pay4_apply (a0 : Vec Ideal S2x1024x1536 .bf16) (a2 : Vec Ideal S6x1536 .f32) (a1 : Vec Ideal S2x6x1536 .f32) (b : Fin 2) (t : Fin 1024) (k : Fin 1536) :
    k0_pay4 (F := Ideal) a0 a2 a1 (ix3 b t k) = refX a0 a1 a2 b t k := by
  unfold refX mnorm devRoot dev ProjVal.nD eps
  pointwise [k0_pay4]

theorem pay5_apply (a0 : Vec Ideal S2x1024x1536 .bf16) (a2 : Vec Ideal S6x1536 .f32) (a1 : Vec Ideal S2x6x1536 .f32) (b : Fin 2) (t : Fin 1024) : k0_pay5 (F := Ideal) a0 a2 a1 (ix2 b t) = rowSc (refX a0 a1 a2 b t) := by
  have g : ∀ v32 : FVec Ideal S2x1024 .f32, select (cmpf .oeq v32 (broadcast S2x1024 (Scalar.ofBits .f32 0x00000000#32 : Ideal .f32)))
      (broadcast S2x1024 (Scalar.ofBits .f32 0x3F800000#32 : Ideal .f32))
      (divf v32 (broadcast S2x1024 (Scalar.ofBits .f32 0x43E00000#32 : Ideal .f32))) (ix2 b t) = quant (v32 (ix2 b t)) := by
    intro v32
    unfold quant top8
    pointwise
  refine (g _).trans ?_
  unfold rowSc
  refine congrArg quant ((red_max3 (absf (k0_pay4 (F := Ideal) a0 a2 a1)) reduces_S2x1024x1536_S2x1024 (.inl rfl) rfl b t).trans ?_)
  exact congrArg (fun f => (Finset.univ : Finset (Fin 1536)).fold max mInit f) (funext fun k => congrArg (FloatOps.absf (F := Ideal) (φ := .f32)) (pay4_apply a0 a2 a1 b t k))

theorem clip_apply (Y : FVec Ideal S2x1024x1536 .f32) (Z : FVec Ideal S2x1024 .f32) (b : Fin 2) (t : Fin 1024) (k : Fin 1536) :
    k0_pay7 (F := Ideal) (divf Y (broadcastTo S2x1024x1536 (shapeCast S2x1024x1 Z shapeCasts_S2x1024_S2x1024x1) broadcasts_S2x1024x1_S2x1024x1536)) (ix3 b t k)
      = clip (Ideal.div (Y (ix3 b t k)) (Z (ix2 b t))) := by
  unfold clip top8 bot8
  pointwise [k0_pay7]

theorem code_apply (a0 : Vec Ideal S2x1024x1536 .bf16) (a2 : Vec Ideal S6x1536 .f32) (a1 : Vec Ideal S2x6x1536 .f32) (b : Fin 2) (t : Fin 1024) (k : Fin 1536) :
    k0_pay7 (F := Ideal) (k0_pay6 (F := Ideal) a0 a2 a1) (ix3 b t k) = rowCode (refX a0 a1 a2 b t) k := by
  refine (clip_apply (k0_pay4 (F := Ideal) a0 a2 a1) (k0_pay5 (F := Ideal) a0 a2 a1) b t k).trans ?_
  rw [pay5_apply, pay4_apply]
  rfl

theorem linear_apply (C : FVec Ideal S2x1024x1536 .fp8e4m3) (Z : FVec Ideal S2x1024 .f32) (w : Vec Ideal S1536x12x128 .fp8e4m3) (s bi : Vec Ideal S12x128 .f32) (b : Fin 2) (t : Fin 1024) (h : Fin 12) (l : Fin 128) :
    k0_pay10 (F := Ideal) Z C w s bi (ix4 b t h l)
      = (∑ k : Fin 1536, C (ix3 b t k) * w (ix3 k h l)) * Z (ix2 b t) * s (ix2 h l) + bi (ix2 h l) := by
  pointwise [k0_pay10]

section Row
variable (a0 : Vec Ideal S2x1024x1536 .bf16) (a2 : Vec Ideal S6x1536 .f32) (a1 : Vec Ideal S2x6x1536 .f32)

theorem proj_apply (w : Vec Ideal S1536x12x128 .fp8e4m3) (s bi : Vec Ideal S12x128 .f32) (b : Fin 2) (t : Fin 1024) (h : Fin 12) (l : Fin 128) :
    k0_pay10 (F := Ideal) (k0_pay5 (F := Ideal) a0 a2 a1) (k0_pay7 (F := Ideal) (k0_pay6 (F := Ideal) a0 a2 a1)) w s bi (ix4 b t h l) = refP a0 a1 a2 w s bi b t h l := by
  refine (linear_apply _ _ w s bi b t h l).trans ?_
  rw [pay5_apply]
  unfold refP lin
  exact congrArg (fun q : EReal => q * rowSc (refX a0 a1 a2 b t) * s (ix2 h l) + bi (ix2 h l)) (Finset.sum_congr rfl fun k _ => congrArg (· * w (ix3 k h l)) (code_apply a0 a2 a1 b t k))

/-- A projection over the root of its mean square, times its gain. -/
def normed (V : FVec Ideal S2x1024x12x128 .f32) (g : Vec Ideal S12x128 .f32) : FVec Ideal S2x1024x12x128 .f32 :=
  mulf (divf V (broadcastTo S2x1024x12x128 (sqrt (addf (divf (shapeCast S2x1024x1x1 (multiReduction .add [2, 3] S2x1024 (mulf V V) 0x00000000#32 reduces_S2x1024x12x128_S2x1024 (.inl rfl) rfl) shapeCasts_S2x1024_S2x1024x1x1)
    (broadcast S2x1024x1x1 (Scalar.ofBits .f32 0x44C00000#32 : Ideal .f32))) (broadcast S2x1024x1x1 (Scalar.ofBits .f32 0x358637BD#32 : Ideal .f32)))) broadcasts_S2x1024x1x1_S2x1024x12x128))
    (broadcastTo S2x1024x12x128 (shapeCast S1x1x12x128 g shapeCasts_S12x128_S1x1x12x128) broadcasts_S1x1x12x128_S2x1024x12x128)

theorem normed_apply (V : FVec Ideal S2x1024x12x128 .f32) (g : Vec Ideal S12x128 .f32) (b : Fin 2) (t : Fin 1024) (h : Fin 12) (l : Fin 128) :
    normed V g (ix4 b t h l) = rms (fun h l => V (ix4 b t h l)) (g (ix2 h l)) h l := by
  unfold rms root ssq ProjVal.nD eps
  pointwise [normed]

theorem rope_apply (V : FVec Ideal S2x1024x12x128 .f32) (c s : Vec Ideal S1024x64 .f32) (b : Fin 2) (t : Fin 1024) (h : Fin 12) (l : Fin 128) :
    k0_pay9 (F := Ideal) V c s (ix4 b t h l) = rot (fun p => c (ix2 t p)) (fun p => s (ix2 t p)) (fun l => V (ix4 b t h l)) l := by
  unfold rot lo hi pr
  pointwise [k0_pay9]
  simp only [Nat.mul_comm (l.val / 2) 2]
  by_cases h0 : l.val % 2 = 0
  · rw [dif_pos (by omega), if_pos h0]
  · rw [dif_neg (by omega), if_neg h0]
end Row
end Cert.QkvRefIdeal.Val
-- ==== Proof.QkvRefValue.lean ====
/-
  The reference's five results, read at an index: the model of one row. -/
module

public import proofs.«01_k».proof.Proof.QkvRefPay

@[expose] public section
set_option maxRecDepth 16384
noncomputable section
namespace Cert.QkvRefIdeal.Val
open Idealize.ShloMosaic Cert.QkvRefIdeal Cert.QkvRefIdeal.Gen Cert.FfnVal Cert.ProjVal Cert.QkvVal

section Results
variable (a0 : S2x1024x1536.Idx → EReal) (a1 : S2x6x1536.Idx → EReal) (a2 : S6x1536.Idx → EReal) (a3 a4 : S1024x64.Idx → EReal)
  (a5 a6 a7 : S1536x12x128.Idx → EReal) (a8 a9 a10 a11 a12 a13 a14 a15 : S12x128.Idx → EReal)

/-- The codes, of the argument arrays. -/
def resC : S2x1024x1536.Idx → EReal := fun j => rowCode (refX a0 a1 a2 (j 0) (j 1)) (j 2)
/-- The scales, of the argument arrays. -/
def resS : S2x1024.Idx → EReal := fun j => rowSc (refX a0 a1 a2 (j 0) (j 1))
/-- A projection normalised and rotated, of the argument arrays: the tables, the weights, their scale and bias, the gain. -/
def resQ (c s : S1024x64.Idx → EReal) (w : S1536x12x128.Idx → EReal) (sw bi g : S12x128.Idx → EReal) : S2x12x1024x128.Idx → EReal :=
  fun j => rot (fun p => c (ix2 (j 2) p)) (fun p => s (ix2 (j 2) p)) (fun l => rms (refP a0 a1 a2 w sw bi (j 0) (j 2)) (g (ix2 (j 1) l)) (j 1) l) (j 3)
/-- The values, of the argument arrays. -/
def resV (w : S1536x12x128.Idx → EReal) (sw bi : S12x128.Idx → EReal) : S2x12x128x1024.Idx → EReal :=
  fun j => refP a0 a1 a2 w sw bi (j 0) (j 3) (j 1) (j 2)

theorem ix4_eq {a b c d : ℕ} (j : (⟨4, ![a, b, c, d]⟩ : Shape).Idx) : j = ix4 (j 0) (j 1) (j 2) (j 3) := by
  funext i
  match i with
  | ⟨0, _⟩ => rfl
  | ⟨1, _⟩ => rfl
  | ⟨2, _⟩ => rfl
  | ⟨3, _⟩ => rfl

theorem hz2 : (![0, 0] : Fin 2 → ℕ) = fun _ => 0 := by decide
theorem hz3 : (![0, 0, 0] : Fin 3 → ℕ) = fun _ => 0 := by decide

theorem ld0 : View.ld (Val := Elt Ideal) (e' := .bf16) a0 r0_0 = a0 := View.ld_unit_zero (S := S2x1024x1536) (Val := Elt Ideal) (e := .bf16) hz3 inb_S2x1024x1536_S2x1024x1536_0_0_0 a0
theorem ld1 : View.ld (Val := Elt Ideal) (e' := .f32) a2 r0_1 = a2 := View.ld_unit_zero (S := S6x1536) (Val := Elt Ideal) (e := .f32) hz2 inb_S6x1536_S6x1536_0_0 a2
theorem ld2 : View.ld (Val := Elt Ideal) (e' := .f32) a1 r0_2 = a1 := View.ld_unit_zero (S := S2x6x1536) (Val := Elt Ideal) (e := .f32) hz3 inb_S2x6x1536_S2x6x1536_0_0_0 a1

theorem sc_eq : k0_pay16 (F := Ideal) a0 a1 a2 a3 a4 a5 a6 a7 a8 a9 a10 a11 a12 a13 a14 a15 = k0_pay5 (F := Ideal) a0 a2 a1 := by
  unfold k0_pay16
  rw [ld0, ld1, ld2]
theorem quot_eq : k0_pay17 (F := Ideal) a0 a1 a2 a3 a4 a5 a6 a7 a8 a9 a10 a11 a12 a13 a14 a15 = k0_pay6 (F := Ideal) a0 a2 a1 := by
  unfold k0_pay17
  rw [ld0, ld1, ld2]
theorem code_eq : k0_pay18 (F := Ideal) a0 a1 a2 a3 a4 a5 a6 a7 a8 a9 a10 a11 a12 a13 a14 a15 = k0_pay7 (F := Ideal) (k0_pay6 (F := Ideal) a0 a2 a1) := by
  unfold k0_pay18
  rw [quot_eq]

theorem rot_apply (V : FVec Ideal S2x1024x12x128 .f32) (w : Vec Ideal S1536x12x128 .fp8e4m3) (sw bi g : Vec Ideal S12x128 .f32)
    (hV : V = normed (k0_pay10 (F := Ideal) (k0_pay5 (F := Ideal) a0 a2 a1) (k0_pay7 (F := Ideal) (k0_pay6 (F := Ideal) a0 a2 a1)) w sw bi) g) (b : Fin 2) (h : Fin 12) (t : Fin 1024) (l : Fin 128) :
    k0_pay1 (F := Ideal) (k0_pay9 (F := Ideal) V a3 a4) (ix4 b h t l) = resQ a0 a1 a2 a3 a4 w sw bi g (ix4 b h t l) := by
  have e : ∀ W : FVec Ideal S2x1024x12x128 .bf16, k0_pay1 (F := Ideal) W (ix4 b h t l) = W (ix4 b t h l) := by
    intro W
    pointwise [k0_pay1]
  refine (e _).trans ((rope_apply V a3 a4 b t h l).trans ?_)
  subst hV
  refine congrArg (fun v => rot (fun p => a3 (ix2 t p)) (fun p => a4 (ix2 t p)) v l) (funext fun l => ?_)
  refine (normed_apply _ g b t h l).trans ?_
  exact congrArg (fun y => rms y (g (ix2 h l)) h l) (funext fun h => funext fun l => proj_apply a0 a2 a1 w sw bi b t h l)

theorem G16_eq : Value.G16 (F := Ideal) a0 a1 a2 a3 a4 a5 a6 a7 a8 a9 a10 a11 a12 a13 a14 a15 = resC a0 a1 a2 := by
  funext j
  obtain ⟨b, t, k, rfl⟩ : ∃ b t k, j = ix3 b t k := ⟨j 0, j 1, j 2, eq_ix3 j⟩
  exact (congrFun (congrArg (k0_pay7 (F := Ideal)) (quot_eq a0 a1 a2 a3 a4 a5 a6 a7 a8 a9 a10 a11 a12 a13 a14 a15)) _).trans (code_apply a0 a2 a1 b t k)
theorem G17_eq : Value.G17 (F := Ideal) a0 a1 a2 a3 a4 a5 a6 a7 a8 a9 a10 a11 a12 a13 a14 a15 = resS a0 a1 a2 := by
  funext j
  obtain ⟨b, t, rfl⟩ : ∃ b t, j = ix2 b t := ⟨j 0, j 1, eq_ix2 j⟩
  exact (congrFun (sc_eq a0 a1 a2 a3 a4 a5 a6 a7 a8 a9 a10 a11 a12 a13 a14 a15) _).trans (pay5_apply a0 a2 a1 b t)
theorem G18_eq : Value.G18 (F := Ideal) a0 a1 a2 a3 a4 a5 a6 a7 a8 a9 a10 a11 a12 a13 a14 a15 = resQ a0 a1 a2 a3 a4 a5 a8 a11 a14 := by
  funext j
  obtain ⟨b, h, t, l, rfl⟩ : ∃ b h t l, j = ix4 b h t l := ⟨j 0, j 1, j 2, j 3, ix4_eq j⟩
  exact rot_apply a0 a1 a2 a3 a4 _ a5 a8 a11 a14 ((congrArg₂ (fun p q => k0_pay8 (F := Ideal) p q a5 a8 a11 a14) (sc_eq a0 a1 a2 a3 a4 a5 a6 a7 a8 a9 a10 a11 a12 a13 a14 a15) (quot_eq a0 a1 a2 a3 a4 a5 a6 a7 a8 a9 a10 a11 a12 a13 a14 a15)).trans rfl) b h t l
theorem G19_eq : Value.G19 (F := Ideal) a0 a1 a2 a3 a4 a5 a6 a7 a8 a9 a10 a11 a12 a13 a14 a15 = resQ a0 a1 a2 a3 a4 a6 a9 a12 a15 := by
  funext j
  obtain ⟨b, h, t, l, rfl⟩ : ∃ b h t l, j = ix4 b h t l := ⟨j 0, j 1, j 2, j 3, ix4_eq j⟩
  refine Eq.trans ?_ (rot_apply a0 a1 a2 a3 a4 _ a6 a9 a12 a15 rfl b h t l)
  exact congrFun (congrArg₂ (fun p q => k0_pay2 (F := Ideal) (k0_pay13 (F := Ideal) (k0_pay10 (F := Ideal) p q a6 a9 a12) (k0_pay11 (F := Ideal) p q a6 a9 a12) (k0_pay12 (F := Ideal)) a15 a3 a4)) (sc_eq a0 a1 a2 a3 a4 a5 a6 a7 a8 a9 a10 a11 a12 a13 a14 a15) (code_eq a0 a1 a2 a3 a4 a5 a6 a7 a8 a9 a10 a11 a12 a13 a14 a15)) _
theorem G20_eq : Value.G20 (F := Ideal) a0 a1 a2 a3 a4 a5 a6 a7 a8 a9 a10 a11 a12 a13 a14 a15 = resV a0 a1 a2 a7 a10 a13 := by
  funext j
  obtain ⟨b, h, l, t, rfl⟩ : ∃ b h l t, j = ix4 b h l t := ⟨j 0, j 1, j 2, j 3, ix4_eq j⟩
  have e : ∀ W : FVec Ideal S2x1024x12x128 .f32, transpose S2x12x128x1024 [0, 2, 3, 1] (truncf .bf16 W bitsLt_bf16_f32 : FVec Ideal S2x1024x12x128 .bf16) transposes_S2x1024x12x128_p0_2_3_1_S2x12x128x1024 (ix4 b h l t) = W (ix4 b t h l) := by
    intro W
    pointwise
  refine Eq.trans ?_ ((e (k0_pay10 (F := Ideal) (k0_pay5 (F := Ideal) a0 a2 a1) (k0_pay7 (F := Ideal) (k0_pay6 (F := Ideal) a0 a2 a1)) a7 a10 a13)).trans (proj_apply a0 a2 a1 a7 a10 a13 b t h l))
  exact congrFun (congrArg₂ (fun p q => k0_pay3 (F := Ideal) (k0_pay14 (F := Ideal) p q a7 a10) (k0_pay15 (F := Ideal) a13)) (sc_eq a0 a1 a2 a3 a4 a5 a6 a7 a8 a9 a10 a11 a12 a13 a14 a15) (code_eq a0 a1 a2 a3 a4 a5 a6 a7 a8 a9 a10 a11 a12 a13 a14 a15)) _

end Results
end Cert.QkvRefIdeal.Val
-- ==== Proof.QkvEnd.lean ====
/-
  The kernel's five results as functions of the argument arrays, and its run. -/
module

public import proofs.«01_k».proof.Proof.QkvFrame
public import proofs.«01_k».proof.Proof.QkvRotQ
public import proofs.«01_k».proof.Proof.QkvRotK
public import proofs.«01_k».proof.Proof.QkvVal
public import proofs.«01_k».proof.Proof.QkvRefValue
public import Idealize.ShloMosaic.Lib.Pipeline.ValueKit

@[expose] public section
set_option maxRecDepth 16384
noncomputable section
namespace Cert.QkvIdeal.Val
open Idealize.ShloMosaic Idealize.ShloMosaic.TcCoe Idealize.ShloMosaic.Tactic Cert.QkvIdeal Cert.QkvIdeal.Gen Cert.FfnVal Cert.ProjVal Cert.QkvVal Cert.QkvIdeal.Run
open Idealize.SL Idealize.SL.Sem
open Cert.CtxIdeal.Val (projRow arrT)
open Cert.QkvRefIdeal.Val (refX refP resC resS resQ resV)

variable (m : (ℓ : Loc nD τ sig) → Buf (Elt Ideal) ℓ) (ρ : Dev nD → PrngReg)

/-- The token of a row of a grid point's block. -/
def gT (i : grid0.Coords) (r : Fin 256) : Fin 1024 := ⟨256 * ((i 0).val % 4) + r.val, by have := r.isLt; omega⟩
theorem gT_val (i : grid0.Coords) (r : Fin 256) : (gT i r).val = 256 * ((i 0).val % 4) + r.val := rfl

/-- Every window's block index at a grid point. -/
theorem idx : ∀ t : Fin cfg0.N, win0_0.index t = ![(grid0.coords t 0).val / 4, (grid0.coords t 0).val % 4, 0] ∧ win0_1.index t = ![0, 0, 0] ∧ win0_2.index t = ![0, 0]
    ∧ win0_3.index t = ![0, (grid0.coords t 0).val % 4] ∧ win0_4.index t = ![0, (grid0.coords t 0).val % 4] ∧ win0_5.index t = ![0, 0, 0] ∧ win0_6.index t = ![0, 0, 0] ∧ win0_7.index t = ![0, 0, 0]
    ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0]
    ∧ win0_16.index t = ![(grid0.coords t 0).val / 4, (grid0.coords t 0).val % 4, 0] ∧ win0_17.index t = ![0, 0]
    ∧ win0_18.index t = ![(grid0.coords t 0).val / 4, 0, (grid0.coords t 0).val % 4, 0] ∧ win0_19.index t = ![(grid0.coords t 0).val / 4, 0, (grid0.coords t 0).val % 4, 0]
    ∧ win0_20.index t = ![(grid0.coords t 0).val / 4, 0, 0, (grid0.coords t 0).val % 4] :=
  (by decide +kernel : ∀ t : Fin grid0.N, _)

theorem b0 (c : Dev nD) (t : Fin cfg0.N) (r : Fin 256) (k : Fin 1536) :
    iblk m c 0 t (ix3 0 r k) = m ((c : Thread nD τ).loc main_arg0) (ix3 (gB (grid0.coords t)) (gT (grid0.coords t) r) k) := by
  blk_ext [iblk, V, idx t, gB_val, gT_val]
theorem b1 (c : Dev nD) (t : Fin cfg0.N) (a : Fin 6) (b : Fin 2) (k : Fin 1536) :
    iblk m c 1 t (ix3 a b k) = m ((c : Thread nD τ).loc main_arg1) (ix3 b a k) := by
  blk_ext! [iblk, V, idx t]
theorem b2 (c : Dev nD) (t : Fin cfg0.N) (a : Fin 6) (k : Fin 1536) : iblk m c 2 t (ix2 a k) = m ((c : Thread nD τ).loc main_arg2) (ix2 a k) := by
  blk_ext [iblk, V, idx t]
theorem b3 (c : Dev nD) (t : Fin cfg0.N) (p : Fin 64) (r : Fin 256) :
    iblk m c 3 t (ix2 p r) = m ((c : Thread nD τ).loc main_arg3) (ix2 (gT (grid0.coords t) r) p) := by
  blk_ext! [iblk, V, idx t, gT_val]
theorem b4 (c : Dev nD) (t : Fin cfg0.N) (p : Fin 64) (r : Fin 256) :
    iblk m c 4 t (ix2 p r) = m ((c : Thread nD τ).loc main_arg4) (ix2 (gT (grid0.coords t) r) p) := by
  blk_ext! [iblk, V, idx t, gT_val]
theorem b5 (c : Dev nD) (t : Fin cfg0.N) (h : Fin 12) (k : Fin 1536) (l : Fin 128) :
    iblk m c 5 t (ix3 h k l) = m ((c : Thread nD τ).loc main_arg5) (ix3 k h l) := by
  blk_ext! [iblk, V, idx t]
theorem b6 (c : Dev nD) (t : Fin cfg0.N) (h : Fin 12) (k : Fin 1536) (l : Fin 128) :
    iblk m c 6 t (ix3 h k l) = m ((c : Thread nD τ).loc main_arg6) (ix3 k h l) := by
  blk_ext! [iblk, V, idx t]
theorem b7 (c : Dev nD) (t : Fin cfg0.N) (h : Fin 12) (k : Fin 1536) (l : Fin 128) :
    iblk m c 7 t (ix3 h k l) = m ((c : Thread nD τ).loc main_arg7) (ix3 k h l) := by
  blk_ext! [iblk, V, idx t]
theorem b8 (c : Dev nD) (t : Fin cfg0.N) (h : Fin 12) (l : Fin 128) : iblk m c 8 t (ix2 h l) = m ((c : Thread nD τ).loc main_arg8) (ix2 h l) := by
  blk_ext [iblk, V, idx t]
theorem b9 (c : Dev nD) (t : Fin cfg0.N) (h : Fin 12) (l : Fin 128) : iblk m c 9 t (ix2 h l) = m ((c : Thread nD τ).loc main_arg9) (ix2 h l) := by
  blk_ext [iblk, V, idx t]
theorem b10 (c : Dev nD) (t : Fin cfg0.N) (h : Fin 12) (l : Fin 128) : iblk m c 10 t (ix2 h l) = m ((c : Thread nD τ).loc main_arg10) (ix2 h l) := by
  blk_ext [iblk, V, idx t]
theorem b11 (c : Dev nD) (t : Fin cfg0.N) (h : Fin 12) (l : Fin 128) : iblk m c 11 t (ix2 h l) = m ((c : Thread nD τ).loc main_arg11) (ix2 h l) := by
  blk_ext [iblk, V, idx t]
theorem b12 (c : Dev nD) (t : Fin cfg0.N) (h : Fin 12) (l : Fin 128) : iblk m c 12 t (ix2 h l) = m ((c : Thread nD τ).loc main_arg12) (ix2 h l) := by
  blk_ext [iblk, V, idx t]
theorem b13 (c : Dev nD) (t : Fin cfg0.N) (h : Fin 12) (l : Fin 128) : iblk m c 13 t (ix2 h l) = m ((c : Thread nD τ).loc main_arg13) (ix2 h l) := by
  blk_ext [iblk, V, idx t]
theorem b14 (c : Dev nD) (t : Fin cfg0.N) (h : Fin 12) (l : Fin 128) : iblk m c 14 t (ix2 h l) = m ((c : Thread nD τ).loc main_arg14) (ix2 h l) := by
  blk_ext [iblk, V, idx t]
theorem b15 (c : Dev nD) (t : Fin cfg0.N) (h : Fin 12) (l : Fin 128) : iblk m c 15 t (ix2 h l) = m ((c : Thread nD τ).loc main_arg15) (ix2 h l) := by
  blk_ext [iblk, V, idx t]

theorem rowX_eq (c : Dev nD) (t : Fin cfg0.N) (r : Fin 256) :
    rowX (iblk m c 0 t) (iblk m c 1 t) (iblk m c 2 t) (grid0.coords t) r = refX (m ((c : Thread nD τ).loc main_arg0)) (m ((c : Thread nD τ).loc main_arg1)) (m ((c : Thread nD τ).loc main_arg2)) (gB (grid0.coords t)) (gT (grid0.coords t) r) :=
  congr (congrArg₂ mnorm (funext fun k => b0 m c t r k) (funext fun k => congrArg₂ (fun p q : EReal => p + q) (b2 m c t 1 k) (b1 m c t 1 (gB (grid0.coords t)) k)))
    (funext fun k => congrArg₂ (fun p q : EReal => p + q) (b2 m c t 0 k) (b1 m c t 0 (gB (grid0.coords t)) k))

theorem blkQ_eq (c : Dev nD) (t : Fin cfg0.N) (r : Fin 256) :
    blkP (iblk m c 0 t) (iblk m c 1 t) (iblk m c 2 t) (grid0.coords t) (iblk m c 5 t) (iblk m c 8 t) (iblk m c 11 t) r
      = refP (m ((c : Thread nD τ).loc main_arg0)) (m ((c : Thread nD τ).loc main_arg1)) (m ((c : Thread nD τ).loc main_arg2)) (m ((c : Thread nD τ).loc main_arg5)) (m ((c : Thread nD τ).loc main_arg8)) (m ((c : Thread nD τ).loc main_arg11)) (gB (grid0.coords t)) (gT (grid0.coords t) r) := by
  funext h l
  unfold blkP projRow refP
  rw [rowX_eq m c t r, b8 m c t h l, b11 m c t h l, show (fun k => iblk m c 5 t (ix3 h k l)) = _ from funext fun k => b5 m c t h k l]

theorem blkK_eq (c : Dev nD) (t : Fin cfg0.N) (r : Fin 256) :
    blkP (iblk m c 0 t) (iblk m c 1 t) (iblk m c 2 t) (grid0.coords t) (iblk m c 6 t) (iblk m c 9 t) (iblk m c 12 t) r
      = refP (m ((c : Thread nD τ).loc main_arg0)) (m ((c : Thread nD τ).loc main_arg1)) (m ((c : Thread nD τ).loc main_arg2)) (m ((c : Thread nD τ).loc main_arg6)) (m ((c : Thread nD τ).loc main_arg9)) (m ((c : Thread nD τ).loc main_arg12)) (gB (grid0.coords t)) (gT (grid0.coords t) r) := by
  funext h l
  unfold blkP projRow refP
  rw [rowX_eq m c t r, b9 m c t h l, b12 m c t h l, show (fun k => iblk m c 6 t (ix3 h k l)) = _ from funext fun k => b6 m c t h k l]

theorem blkV_eq (c : Dev nD) (t : Fin cfg0.N) (r : Fin 256) :
    blkP (iblk m c 0 t) (iblk m c 1 t) (iblk m c 2 t) (grid0.coords t) (iblk m c 7 t) (iblk m c 10 t) (iblk m c 13 t) r
      = refP (m ((c : Thread nD τ).loc main_arg0)) (m ((c : Thread nD τ).loc main_arg1)) (m ((c : Thread nD τ).loc main_arg2)) (m ((c : Thread nD τ).loc main_arg7)) (m ((c : Thread nD τ).loc main_arg10)) (m ((c : Thread nD τ).loc main_arg13)) (gB (grid0.coords t)) (gT (grid0.coords t) r) := by
  funext h l
  unfold blkP projRow refP
  rw [rowX_eq m c t r, b10 m c t h l, b13 m c t h l, show (fun k => iblk m c 7 t (ix3 h k l)) = _ from funext fun k => b7 m c t h k l]

/-- The codes. -/
theorem final16 (c : Dev nD) : (dats m 0 c).arrAt 16 cfg0.N = resC (m ((c : Thread nD τ).loc main_arg0)) (m ((c : Thread nD τ).loc main_arg1)) (m ((c : Thread nD τ).loc main_arg2)) := by
  refine (dats m 0 c).arrAt_eq_of_covers 16 _ (by decide +kernel) fun t hf y => ?_
  blk_simp
  rw [after0_16]
  refine (View.canon_apply_of_pieces _ _ (code_pieces ..).mem y (cover16 m c t y)).trans ?_
  have e : (win0_16.blk t).view.emb y = ix3 (gB (grid0.coords t)) (gT (grid0.coords t) (y 1)) (y 2) := by
    blk_ext [idx t, gB_val, gT_val]
    exact (Nat.add_comm _ _).trans ((Nat.add_comm _ _).trans (congrArg (· + (y 1).val) (Nat.mul_comm _ _)))
  rw [e]
  exact congrArg (fun q => rowCode q (y 2)) (rowX_eq m c t (y 1))

/-- The queries. -/
theorem final18 (c : Dev nD) : (dats m 0 c).arrAt 18 cfg0.N
    = resQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg11)) (m ((c : Thread nD τ).loc main_arg14)) := by
  refine (dats m 0 c).arrAt_eq_of_covers 18 _ (by decide +kernel) fun t hf y => ?_
  blk_simp
  rw [after0_18]
  refine (View.canon_apply_of_pieces _ _ (q_pieces ..).mem y (cover18 m c t y)).trans ?_
  have e : (win0_18.blk t).view.emb y = ix4 (gB (grid0.coords t)) (y 1) (gT (grid0.coords t) (y 2)) (y 3) := by
    blk_ext [idx t, gB_val, gT_val]
    exact (Nat.add_comm _ _).trans ((Nat.add_comm _ _).trans (congrArg (· + (y 2).val) (Nat.mul_comm _ _)))
  rw [e]
  refine congr (congr (congrArg₂ rot (funext fun p => b3 m c t p (y 2)) (funext fun p => b4 m c t p (y 2))) (funext fun l => ?_)) rfl
  exact congrArg₂ (fun Y q => rms Y q (y 1) l) (blkQ_eq m c t (y 2)) (b14 m c t (y 1) l)

/-- The keys. -/
theorem final19 (c : Dev nD) : (dats m 0 c).arrAt 19 cfg0.N
    = resQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg9)) (m ((c : Thread nD τ).loc main_arg12)) (m ((c : Thread nD τ).loc main_arg15)) := by
  refine (dats m 0 c).arrAt_eq_of_covers 19 _ (by decide +kernel) fun t hf y => ?_
  blk_simp
  rw [after0_19]
  refine (View.canon_apply_of_pieces _ _ (k_pieces ..).mem y (cover19 m c t y)).trans ?_
  have e : (win0_19.blk t).view.emb y = ix4 (gB (grid0.coords t)) (y 1) (gT (grid0.coords t) (y 2)) (y 3) := by
    blk_ext [idx t, gB_val, gT_val]
    exact (Nat.add_comm _ _).trans ((Nat.add_comm _ _).trans (congrArg (· + (y 2).val) (Nat.mul_comm _ _)))
  rw [e]
  refine congr (congr (congrArg₂ rot (funext fun p => b3 m c t p (y 2)) (funext fun p => b4 m c t p (y 2))) (funext fun l => ?_)) rfl
  exact congrArg₂ (fun Y q => rms Y q (y 1) l) (blkK_eq m c t (y 2)) (b15 m c t (y 1) l)

/-- The values. -/
theorem final20 (c : Dev nD) : (dats m 0 c).arrAt 20 cfg0.N
    = resV (m ((c : Thread nD τ).loc main_arg0)) (m ((c : Thread nD τ).loc main_arg1)) (m ((c : Thread nD τ).loc main_arg2)) (m ((c : Thread nD τ).loc main_arg7)) (m ((c : Thread nD τ).loc main_arg10)) (m ((c : Thread nD τ).loc main_arg13)) := by
  refine (dats m 0 c).arrAt_eq_of_covers 20 _ (by decide +kernel) fun t hf y => ?_
  blk_simp
  rw [after0_20]
  refine (View.canon_apply_of_pieces _ _ (v_pieces ..).mem y (cover20 m c t y)).trans ?_
  have e : (win0_20.blk t).view.emb y = ix4 (gB (grid0.coords t)) (y 1) (y 2) (gT (grid0.coords t) (y 3)) := by
    blk_ext [idx t, gB_val, gT_val]
    exact (Nat.add_comm _ _).trans ((Nat.add_comm _ _).trans (congrArg (· + (y 3).val) (Nat.mul_comm _ _)))
  rw [e]
  unfold arrT resV
  rw [blkV_eq m c t (y 3)]
  rfl

/-- The row of scales that a grid point stores. -/
theorem scale_at (c : Dev nD) (t : Fin cfg0.N) (y : S2x1024.Idx) (h : Seg m c t y) : View.canon (L17at m c t) y = resS (m ((c : Thread nD τ).loc main_arg0)) (m ((c : Thread nD τ).loc main_arg1)) (m ((c : Thread nD τ).loc main_arg2)) y := by
  have e : L17at m c t = [⟨Rect.unit (k0_off3 (grid0.coords t)) S1x256.size (k0_off3_inb (grid0.coords t)), arrS (iblk m c 0 t) (iblk m c 1 t) (iblk m c 2 t) (grid0.coords t)⟩] :=
    scale_piece ..
  unfold Seg at h
  rw [e] at h ⊢
  refine View.canon_apply_of_pieces (Val := Elt Ideal) (e := .f32) (resS (m ((c : Thread nD τ).loc main_arg0)) (m ((c : Thread nD τ).loc main_arg1)) (m ((c : Thread nD τ).loc main_arg2))) _ (fun p hp => ?_) y h
  obtain rfl := List.mem_singleton.mp hp
  intro x
  refine (congrArg rowSc (rowX_eq m c t (x 1))).trans ?_
  unfold resS
  refine congrArg₂ (fun a b => rowSc (refX _ _ _ a b)) (Fin.ext ?_) (Fin.ext ?_)
  · refine Eq.symm ((Rect.idx_unit_val _ _ (k0_off3_inb (grid0.coords t)) x 0).trans ?_)
    refine (congrArg (· + _) (congrFun (off_eq (grid0.coords t)) 0)).trans ?_
    have hx : (x 0).val < 1 := (x 0).isLt
    show (grid0.coords t 0).val / 4 + (x 0).val = (grid0.coords t 0).val / 4
    omega
  · refine Eq.symm ((Rect.idx_unit_val _ _ (k0_off3_inb (grid0.coords t)) x 1).trans ?_)
    exact congrArg (· + _) (congrFun (off_eq (grid0.coords t)) 1)

/-- Every index of the scales is stored by some point. -/
theorem seg_cover (c : Dev nD) (y : S2x1024.Idx) : ∃ t : Fin cfg0.N, Seg m c t y := by
  have h0 : (y 0).val < 2 := (y 0).isLt
  have h1 : (y 1).val < 1024 := (y 1).isLt
  have key : ∀ a : Fin 2, ∀ b : Fin 4, ∃ t : Fin grid0.N, (grid0.coords t 0).val / 4 = a.val ∧ (grid0.coords t 0).val % 4 = b.val := by decide +kernel
  obtain ⟨t, e0, e1⟩ := key ⟨(y 0).val, h0⟩ ⟨(y 1).val / 256, by omega⟩
  refine ⟨t, (seg_iff m c t y).mpr ⟨e0.symm, ?_, ?_⟩⟩
  · rw [e1]; show 256 * ((y 1).val / 256) ≤ _; omega
  · rw [e1]; show _ < 256 * ((y 1).val / 256) + 256; omega

/-- The last grid point. -/
def tLast : Fin cfg0.N := ⟨7, by decide +kernel⟩

/-- The scales. -/
theorem final17 (c : Dev nD) (G : Buf (Elt Ideal) ((c : Thread nD τ).loc main_v6_1)) (hG : (rdat m c).ArrAt 17 cfg0.N G) : G = resS (m ((c : Thread nD τ).loc main_arg0)) (m ((c : Thread nD τ).loc main_arg1)) (m ((c : Thread nD τ).loc main_arg2)) := by
  obtain ⟨X, hl, hX⟩ := Pipeline.RDat.ArrAt.emb_eq_of_wholeAt hG (t₀ := tLast) (by decide +kernel)
  have hr : Rows m c tLast X := (dats m 0 c).toRRel_leaves (fgt := rel0) (Rl := Rl0 m c) (w := 17) rfl hl
  funext y
  obtain ⟨t, ht⟩ := seg_cover m c y
  have ht3 : t ≤ tLast := by
    have h4 : t.val < 8 := t.isLt
    show t.val ≤ 7
    omega
  have h := hX y
  have h' : G y = X y := h
  exact h'.trans ((hr t ht3 y ht).trans (scale_at m c t y ht))

/-- A frame run says of every window what its array may hold at the end (stated at a variable configuration). -/
theorem arr_out {cfg₁ : Pipeline.Cfg sig Λ₀} {rd : (c : Dev nD) → Pipeline.RDat τ (Elt Ideal) Unit ℕ (UR sig nD τ) ℕ cfg₁ c}
    {V : (c : Dev nD) → (b : Ref sig .tc) → Buf (Elt Ideal) ((c.tc : Thread nD τ).loc b)} {r : PUnit × MemSt nD τ sig (Elt Ideal)}
    (h : Pipeline.RDat.FramePost cfg₁ rd V r) (c : Dev nD) (w : Fin cfg₁.W) :
    (rd c).ArrAt w cfg₁.N (r.2.mem ((cfg₁.spec w).arr.view.loc (c.tc : Thread nD τ))) := (h c).1 w

/-- A window whose contents are named point by point ends at the array those contents make. -/
theorem arr_named (c : Dev nD) (w : Fin cfg0.W) (hw : rel0 w = false) (n : ℕ) (G : Buf (Elt Ideal) ((cfg0.win w).arr.view.loc (c.tc : Thread nD τ)))
    (h : (rdat m c).ArrAt w n G) : G = (dats m 0 c).arrAt w n :=
  ((dats m 0 c).toR_arrAt_iff w n G).mp (((dats m 0 c).toR.override_arrAt (by simp only [hw]) n G).mp h)

/-- The five results. -/
theorem results : θ_run defs (onTc (τ := τ) (main (F := Ideal))) ⟨m, fun _ => 0, ρ⟩ (fun r => ∀ c : Dev nD,
      r.2.mem ((c.tc : Thread nD τ).loc main_v6_0) = resC (m ((c : Thread nD τ).loc main_arg0)) (m ((c : Thread nD τ).loc main_arg1)) (m ((c : Thread nD τ).loc main_arg2))
      ∧ r.2.mem ((c.tc : Thread nD τ).loc main_v6_1) = resS (m ((c : Thread nD τ).loc main_arg0)) (m ((c : Thread nD τ).loc main_arg1)) (m ((c : Thread nD τ).loc main_arg2))
      ∧ r.2.mem ((c.tc : Thread nD τ).loc main_v6_2) = resQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg11)) (m ((c : Thread nD τ).loc main_arg14))
      ∧ r.2.mem ((c.tc : Thread nD τ).loc main_v6_3) = resQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg9)) (m ((c : Thread nD τ).loc main_arg12)) (m ((c : Thread nD τ).loc main_arg15))
      ∧ r.2.mem ((c.tc : Thread nD τ).loc main_v6_4) = resV (m ((c : Thread nD τ).loc main_arg0)) (m ((c : Thread nD τ).loc main_arg1)) (m ((c : Thread nD τ).loc main_arg2)) (m ((c : Thread nD τ).loc main_arg7)) (m ((c : Thread nD τ).loc main_arg10)) (m ((c : Thread nD τ).loc main_arg13))) :=
  (θ_run defs _ _).mono (fun _ h c => ⟨(arr_named m c 16 rfl _ _ (arr_out h c 16)).trans (final16 m c), final17 m c _ (arr_out h c 17),
    (arr_named m c 18 rfl _ _ (arr_out h c 18)).trans (final18 m c), (arr_named m c 19 rfl _ _ (arr_out h c 19)).trans (final19 m c), (arr_named m c 20 rfl _ _ (arr_out h c 20)).trans (final20 m c)⟩) (run_main m ρ)

/-- The five results, and the arguments unchanged. -/
theorem run : θ_run defs (onTc (τ := τ) (main (F := Ideal))) ⟨m, fun _ => 0, ρ⟩ (fun r => ∀ c : Dev nD,
      r.2.mem ((c.tc : Thread nD τ).loc main_v6_0) = resC (m ((c : Thread nD τ).loc main_arg0)) (m ((c : Thread nD τ).loc main_arg1)) (m ((c : Thread nD τ).loc main_arg2))
      ∧ r.2.mem ((c.tc : Thread nD τ).loc main_v6_1) = resS (m ((c : Thread nD τ).loc main_arg0)) (m ((c : Thread nD τ).loc main_arg1)) (m ((c : Thread nD τ).loc main_arg2))
      ∧ r.2.mem ((c.tc : Thread nD τ).loc main_v6_2) = resQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg11)) (m ((c : Thread nD τ).loc main_arg14))
      ∧ r.2.mem ((c.tc : Thread nD τ).loc main_v6_3) = resQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg9)) (m ((c : Thread nD τ).loc main_arg12)) (m ((c : Thread nD τ).loc main_arg15))
      ∧ r.2.mem ((c.tc : Thread nD τ).loc main_v6_4) = resV (m ((c : Thread nD τ).loc main_arg0)) (m ((c : Thread nD τ).loc main_arg1)) (m ((c : Thread nD τ).loc main_arg2)) (m ((c : Thread nD τ).loc main_arg7)) (m ((c : Thread nD τ).loc main_arg10)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h.1 c).1, (h.1 c).2.1, (h.1 c).2.2.1, (h.1 c).2.2.2.1, (h.1 c).2.2.2.2, h.2 c⟩) (θ_run_and (results m ρ) (unchanged m ρ))

end Cert.QkvIdeal.Val
-- ==== Proof.CtxPlain.lean ====
/-
  The frame of the program as printed: it runs, faults nowhere, leaves its arguments as they were and every semaphore at zero.
  Nothing is said of what its outputs hold.
-/
module

public import proofs.«01_k».proof.Proof.Gen.Ctx.Frame
public import proofs.«01_k».proof.Proof.Gen.Ctx.Skeleton
public import Idealize.ShloMosaic.Lib.Claim

@[expose] public section

set_option maxRecDepth 16384

noncomputable section

namespace Cert.Ctx.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments end unchanged, from a run that leaves every staged input and every other buffer as it was. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's run -/

/-- Each window's current staging memref at point `t`, and its wholeness. -/
abbrev ms0_0 (t : Fin cfg0.N) : Memref sig .tc .vmem S1x256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x1536x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12x1536x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1536 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x12x256x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x12x128x256 .bf16 := win0_11.stage (cfg0.slots t 11)
abbrev hs0_11 (t : Fin cfg0.N) : (ms0_11 t).IsWhole := hstage0_11 ((cfg0.slots t 11).cast nbuf0_11)
/-- The scratch operand. -/
abbrev scM0_0 : Memref sig .tc .vmem S256x1536 .f32 := Memref.whole cc0_scratch0

/-- The invariant with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 4000000 in
/-- The body on whole staging memrefs: the inputs end as they were, the outputs and the scratch at something. -/
theorem kernelRun0_A (c : Dev nD) (i : grid0.Coords) (arg1 : Memref sig .tc .vmem S1x256x1536 .bf16) (harg1 : arg1.IsWhole) (arg2 : Memref sig .tc .vmem S12x1536x128 .fp8e4m3) (harg2 : arg2.IsWhole) (arg3 : Memref sig .tc .vmem S12x1536x128 .fp8e4m3) (harg3 : arg3.IsWhole) (arg4 : Memref sig .tc .vmem S12x128 .f32) (harg4 : arg4.IsWhole) (arg5 : Memref sig .tc .vmem S12x128 .f32) (harg5 : arg5.IsWhole) (arg6 : Memref sig .tc .vmem S12x128 .f32) (harg6 : arg6.IsWhole) (arg7 : Memref sig .tc .vmem S12x128 .f32) (harg7 : arg7.IsWhole) (arg8 : Memref sig .tc .vmem S12x128 .f32) (harg8 : arg8.IsWhole) (arg9 : Memref sig .tc .vmem S1x256x1536 .fp8e4m3) (harg9 : arg9.IsWhole) (arg10 : Memref sig .tc .vmem S2x512 .f32) (harg10 : arg10.IsWhole) (arg11 : Memref sig .tc .vmem S1x12x256x128 .bf16) (harg11 : arg11.IsWhole) (arg12 : Memref sig .tc .vmem S1x12x128x256 .bf16) (harg12 : arg12.IsWhole) (arg13 : Memref sig .tc .vmem S256x1536 .f32) (harg13 : arg13.IsWhole)
    (x0 : Vec F S1x256x1536 .bf16) (x1 : Vec F S12x1536x128 .fp8e4m3) (x2 : Vec F S12x1536x128 .fp8e4m3) (x3 : Vec F S12x128 .f32) (x4 : Vec F S12x128 .f32) (x5 : Vec F S12x128 .f32) (x6 : Vec F S12x128 .f32) (x7 : Vec F S12x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_ctx i arg1 harg1 arg2 harg2 arg3 harg3 arg4 harg4 arg5 harg5 arg6 harg6 arg7 harg7 arg8 harg8 arg9 harg9 arg10 harg10 arg11 harg11 arg12 harg12 arg13 harg13) K := by
    intro E K
    simp only [cc0_ctx_eq_skeleton]; unfold cc0_ctx_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact HS0
    ipureintro; rfl

/-! ## The pipeline's proof data -/

/-- The output windows, of which nothing is named. -/
def forgets0 : Fin 12 → Bool := fun w => w.val == 8 || w.val == 9 || w.val == 10 || w.val == 11

/-- The proof data: the arrays as the region finds them, each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  iintro ⟨H0, H1, H2, H3, H4, H5, H6, H7, H8, H9, H10, H11, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run, every semaphore at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Ctx.Run

end
-- ==== Proof.CtxRun.lean ====
/-
  The body of the ideal kernel, run once at any grid point: every store it does, as a list of pieces per
  output.  Output 9 keeps what it held before, since the body stores only a part of it.
-/
module

public import proofs.«01_k».proof.Proof.Gen.CtxIdeal.Frame
public import proofs.«01_k».proof.Proof.Gen.CtxIdeal.Skeleton

@[expose] public section

set_option maxRecDepth 16384

noncomputable section

namespace Cert.CtxIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen
open Idealize.ShloMosaic.Pipeline (Dat Cfg Window BodyObligation cellOf)

variable {F : FTy → Type} [FloatOps F] [Named F]

local notation "𝕄" => MT nD τ sig Unit (Elt F) ℕ (UR sig nD τ) ℕ

/-- Each window's current staging memref at point `t`, and its wholeness. -/
abbrev ms0_0 (t : Fin cfg0.N) : Memref sig .tc .vmem S1x256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x1536x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12x1536x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1536 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x12x256x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x12x128x256 .bf16 := win0_11.stage (cfg0.slots t 11)
abbrev hs0_11 (t : Fin cfg0.N) : (ms0_11 t).IsWhole := hstage0_11 ((cfg0.slots t 11).cast nbuf0_11)
/-- The scratch operand. -/
abbrev scM0_0 : Memref sig .tc .vmem S256x1536 .f32 := Memref.whole cc0_scratch0

/-- The invariant with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

variable (m : (ℓ : Loc nD τ sig) → Buf (Elt F) ℓ) (ρ : Dev nD → PrngReg)

set_option maxHeartbeats 4000000 in
/-- What the body's stores leave in each output's staging memref, as pieces (last first), with the proof that the body
    runs and leaves them. -/
noncomputable def kernelRun0_A (c : Dev nD) (i : grid0.Coords) (arg1 : Memref sig .tc .vmem S1x256x1536 .bf16) (harg1 : arg1.IsWhole) (arg2 : Memref sig .tc .vmem S12x1536x128 .fp8e4m3) (harg2 : arg2.IsWhole) (arg3 : Memref sig .tc .vmem S12x1536x128 .fp8e4m3) (harg3 : arg3.IsWhole) (arg4 : Memref sig .tc .vmem S12x128 .f32) (harg4 : arg4.IsWhole) (arg5 : Memref sig .tc .vmem S12x128 .f32) (harg5 : arg5.IsWhole) (arg6 : Memref sig .tc .vmem S12x128 .f32) (harg6 : arg6.IsWhole) (arg7 : Memref sig .tc .vmem S12x128 .f32) (harg7 : arg7.IsWhole) (arg8 : Memref sig .tc .vmem S12x128 .f32) (harg8 : arg8.IsWhole) (arg9 : Memref sig .tc .vmem S1x256x1536 .fp8e4m3) (harg9 : arg9.IsWhole) (arg10 : Memref sig .tc .vmem S2x512 .f32) (harg10 : arg10.IsWhole) (arg11 : Memref sig .tc .vmem S1x12x256x128 .bf16) (harg11 : arg11.IsWhole) (arg12 : Memref sig .tc .vmem S1x12x128x256 .bf16) (harg12 : arg12.IsWhole) (arg13 : Memref sig .tc .vmem S256x1536 .f32) (harg13 : arg13.IsWhole)
    (x0 : Vec F S1x256x1536 .bf16) (x1 : Vec F S12x1536x128 .fp8e4m3) (x2 : Vec F S12x1536x128 .fp8e4m3) (x3 : Vec F S12x128 .f32) (x4 : Vec F S12x128 .f32) (x5 : Vec F S12x128 .f32) (x6 : Vec F S12x128 .f32) (x7 : Vec F S12x128 .f32) :
    Σ' (L8 : List (View.Piece (Elt F) S1x256x1536 .fp8e4m3)), Σ' (L9 : List (View.Piece (Elt F) S2x512 .f32)), Σ' (L10 : List (View.Piece (Elt F) S1x12x256x128 .bf16)), Σ' (L11 : List (View.Piece (Elt F) S1x12x128x256 .bf16)), { LT0 : List (View.Piece (Elt F) S256x1536 .f32) //
      ∀ (x9 : Vec F S2x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (arg10.view.loc (c : Thread nD τ) ↦[arg10.view.set]{fullShare} arg10.view.writes (Elt F) (harg10.unread x9) L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0)) -∗ K ⟨⟩))
          ⊢ wp frame (wpE (defs₀ (F := F)) Variants.none c none) E (cc0_ctx i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun x9 E K => ?run⟩
  case run =>
    simp only [cc0_ctx_eq_skeleton]; unfold cc0_ctx_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexact H9
    isplitl [H10]; · iexists _; iexact H10
    isplitl [H11]; · iexists _; iexact H11
    iexists _; iexact HS0

end Cert.CtxIdeal.Run

end
-- ==== Proof.CtxFrame.lean ====
/-
  The frame of the ideal kernel, with what its outputs hold: output 9 (a whole
  array kept on chip, into which each point stores one row) by the rows stored so far, the others point by point.
-/
module

public import proofs.«01_k».proof.Proof.CtxRun
public import Idealize.ShloMosaic.Lib.Claim
public import Idealize.ShloMosaic.Lib.Pipeline.DatRel
public import Idealize.ShloMosaic.Lib.Pipeline.ArrRel

@[expose] public section

set_option maxRecDepth 16384

noncomputable section

namespace Cert.CtxIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arguments end unchanged, from a run that leaves every staged input and every other buffer as it was. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's run at a grid point -/

/-- The run of the body at point `t`, on that point's staging buffers and input blocks. -/
def runAt (c : Dev nD) (t : Fin cfg0.N) := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t)

/-- The stores into output 8 at point `t` (last first). -/
def L8at (c : Dev nD) (t : Fin cfg0.N) : List (View.Piece (Elt F) S1x256x1536 .fp8e4m3) := (runAt m c t).1
/-- The stores into output 9 at point `t` (last first). -/
def L9at (c : Dev nD) (t : Fin cfg0.N) : List (View.Piece (Elt F) S2x512 .f32) := (runAt m c t).2.1
/-- The stores into output 10 at point `t` (last first). -/
def L10at (c : Dev nD) (t : Fin cfg0.N) : List (View.Piece (Elt F) S1x12x256x128 .bf16) := (runAt m c t).2.2.1
/-- The stores into output 11 at point `t` (last first). -/
def L11at (c : Dev nD) (t : Fin cfg0.N) : List (View.Piece (Elt F) S1x12x128x256 .bf16) := (runAt m c t).2.2.2.1

/-- The stores into output 8 cover its block. -/
theorem cover8 (c : Dev nD) (t : Fin cfg0.N) (y : S1x256x1536.Idx) : ∃ pc ∈ L8at m c t, y ∈ pc.1.set :=
  View.cover_of_tiledL (L8at m c t) S1x256x1536.size (by sl_kernel_rfl) y

/-- The stores into output 10 cover its block. -/
theorem cover10 (c : Dev nD) (t : Fin cfg0.N) (y : S1x12x256x128.Idx) : ∃ pc ∈ L10at m c t, y ∈ pc.1.set :=
  View.cover_of_tiledL (L10at m c t) S1x1x256x128.size (by sl_kernel_rfl) y

/-- The stores into output 11 cover its block. -/
theorem cover11 (c : Dev nD) (t : Fin cfg0.N) (y : S1x12x128x256.Idx) : ∃ pc ∈ L11at m c t, y ∈ pc.1.set :=
  View.cover_of_tiledL (L11at m c t) S1x1x128x256.size (by sl_kernel_rfl) y

/-- The place that a grid point stores its scales at, read off its coordinate. -/
theorem off_eq : ∀ i : grid0.Coords, k0_off1 i = ![(i 0).val / 2, 256 * ((i 0).val % 2)] := by
  decide +kernel

/-- The one store into output 9: a row of 256 numbers at the place that the grid point names. -/
theorem L9at_eq (c : Dev nD) (t : Fin cfg0.N) : ∃ h p, L9at m c t = [⟨Rect.unit (k0_off1 (grid0.coords t)) S1x256.size h, p⟩] :=
  ⟨_, _, rfl⟩

/-- Index `y` of output 9 is one that point `t` stores. -/
def Seg (c : Dev nD) (t : Fin cfg0.N) (y : S2x512.Idx) : Prop := ∃ pc ∈ L9at m c t, y ∈ pc.1.set

theorem seg_iff (c : Dev nD) (t : Fin cfg0.N) (y : S2x512.Idx) :
    Seg m c t y ↔ (y 0).val = (grid0.coords t 0).val / 2 ∧ 256 * ((grid0.coords t 0).val % 2) ≤ (y 1).val ∧ (y 1).val < 256 * ((grid0.coords t 0).val % 2) + 256 := by
  obtain ⟨h, p, e⟩ := L9at_eq m c t
  unfold Seg; rw [e]
  simp only [List.mem_singleton, exists_eq_left, Rect.mem_set_unit, off_eq]
  rw [Fin.forall_fin_two]
  simp only [Matrix.cons_val_zero, Matrix.cons_val_one]
  have e0 : S1x256.size 0 = 1 := rfl
  have e1 : S1x256.size 1 = 256 := rfl
  constructor
  · rintro ⟨⟨h1, h2⟩, h3, h4⟩; refine ⟨?_, h3, ?_⟩
    · have : (y 0).val < (grid0.coords t 0).val / 2 + 1 := h2
      omega
    · exact h4
  · rintro ⟨h1, h2, h3⟩; refine ⟨⟨by omega, ?_⟩, h2, h3⟩
    show (y 0).val < (grid0.coords t 0).val / 2 + 1
    omega

theorem coords_inj : ∀ u t : Fin cfg0.N, (grid0.coords u 0).val = (grid0.coords t 0).val → u = t :=
  (by decide +kernel : ∀ u t : Fin grid0.N, (grid0.coords u 0).val = (grid0.coords t 0).val → u = t)

/-- No two points store the same index of output 9. -/
theorem seg_disjoint (c : Dev nD) (u t : Fin cfg0.N) (y : S2x512.Idx) (hu : Seg m c u y) (ht : Seg m c t y) : u = t := by
  rw [seg_iff] at hu ht
  exact coords_inj u t (by omega)

/-- Window 9 is held to a property; the other outputs are named. -/
def rel0 : Fin 12 → Bool := fun w => w.val == 9

/-- What output 9's buffer holds after point `t`: every row stored so far. -/
def Rows (c : Dev nD) (t : Fin cfg0.N) (X : Vec F S2x512 .f32) : Prop :=
  ∀ u : Fin cfg0.N, u ≤ t → ∀ y, Seg m c u y → X y = View.canon (L9at m c u) y

/-- The property of window 9 (nothing is asked of the others). -/
def Rl0 (c : Dev nD) : (w : Fin cfg0.W) → Fin cfg0.N → ((cfg0.win w).block.Idx → Elt F (cfg0.win w).elt) → Prop := fun w t X =>
  match w with
  | ⟨9, _⟩ => Rows m c t X
  | _ => True

/-! ## The pipeline's proof data -/

/-- The proof data: each input's buffer at its block, the named outputs at what the stores leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => View.canon (L8at m c t)
    | ⟨9, h⟩ => Pipeline.Dat.unnamed (cfg := cfg0) ⟨9, h⟩ t
    | ⟨10, _⟩ => View.canon (L10at m c t)
    | ⟨11, _⟩ => View.canon (L11at m c t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = View.canon (L8at m c t) := by dsimp only [dats]
theorem after0_10 (c : Dev nD) (t : Fin cfg0.N) : (dats m 0 c).after 10 t = View.canon (L10at m c t) := by dsimp only [dats]
theorem after0_11 (c : Dev nD) (t : Fin cfg0.N) : (dats m 0 c).after 11 t = View.canon (L11at m c t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The data with window 9 held to `Rows`. -/
def rdat (c : Dev nD) : Pipeline.RDat τ (Elt F) Unit ℕ (UR sig nD τ) ℕ cfg0 c := (dats m 0 c).toRRel rel0 (Rl0 m c)

theorem fetch9 : ∀ t : Fin cfg0.N, (cfg0.win 9).fetch t = false :=
  (by decide +kernel : ∀ t : Fin grid0.N, win0_9.fetch t = false)

theorem flush9 : ∀ t : Fin cfg0.N, t.val < 3 → (cfg0.win 9).flush t = false :=
  (by decide +kernel : ∀ t : Fin grid0.N, t.val < 3 → win0_9.flush t = false)

/-- What the body finds in output 9's buffer: the rows of the points before. -/
theorem found9 (c : Dev nD) (t : Fin cfg0.N) (Y : Vec F S2x512 .f32) (h : (rdat m c).Finds 9 t Y) :
    ∀ u : Fin cfg0.N, u < t → ∀ y, Seg m c u y → Y y = View.canon (L9at m c u) y := by
  intro u hu y hy
  have ht : t.val ≠ 0 := by have : u.val < t.val := hu; omega
  have htN : t.val < 4 := t.isLt
  rcases ((rdat m c).finds_of_pos (fetch9 t) ht Y).mp h with hf | hl
  · rw [flush9 _ (by show t.val - 1 < 3; omega)] at hf; exact absurd hf Bool.false_ne_true
  · have hr : Rows m c ⟨t.val - 1, _⟩ Y := (dats m 0 c).toRRel_leaves (fgt := rel0) (Rl := Rl0 m c) (w := 9) rfl hl
    exact hr u (by show u.val ≤ t.val - 1; have : u.val < t.val := hu; omega) y hy

/-- Storing point `t`'s row into such a buffer leaves the rows up to `t`. -/
theorem rows_step (c : Dev nD) (t : Fin cfg0.N) (v : View sig .tc .vmem S2x512 .f32) (f : v.ty.Contents (Elt F)) (Y : Vec F S2x512 .f32)
    (hf : v.read (Elt F) f = Y) (h : ∀ u : Fin cfg0.N, u < t → ∀ y, Seg m c u y → Y y = View.canon (L9at m c u) y) :
    Rows m c t (v.read (Elt F) (v.writes (Elt F) f (L9at m c t))) := by
  intro u hu y hy
  rcases lt_or_eq_of_le hu with hlt | rfl
  · rw [View.read_writes_apply_of_forall_not_mem v f y _ (fun p hp hmem => hlt.ne (seg_disjoint m c u t y hy ⟨p, hp, hmem⟩)), hf]
    exact h u hlt y hy
  · exact View.read_writes_apply_eq_canon v f y _ hy

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ Y, ⌜(rdat m c).Finds 9 t Y⌝ ∗ owns (c : Thread nD τ) (ms0_9 t) fullShare Y)
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ X, ⌜Rows m c t X⌝ ∗ owns (c : Thread nD τ) (ms0_9 t) fullShare X)
    ∗ owns (c : Thread nD τ) (ms0_10 t) fullShare ((dats m 0 c).after 10 t)
    ∗ owns (c : Thread nD τ) (ms0_11 t) fullShare ((dats m 0 c).after 11 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_10, after0_11]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%d10, H10⟩, ⟨%d11, H11⟩⟩
  iapply ((runAt m c t).2.2.2.2.2 Y9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [H11]; · iexists _; iexact H11
  isplitl [HS0]; · iexact HS0
  iintro ⟨H0, H1, H2, H3, H4, H5, H6, H7, ⟨%e8, H8⟩, H9, ⟨%e10, H10⟩, ⟨%e11, H11⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (cover8 m c t)
  isplitl [H9]
  · iexists _; isplitr
    swap
    · unfold owns; iexists _; isplitr
      swap; · iexact H9
      ipureintro; rfl
    ipureintro; exact rows_step m c t _ _ _ (Memref.IsWhole.read_unread _ _) (found9 m c t Y9 hY9)
  isplitl [H10]
  · unfold owns; iexists _; isplitr
    swap; · iexact H10
    ipureintro; exact View.read_writes_eq_canon _ _ _ (cover10 m c t)
  unfold owns; iexists _; isplitr
  swap; · iexact H11
  ipureintro; exact View.read_writes_eq_canon _ _ _ (cover11 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dats (F := F) m 0 c) (defs₀ (F := F)) Variants.none () Set.univ rel0 (Rl0 m c) := fun t => by
  rw [bigSep_W0, bigSep_W0, defs₀_row]
  exact triple_restated (sound_body m c t) rfl .rfl fun _ => .rfl

/-! ## The run and the frame -/

set_option backward.isDefEq.respectTransparency.types false in
/-- The run, every semaphore at zero at its end. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (rdat m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.CtxIdeal.Run
-- ==== Proof.CtxBlock.lean ====
/-
  One grid point of the kernel, read at an index: the codes, their row scales as they are stored, the normalised heads and the values. -/
module

public import proofs.«01_k».proof.Proof.CtxRun
public import proofs.«01_k».proof.Proof.ProjBlock

@[expose] public section
set_option maxRecDepth 16384
noncomputable section
namespace Cert.CtxIdeal.Val
open Idealize.ShloMosaic Idealize.ShloMosaic.Tactic Cert.CtxIdeal Cert.CtxIdeal.Gen Cert.FfnVal Cert.ProjVal Cert.CtxIdeal.Run

/-- A row of a block. -/
def rowX (x0 : S1x256x1536.Idx → EReal) (r : Fin 256) : Fin 1536 → EReal := fun k => x0 (ix3 0 r k)
/-- The block's rows projected. -/
def blkP (x0 : S1x256x1536.Idx → EReal) (w : S12x1536x128.Idx → EReal) (s b : S12x128.Idx → EReal) : Fin 256 → Fin 12 → Fin 128 → EReal :=
  fun r => projRow (rowX x0 r) w s b
/-- The block's codes; -/
def arrC (x0 : S1x256x1536.Idx → EReal) : S1x256x1536.Idx → EReal := fun j => rowCode (rowX x0 (j 1)) (j 2)
/-- their scales as the row that is stored. -/
def arrS (x0 : S1x256x1536.Idx → EReal) : S1x256.Idx → EReal := fun j => rowSc (rowX x0 (j 1))

section Block
variable (c : Dev nD) (i : grid0.Coords)
  (arg1 : Memref sig .tc .vmem S1x256x1536 .bf16) (harg1 : arg1.IsWhole) (arg2 : Memref sig .tc .vmem S12x1536x128 .fp8e4m3) (harg2 : arg2.IsWhole)
  (arg3 : Memref sig .tc .vmem S12x1536x128 .fp8e4m3) (harg3 : arg3.IsWhole) (arg4 : Memref sig .tc .vmem S12x128 .f32) (harg4 : arg4.IsWhole)
  (arg5 : Memref sig .tc .vmem S12x128 .f32) (harg5 : arg5.IsWhole) (arg6 : Memref sig .tc .vmem S12x128 .f32) (harg6 : arg6.IsWhole)
  (arg7 : Memref sig .tc .vmem S12x128 .f32) (harg7 : arg7.IsWhole) (arg8 : Memref sig .tc .vmem S12x128 .f32) (harg8 : arg8.IsWhole)
  (arg9 : Memref sig .tc .vmem S1x256x1536 .fp8e4m3) (harg9 : arg9.IsWhole) (arg10 : Memref sig .tc .vmem S2x512 .f32) (harg10 : arg10.IsWhole)
  (arg11 : Memref sig .tc .vmem S1x12x256x128 .bf16) (harg11 : arg11.IsWhole) (arg12 : Memref sig .tc .vmem S1x12x128x256 .bf16) (harg12 : arg12.IsWhole)
  (arg13 : Memref sig .tc .vmem S256x1536 .f32) (harg13 : arg13.IsWhole)
  (x0 : Vec Ideal S1x256x1536 .bf16) (x1 x2 : Vec Ideal S12x1536x128 .fp8e4m3) (x3 x4 x5 x6 x7 : Vec Ideal S12x128 .f32)

theorem row_eq (r : Fin 256) (k : Fin 1536) : kernelRun0_A.sl.v31 (F := Ideal) c arg1 harg1 x0 (ix2 r k) = rowX x0 r k := by
  refine (cast_in _ r k).trans ((congrFun (harg1.read_unread x0) _).trans (congrArg x0 ?_))
  funext a
  refine Fin.ext ((Rect.idx_unit_val _ _ _ _ a).trans ?_)
  match a with
  | ⟨0, _⟩ => rfl
  | ⟨1, _⟩ => exact Nat.zero_add _
  | ⟨2, _⟩ => exact Nat.zero_add _

theorem scale_eq (r : Fin 256) : kernelRun0_A.sl.v40 (F := Ideal) c arg1 harg1 x0 (ix2 r 0) = rowSc (rowX x0 r) :=
  (scale_apply _ r).trans (congrArg rowSc (funext fun k => row_eq c arg1 harg1 x0 r k))

theorem code_eq (r : Fin 256) (k : Fin 1536) : kernelRun0_A.sl.v49 (F := Ideal) c arg1 harg1 x0 (ix2 r k) = rowCode (rowX x0 r) k :=
  (code_apply (kernelRun0_A.sl.v31 (F := Ideal) c arg1 harg1 x0) (kernelRun0_A.sl.v40 (F := Ideal) c arg1 harg1 x0) r k (scale_apply _ r)).trans
    (congrArg (fun x => rowCode x k) (funext fun k => row_eq c arg1 harg1 x0 r k))

theorem head0 (r : Fin 256) (l : Fin 128) : kernelRun0_A.sl.v75 (F := Ideal) c arg1 harg1 arg2 harg2 arg4 harg4 arg6 harg6 x0 x1 x3 x5 (ix2 r l) = blkP x0 x1 x3 x5 r ⟨0, by decide⟩ l :=
  headLo _ _ (rowX x0) (code_eq c arg1 harg1 x0) (scale_eq c arg1 harg1 x0) arg2 harg2 x1 arg4 harg4 x3 arg6 harg6 x5 0 1 (by decide) (by decide) (by decide) (by decide) r l
theorem head1 (r : Fin 256) (l : Fin 128) : kernelRun0_A.sl.v89 (F := Ideal) c arg1 harg1 arg2 harg2 arg4 harg4 arg6 harg6 x0 x1 x3 x5 (ix2 r l) = blkP x0 x1 x3 x5 r ⟨1, by decide⟩ l :=
  headHi _ _ (rowX x0) (code_eq c arg1 harg1 x0) (scale_eq c arg1 harg1 x0) arg2 harg2 x1 arg4 harg4 x3 arg6 harg6 x5 0 1 (by decide) (by decide) (by decide) (by decide) r l
theorem head2 (r : Fin 256) (l : Fin 128) : kernelRun0_A.sl.v109 (F := Ideal) c arg1 harg1 arg2 harg2 arg4 harg4 arg6 harg6 x0 x1 x3 x5 (ix2 r l) = blkP x0 x1 x3 x5 r ⟨2, by decide⟩ l :=
  headLo _ _ (rowX x0) (code_eq c arg1 harg1 x0) (scale_eq c arg1 harg1 x0) arg2 harg2 x1 arg4 harg4 x3 arg6 harg6 x5 2 3 (by decide) (by decide) (by decide) (by decide) r l
theorem head3 (r : Fin 256) (l : Fin 128) : kernelRun0_A.sl.v123 (F := Ideal) c arg1 harg1 arg2 harg2 arg4 harg4 arg6 harg6 x0 x1 x3 x5 (ix2 r l) = blkP x0 x1 x3 x5 r ⟨3, by decide⟩ l :=
  headHi _ _ (rowX x0) (code_eq c arg1 harg1 x0) (scale_eq c arg1 harg1 x0) arg2 harg2 x1 arg4 harg4 x3 arg6 harg6 x5 2 3 (by decide) (by decide) (by decide) (by decide) r l
theorem head4 (r : Fin 256) (l : Fin 128) : kernelRun0_A.sl.v143 (F := Ideal) c arg1 harg1 arg2 harg2 arg4 harg4 arg6 harg6 x0 x1 x3 x5 (ix2 r l) = blkP x0 x1 x3 x5 r ⟨4, by decide⟩ l :=
  headLo _ _ (rowX x0) (code_eq c arg1 harg1 x0) (scale_eq c arg1 harg1 x0) arg2 harg2 x1 arg4 harg4 x3 arg6 harg6 x5 4 5 (by decide) (by decide) (by decide) (by decide) r l
theorem head5 (r : Fin 256) (l : Fin 128) : kernelRun0_A.sl.v157 (F := Ideal) c arg1 harg1 arg2 harg2 arg4 harg4 arg6 harg6 x0 x1 x3 x5 (ix2 r l) = blkP x0 x1 x3 x5 r ⟨5, by decide⟩ l :=
  headHi _ _ (rowX x0) (code_eq c arg1 harg1 x0) (scale_eq c arg1 harg1 x0) arg2 harg2 x1 arg4 harg4 x3 arg6 harg6 x5 4 5 (by decide) (by decide) (by decide) (by decide) r l
theorem head6 (r : Fin 256) (l : Fin 128) : kernelRun0_A.sl.v177 (F := Ideal) c arg1 harg1 arg2 harg2 arg4 harg4 arg6 harg6 x0 x1 x3 x5 (ix2 r l) = blkP x0 x1 x3 x5 r ⟨6, by decide⟩ l :=
  headLo _ _ (rowX x0) (code_eq c arg1 harg1 x0) (scale_eq c arg1 harg1 x0) arg2 harg2 x1 arg4 harg4 x3 arg6 harg6 x5 6 7 (by decide) (by decide) (by decide) (by decide) r l
theorem head7 (r : Fin 256) (l : Fin 128) : kernelRun0_A.sl.v191 (F := Ideal) c arg1 harg1 arg2 harg2 arg4 harg4 arg6 harg6 x0 x1 x3 x5 (ix2 r l) = blkP x0 x1 x3 x5 r ⟨7, by decide⟩ l :=
  headHi _ _ (rowX x0) (code_eq c arg1 harg1 x0) (scale_eq c arg1 harg1 x0) arg2 harg2 x1 arg4 harg4 x3 arg6 harg6 x5 6 7 (by decide) (by decide) (by decide) (by decide) r l
theorem head8 (r : Fin 256) (l : Fin 128) : kernelRun0_A.sl.v211 (F := Ideal) c arg1 harg1 arg2 harg2 arg4 harg4 arg6 harg6 x0 x1 x3 x5 (ix2 r l) = blkP x0 x1 x3 x5 r ⟨8, by decide⟩ l :=
  headLo _ _ (rowX x0) (code_eq c arg1 harg1 x0) (scale_eq c arg1 harg1 x0) arg2 harg2 x1 arg4 harg4 x3 arg6 harg6 x5 8 9 (by decide) (by decide) (by decide) (by decide) r l
theorem head9 (r : Fin 256) (l : Fin 128) : kernelRun0_A.sl.v225 (F := Ideal) c arg1 harg1 arg2 harg2 arg4 harg4 arg6 harg6 x0 x1 x3 x5 (ix2 r l) = blkP x0 x1 x3 x5 r ⟨9, by decide⟩ l :=
  headHi _ _ (rowX x0) (code_eq c arg1 harg1 x0) (scale_eq c arg1 harg1 x0) arg2 harg2 x1 arg4 harg4 x3 arg6 harg6 x5 8 9 (by decide) (by decide) (by decide) (by decide) r l
theorem head10 (r : Fin 256) (l : Fin 128) : kernelRun0_A.sl.v245 (F := Ideal) c arg1 harg1 arg2 harg2 arg4 harg4 arg6 harg6 x0 x1 x3 x5 (ix2 r l) = blkP x0 x1 x3 x5 r ⟨10, by decide⟩ l :=
  headLo _ _ (rowX x0) (code_eq c arg1 harg1 x0) (scale_eq c arg1 harg1 x0) arg2 harg2 x1 arg4 harg4 x3 arg6 harg6 x5 10 11 (by decide) (by decide) (by decide) (by decide) r l
theorem head11 (r : Fin 256) (l : Fin 128) : kernelRun0_A.sl.v259 (F := Ideal) c arg1 harg1 arg2 harg2 arg4 harg4 arg6 harg6 x0 x1 x3 x5 (ix2 r l) = blkP x0 x1 x3 x5 r ⟨11, by decide⟩ l :=
  headHi _ _ (rowX x0) (code_eq c arg1 harg1 x0) (scale_eq c arg1 harg1 x0) arg2 harg2 x1 arg4 harg4 x3 arg6 harg6 x5 10 11 (by decide) (by decide) (by decide) (by decide) r l

/-- The sum of the heads' squares, lane by lane. -/
theorem acc_eq (r : Fin 256) (l : Fin 128) : kernelRun0_A.sl.v261 (F := Ideal) c arg1 harg1 arg2 harg2 arg4 harg4 arg6 harg6 x0 x1 x3 x5 (ix2 r l) = laneQ (fun h => blkP x0 x1 x3 x5 r h l) :=
  add_sq _ _ r l _ _ (add_sq _ _ r l _ _ (add_sq _ _ r l _ _ (add_sq _ _ r l _ _ (add_sq _ _ r l _ _ (add_sq _ _ r l _ _ (add_sq _ _ r l _ _ (add_sq _ _ r l _ _ (add_sq _ _ r l _ _ (add_sq _ _ r l _ _ (add_sq _ _ r l _ _ (add_sq _ _ r l _ _ (by pointwise [kernelRun0_A.sl.v60, kernelRun0_A.sl.cst_12]) (head0 c arg1 harg1 arg2 harg2 arg4 harg4 arg6 harg6 x0 x1 x3 x5 r l)) (head1 c arg1 harg1 arg2 harg2 arg4 harg4 arg6 harg6 x0 x1 x3 x5 r l)) (head2 c arg1 harg1 arg2 harg2 arg4 harg4 arg6 harg6 x0 x1 x3 x5 r l)) (head3 c arg1 harg1 arg2 harg2 arg4 harg4 arg6 harg6 x0 x1 x3 x5 r l)) (head4 c arg1 harg1 arg2 harg2 arg4 harg4 arg6 harg6 x0 x1 x3 x5 r l)) (head5 c arg1 harg1 arg2 harg2 arg4 harg4 arg6 harg6 x0 x1 x3 x5 r l)) (head6 c arg1 harg1 arg2 harg2 arg4 harg4 arg6 harg6 x0 x1 x3 x5 r l)) (head7 c arg1 harg1 arg2 harg2 arg4 harg4 arg6 harg6 x0 x1 x3 x5 r l)) (head8 c arg1 harg1 arg2 harg2 arg4 harg4 arg6 harg6 x0 x1 x3 x5 r l)) (head9 c arg1 harg1 arg2 harg2 arg4 harg4 arg6 harg6 x0 x1 x3 x5 r l)) (head10 c arg1 harg1 arg2 harg2 arg4 harg4 arg6 harg6 x0 x1 x3 x5 r l)) (head11 c arg1 harg1 arg2 harg2 arg4 harg4 arg6 harg6 x0 x1 x3 x5 r l)

theorem inv_eq (r : Fin 256) : kernelRun0_A.sl.r (F := Ideal) c arg1 harg1 arg2 harg2 arg4 harg4 arg6 harg6 x0 x1 x3 x5 (ix2 r 0) = rootK (blkP x0 x1 x3 x5 r) :=
  inv_apply _ (blkP x0 x1 x3 x5 r) r (acc_eq c arg1 harg1 arg2 harg2 arg4 harg4 arg6 harg6 x0 x1 x3 x5 r)

theorem hs_pieces : View.PiecesOf (arrY (blkP x0 x1 x3 x5)) (kernelRun0_A.sl.HS0_12 (F := Ideal) c arg1 harg1 arg2 harg2 arg4 harg4 arg6 harg6 x0 x1 x3 x5) :=
  ⟨keep_piece _ 11 1408 (by decide) rfl (by decide) _ (head11 c arg1 harg1 arg2 harg2 arg4 harg4 arg6 harg6 x0 x1 x3 x5),
   keep_piece _ 10 1280 (by decide) rfl (by decide) _ (head10 c arg1 harg1 arg2 harg2 arg4 harg4 arg6 harg6 x0 x1 x3 x5),
   keep_piece _ 9 1152 (by decide) rfl (by decide) _ (head9 c arg1 harg1 arg2 harg2 arg4 harg4 arg6 harg6 x0 x1 x3 x5),
   keep_piece _ 8 1024 (by decide) rfl (by decide) _ (head8 c arg1 harg1 arg2 harg2 arg4 harg4 arg6 harg6 x0 x1 x3 x5),
   keep_piece _ 7 896 (by decide) rfl (by decide) _ (head7 c arg1 harg1 arg2 harg2 arg4 harg4 arg6 harg6 x0 x1 x3 x5),
   keep_piece _ 6 768 (by decide) rfl (by decide) _ (head6 c arg1 harg1 arg2 harg2 arg4 harg4 arg6 harg6 x0 x1 x3 x5),
   keep_piece _ 5 640 (by decide) rfl (by decide) _ (head5 c arg1 harg1 arg2 harg2 arg4 harg4 arg6 harg6 x0 x1 x3 x5),
   keep_piece _ 4 512 (by decide) rfl (by decide) _ (head4 c arg1 harg1 arg2 harg2 arg4 harg4 arg6 harg6 x0 x1 x3 x5),
   keep_piece _ 3 384 (by decide) rfl (by decide) _ (head3 c arg1 harg1 arg2 harg2 arg4 harg4 arg6 harg6 x0 x1 x3 x5),
   keep_piece _ 2 256 (by decide) rfl (by decide) _ (head2 c arg1 harg1 arg2 harg2 arg4 harg4 arg6 harg6 x0 x1 x3 x5),
   keep_piece _ 1 128 (by decide) rfl (by decide) _ (head1 c arg1 harg1 arg2 harg2 arg4 harg4 arg6 harg6 x0 x1 x3 x5),
   keep_piece _ 0 0 (by decide) rfl (by decide) _ (head0 c arg1 harg1 arg2 harg2 arg4 harg4 arg6 harg6 x0 x1 x3 x5), trivial⟩

/-- What the scratch holds once the last head is in. -/
theorem hs_eq (y : S256x1536.Idx) : View.canon (kernelRun0_A.sl.HS0_12 (F := Ideal) c arg1 harg1 arg2 harg2 arg4 harg4 arg6 harg6 x0 x1 x3 x5) y = arrY (blkP x0 x1 x3 x5) y :=
  View.canon_apply_of_pieces _ _ (hs_pieces c arg1 harg1 arg2 harg2 arg4 harg4 arg6 harg6 x0 x1 x3 x5).mem y (View.cover_of_tiledL (kernelRun0_A.sl.HS0_12 (F := Ideal) c arg1 harg1 arg2 harg2 arg4 harg4 arg6 harg6 x0 x1 x3 x5) S256x128.size (by sl_kernel_rfl) y)

theorem norm_pieces : View.PiecesOf (arrN (blkP x0 x1 x3 x5) x7) (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7).2.2.1 :=
  ⟨norm_piece _ _ 11 (by decide) (by decide) _ _ _ (keep_read _ arg13 _ (hs_eq c arg1 harg1 arg2 harg2 arg4 harg4 arg6 harg6 x0 x1 x3 x5) 11 1408 (by decide) rfl (by decide)) (inv_eq c arg1 harg1 arg2 harg2 arg4 harg4 arg6 harg6 x0 x1 x3 x5) (rdS arg8 harg8 x7 11 (by decide) (by decide)),
   norm_piece _ _ 10 (by decide) (by decide) _ _ _ (keep_read _ arg13 _ (hs_eq c arg1 harg1 arg2 harg2 arg4 harg4 arg6 harg6 x0 x1 x3 x5) 10 1280 (by decide) rfl (by decide)) (inv_eq c arg1 harg1 arg2 harg2 arg4 harg4 arg6 harg6 x0 x1 x3 x5) (rdS arg8 harg8 x7 10 (by decide) (by decide)),
   norm_piece _ _ 9 (by decide) (by decide) _ _ _ (keep_read _ arg13 _ (hs_eq c arg1 harg1 arg2 harg2 arg4 harg4 arg6 harg6 x0 x1 x3 x5) 9 1152 (by decide) rfl (by decide)) (inv_eq c arg1 harg1 arg2 harg2 arg4 harg4 arg6 harg6 x0 x1 x3 x5) (rdS arg8 harg8 x7 9 (by decide) (by decide)),
   norm_piece _ _ 8 (by decide) (by decide) _ _ _ (keep_read _ arg13 _ (hs_eq c arg1 harg1 arg2 harg2 arg4 harg4 arg6 harg6 x0 x1 x3 x5) 8 1024 (by decide) rfl (by decide)) (inv_eq c arg1 harg1 arg2 harg2 arg4 harg4 arg6 harg6 x0 x1 x3 x5) (rdS arg8 harg8 x7 8 (by decide) (by decide)),
   norm_piece _ _ 7 (by decide) (by decide) _ _ _ (keep_read _ arg13 _ (hs_eq c arg1 harg1 arg2 harg2 arg4 harg4 arg6 harg6 x0 x1 x3 x5) 7 896 (by decide) rfl (by decide)) (inv_eq c arg1 harg1 arg2 harg2 arg4 harg4 arg6 harg6 x0 x1 x3 x5) (rdS arg8 harg8 x7 7 (by decide) (by decide)),
   norm_piece _ _ 6 (by decide) (by decide) _ _ _ (keep_read _ arg13 _ (hs_eq c arg1 harg1 arg2 harg2 arg4 harg4 arg6 harg6 x0 x1 x3 x5) 6 768 (by decide) rfl (by decide)) (inv_eq c arg1 harg1 arg2 harg2 arg4 harg4 arg6 harg6 x0 x1 x3 x5) (rdS arg8 harg8 x7 6 (by decide) (by decide)),
   norm_piece _ _ 5 (by decide) (by decide) _ _ _ (keep_read _ arg13 _ (hs_eq c arg1 harg1 arg2 harg2 arg4 harg4 arg6 harg6 x0 x1 x3 x5) 5 640 (by decide) rfl (by decide)) (inv_eq c arg1 harg1 arg2 harg2 arg4 harg4 arg6 harg6 x0 x1 x3 x5) (rdS arg8 harg8 x7 5 (by decide) (by decide)),
   norm_piece _ _ 4 (by decide) (by decide) _ _ _ (keep_read _ arg13 _ (hs_eq c arg1 harg1 arg2 harg2 arg4 harg4 arg6 harg6 x0 x1 x3 x5) 4 512 (by decide) rfl (by decide)) (inv_eq c arg1 harg1 arg2 harg2 arg4 harg4 arg6 harg6 x0 x1 x3 x5) (rdS arg8 harg8 x7 4 (by decide) (by decide)),
   norm_piece _ _ 3 (by decide) (by decide) _ _ _ (keep_read _ arg13 _ (hs_eq c arg1 harg1 arg2 harg2 arg4 harg4 arg6 harg6 x0 x1 x3 x5) 3 384 (by decide) rfl (by decide)) (inv_eq c arg1 harg1 arg2 harg2 arg4 harg4 arg6 harg6 x0 x1 x3 x5) (rdS arg8 harg8 x7 3 (by decide) (by decide)),
   norm_piece _ _ 2 (by decide) (by decide) _ _ _ (keep_read _ arg13 _ (hs_eq c arg1 harg1 arg2 harg2 arg4 harg4 arg6 harg6 x0 x1 x3 x5) 2 256 (by decide) rfl (by decide)) (inv_eq c arg1 harg1 arg2 harg2 arg4 harg4 arg6 harg6 x0 x1 x3 x5) (rdS arg8 harg8 x7 2 (by decide) (by decide)),
   norm_piece _ _ 1 (by decide) (by decide) _ _ _ (keep_read _ arg13 _ (hs_eq c arg1 harg1 arg2 harg2 arg4 harg4 arg6 harg6 x0 x1 x3 x5) 1 128 (by decide) rfl (by decide)) (inv_eq c arg1 harg1 arg2 harg2 arg4 harg4 arg6 harg6 x0 x1 x3 x5) (rdS arg8 harg8 x7 1 (by decide) (by decide)),
   norm_piece _ _ 0 (by decide) (by decide) _ _ _ (keep_read _ arg13 _ (hs_eq c arg1 harg1 arg2 harg2 arg4 harg4 arg6 harg6 x0 x1 x3 x5) 0 0 (by decide) rfl (by decide)) (inv_eq c arg1 harg1 arg2 harg2 arg4 harg4 arg6 harg6 x0 x1 x3 x5) (rdS arg8 harg8 x7 0 (by decide) (by decide)), trivial⟩

theorem val_pieces : View.PiecesOf (arrT (blkP x0 x2 x4 x6)) (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7).2.2.2.1 :=
  ⟨val_piece _ 11 (by decide) (by decide) _ (fun r l => headHi _ _ (rowX x0) (code_eq c arg1 harg1 x0) (scale_eq c arg1 harg1 x0) arg3 harg3 x2 arg5 harg5 x4 arg7 harg7 x6 10 11 (by decide) (by decide) (by decide) (by decide) r l),
   val_piece _ 10 (by decide) (by decide) _ (fun r l => headLo _ _ (rowX x0) (code_eq c arg1 harg1 x0) (scale_eq c arg1 harg1 x0) arg3 harg3 x2 arg5 harg5 x4 arg7 harg7 x6 10 11 (by decide) (by decide) (by decide) (by decide) r l),
   val_piece _ 9 (by decide) (by decide) _ (fun r l => headHi _ _ (rowX x0) (code_eq c arg1 harg1 x0) (scale_eq c arg1 harg1 x0) arg3 harg3 x2 arg5 harg5 x4 arg7 harg7 x6 8 9 (by decide) (by decide) (by decide) (by decide) r l),
   val_piece _ 8 (by decide) (by decide) _ (fun r l => headLo _ _ (rowX x0) (code_eq c arg1 harg1 x0) (scale_eq c arg1 harg1 x0) arg3 harg3 x2 arg5 harg5 x4 arg7 harg7 x6 8 9 (by decide) (by decide) (by decide) (by decide) r l),
   val_piece _ 7 (by decide) (by decide) _ (fun r l => headHi _ _ (rowX x0) (code_eq c arg1 harg1 x0) (scale_eq c arg1 harg1 x0) arg3 harg3 x2 arg5 harg5 x4 arg7 harg7 x6 6 7 (by decide) (by decide) (by decide) (by decide) r l),
   val_piece _ 6 (by decide) (by decide) _ (fun r l => headLo _ _ (rowX x0) (code_eq c arg1 harg1 x0) (scale_eq c arg1 harg1 x0) arg3 harg3 x2 arg5 harg5 x4 arg7 harg7 x6 6 7 (by decide) (by decide) (by decide) (by decide) r l),
   val_piece _ 5 (by decide) (by decide) _ (fun r l => headHi _ _ (rowX x0) (code_eq c arg1 harg1 x0) (scale_eq c arg1 harg1 x0) arg3 harg3 x2 arg5 harg5 x4 arg7 harg7 x6 4 5 (by decide) (by decide) (by decide) (by decide) r l),
   val_piece _ 4 (by decide) (by decide) _ (fun r l => headLo _ _ (rowX x0) (code_eq c arg1 harg1 x0) (scale_eq c arg1 harg1 x0) arg3 harg3 x2 arg5 harg5 x4 arg7 harg7 x6 4 5 (by decide) (by decide) (by decide) (by decide) r l),
   val_piece _ 3 (by decide) (by decide) _ (fun r l => headHi _ _ (rowX x0) (code_eq c arg1 harg1 x0) (scale_eq c arg1 harg1 x0) arg3 harg3 x2 arg5 harg5 x4 arg7 harg7 x6 2 3 (by decide) (by decide) (by decide) (by decide) r l),
   val_piece _ 2 (by decide) (by decide) _ (fun r l => headLo _ _ (rowX x0) (code_eq c arg1 harg1 x0) (scale_eq c arg1 harg1 x0) arg3 harg3 x2 arg5 harg5 x4 arg7 harg7 x6 2 3 (by decide) (by decide) (by decide) (by decide) r l),
   val_piece _ 1 (by decide) (by decide) _ (fun r l => headHi _ _ (rowX x0) (code_eq c arg1 harg1 x0) (scale_eq c arg1 harg1 x0) arg3 harg3 x2 arg5 harg5 x4 arg7 harg7 x6 0 1 (by decide) (by decide) (by decide) (by decide) r l),
   val_piece _ 0 (by decide) (by decide) _ (fun r l => headLo _ _ (rowX x0) (code_eq c arg1 harg1 x0) (scale_eq c arg1 harg1 x0) arg3 harg3 x2 arg5 harg5 x4 arg7 harg7 x6 0 1 (by decide) (by decide) (by decide) (by decide) r l), trivial⟩

theorem code_pieces : View.PiecesOf (arrC x0) (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7).1 := by
  refine ⟨fun x => ?_, trivial⟩
  obtain ⟨r, k, rfl⟩ : ∃ (r : Fin 256) (k : Fin 1536), x = ix3 0 r k := ⟨x 1, x 2, by
    funext a
    match a with
    | ⟨0, _⟩ => exact Fin.fin_one_eq_zero (x 0)
    | ⟨1, _⟩ => rfl
    | ⟨2, _⟩ => rfl⟩
  refine (cast_codes _ r k).trans ((code_eq c arg1 harg1 x0 r k).trans ?_)
  unfold arrC
  refine congrArg₂ (fun a b => rowCode (rowX x0 a) b) (Fin.ext ?_) (Fin.ext ?_)
  · show r.val = 0 + 1 * r.val; omega
  · show k.val = 0 + 1 * k.val; omega

theorem scale_piece : (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7).2.1 = [⟨Rect.unit (k0_off1 i) S1x256.size (k0_off1_inb i), arrS x0⟩] := by
  refine congrArg (fun q : S1x256.Idx → EReal => ([⟨Rect.unit (k0_off1 i) S1x256.size (k0_off1_inb i), q⟩] : List (View.Piece (Elt Ideal) S2x512 .f32))) (funext fun x => ?_)
  obtain ⟨r, rfl⟩ : ∃ r, x = ix2 0 r := ⟨x 1, by
    funext a
    match a with
    | ⟨0, _⟩ => exact Fin.fin_one_eq_zero (x 0)
    | ⟨1, _⟩ => rfl⟩
  exact (scale_row _ r).trans (scale_eq c arg1 harg1 x0 r)

end Block
end Cert.CtxIdeal.Val
-- ==== Proof.CtxRefValue.lean ====
/-
  The reference's four results, read at an index: the model of one row. -/
module

public import proofs.«01_k».proof.Proof.Gen.CtxRefIdeal.Value
public import proofs.«01_k».proof.Proof.ProjModel
public import Idealize.ShloMosaic.Lib.Pointwise

@[expose] public section
set_option maxRecDepth 16384
noncomputable section
namespace Cert.CtxRefIdeal.Val
open Idealize.ShloMosaic Cert.CtxRefIdeal Cert.CtxRefIdeal.Gen Cert.FfnVal Cert.ProjVal

/-- Token `t` of sequence `b`. -/
def refX (a0 : S2x512x1536.Idx → EReal) (b : Fin 2) (t : Fin 512) : Fin 1536 → EReal := fun k => a0 (ix3 b t k)
/-- Its projection. -/
def refP (a0 : S2x512x1536.Idx → EReal) (w : S1536x12x128.Idx → EReal) (s bi : S12x128.Idx → EReal) (b : Fin 2) (t : Fin 512) : Fin 12 → Fin 128 → EReal :=
  fun h l => lin (refX a0 b t) (fun k => w (ix3 k h l)) (s (ix2 h l)) (bi (ix2 h l))

theorem pay2_apply (v0 : Vec Ideal S2x512x1536 .bf16) (b : Fin 2) (t : Fin 512) : k0_pay2 (F := Ideal) v0 (ix2 b t) = rowSc (refX v0 b t) := by
  have g : ∀ v30 : FVec Ideal S2x512 .f32, select (cmpf .oeq v30 (broadcast S2x512 (Scalar.ofBits .f32 0x00000000#32 : Ideal .f32)))
      (broadcast S2x512 (Scalar.ofBits .f32 0x3F800000#32 : Ideal .f32))
      (divf v30 (broadcast S2x512 (Scalar.ofBits .f32 0x43E00000#32 : Ideal .f32))) (ix2 b t) = quant (v30 (ix2 b t)) := by
    intro v30
    unfold quant top8
    pointwise
  refine (g _).trans ?_
  unfold rowSc
  exact congrArg quant ((red_max3 (absf (k0_pay1 (F := Ideal) v0)) reduces_S2x512x1536_S2x512 (.inl rfl) rfl b t).trans rfl)

theorem clip_apply (Y : FVec Ideal S2x512x1536 .f32) (Z : FVec Ideal S2x512 .f32) (b : Fin 2) (t : Fin 512) (k : Fin 1536) :
    (truncf .fp8e4m3 (minimumf (broadcast S2x512x1536 (Scalar.ofBits .f32 0x43E00000#32 : Ideal .f32)) (maximumf (broadcast S2x512x1536 (Scalar.ofBits .f32 0xC3E00000#32 : Ideal .f32))
      (divf Y (broadcastTo S2x512x1536 (shapeCast S2x512x1 Z shapeCasts_S2x512_S2x512x1) broadcasts_S2x512x1_S2x512x1536)))) bitsLt_fp8e4m3_f32 : FVec Ideal S2x512x1536 .fp8e4m3) (ix3 b t k)
      = clip (Ideal.div (Y (ix3 b t k)) (Z (ix2 b t))) := by
  unfold clip top8 bot8
  pointwise

theorem pay3_apply (v0 : Vec Ideal S2x512x1536 .bf16) (b : Fin 2) (t : Fin 512) (k : Fin 1536) : k0_pay3 (F := Ideal) v0 (ix3 b t k) = rowCode (refX v0 b t) k := by
  refine (clip_apply (k0_pay1 (F := Ideal) v0) (k0_pay2 (F := Ideal) v0) b t k).trans ?_
  rw [pay2_apply]
  rfl

theorem linear_apply (C : FVec Ideal S2x512x1536 .fp8e4m3) (Z : FVec Ideal S2x512 .f32) (w : Vec Ideal S1536x12x128 .fp8e4m3) (s bi : Vec Ideal S12x128 .f32) (b : Fin 2) (t : Fin 512) (h : Fin 12) (l : Fin 128) :
    (addf (mulf (mulf (shapeCast S2x512x12x128 (matmul (φ₂ := .fp8e4m3) dot_S1024x1536_S1536x1536_S1024x1536_1_0_0_1_n_n none (shapeCast S1024x1536 C shapeCasts_S2x512x1536_S1024x1536)
      (shapeCast S1536x1536 w shapeCasts_S1536x12x128_S1536x1536) (constant S1024x1536 .f32 0x00000000#32 : FVec Ideal S1024x1536 .f32)) shapeCasts_S1024x1536_S2x512x12x128)
      (broadcastTo S2x512x12x128 (shapeCast S2x512x1x1 Z shapeCasts_S2x512_S2x512x1x1) broadcasts_S2x512x1x1_S2x512x12x128))
      (broadcastTo S2x512x12x128 (shapeCast S1x1x12x128 s shapeCasts_S12x128_S1x1x12x128) broadcasts_S1x1x12x128_S2x512x12x128))
      (broadcastTo S2x512x12x128 (shapeCast S1x1x12x128 bi shapeCasts_S12x128_S1x1x12x128) broadcasts_S1x1x12x128_S2x512x12x128) : FVec Ideal S2x512x12x128 .f32) (ix4 b t h l)
      = (∑ k : Fin 1536, C (ix3 b t k) * w (ix3 k h l)) * Z (ix2 b t) * s (ix2 h l) + bi (ix2 h l) := by
  pointwise

theorem pay4_apply (v0 : Vec Ideal S2x512x1536 .bf16) (w : Vec Ideal S1536x12x128 .fp8e4m3) (s bi : Vec Ideal S12x128 .f32) (b : Fin 2) (t : Fin 512) (h : Fin 12) (l : Fin 128) :
    k0_pay4 (F := Ideal) v0 w s bi (ix4 b t h l) = refP v0 w s bi b t h l := by
  refine (linear_apply (k0_pay3 (F := Ideal) v0) (k0_pay2 (F := Ideal) v0) w s bi b t h l).trans ?_
  rw [pay2_apply]
  unfold refP lin
  exact congrArg (fun q : EReal => q * rowSc (refX v0 b t) * s (ix2 h l) + bi (ix2 h l)) (Finset.sum_congr rfl fun k _ => congrArg (· * w (ix3 k h l)) (pay3_apply v0 b t k))

theorem pay5_apply (V : FVec Ideal S2x512x12x128 .f32) (g : Vec Ideal S12x128 .f32) (b : Fin 2) (h : Fin 12) (t : Fin 512) (l : Fin 128) :
    k0_pay5 (F := Ideal) V g (ix4 b h t l) = rms (fun h l => V (ix4 b t h l)) (g (ix2 h l)) h l := by
  unfold rms root ssq ProjVal.nD eps
  pointwise [k0_pay5]

theorem pay6_apply (v0 : Vec Ideal S2x512x1536 .bf16) (w : Vec Ideal S1536x12x128 .fp8e4m3) (s bi : Vec Ideal S12x128 .f32) (b : Fin 2) (h : Fin 12) (l : Fin 128) (t : Fin 512) :
    k0_pay6 (F := Ideal) (k0_pay2 (F := Ideal) v0) (k0_pay3 (F := Ideal) v0) w s bi (ix4 b h l t) = refP v0 w s bi b t h l := by
  refine Eq.trans ?_ (pay4_apply v0 w s bi b t h l)
  have g : ∀ V : FVec Ideal S2x512x12x128 .f32, transpose S2x12x128x512 [0, 2, 3, 1] (truncf .bf16 V bitsLt_bf16_f32 : FVec Ideal S2x512x12x128 .bf16) transposes_S2x512x12x128_p0_2_3_1_S2x12x128x512 (ix4 b h l t) = V (ix4 b t h l) := by
    intro V
    pointwise
  exact g _

section Results
variable (a0 : S2x512x1536.Idx → EReal) (a1 a2 : S1536x12x128.Idx → EReal) (a3 a4 a5 a6 a7 : S12x128.Idx → EReal)

/-- The codes, of the argument arrays. -/
def resC : S2x512x1536.Idx → EReal := fun j => rowCode (refX a0 (j 0) (j 1)) (j 2)
/-- The scales, of the argument arrays. -/
def resS : S2x512.Idx → EReal := fun j => rowSc (refX a0 (j 0) (j 1))
/-- The keys, of the argument arrays. -/
def resK : S2x12x512x128.Idx → EReal := fun j => rms (refP a0 a1 a3 a5 (j 0) (j 2)) (a7 (ix2 (j 1) (j 3))) (j 1) (j 3)
/-- The values, of the argument arrays. -/
def resV : S2x12x128x512.Idx → EReal := fun j => refP a0 a2 a4 a6 (j 0) (j 3) (j 1) (j 2)

theorem ix4_eq {a b c d : ℕ} (j : (⟨4, ![a, b, c, d]⟩ : Shape).Idx) : j = ix4 (j 0) (j 1) (j 2) (j 3) := by
  funext i
  match i with
  | ⟨0, _⟩ => rfl
  | ⟨1, _⟩ => rfl
  | ⟨2, _⟩ => rfl
  | ⟨3, _⟩ => rfl

theorem G8_eq : Value.G8 (F := Ideal) a0 a1 a2 a3 a4 a5 a6 a7 = resC a0 := by
  funext j
  obtain ⟨b, t, k, rfl⟩ : ∃ b t k, j = ix3 b t k := ⟨j 0, j 1, j 2, eq_ix3 j⟩
  exact pay3_apply a0 b t k
theorem G9_eq : Value.G9 (F := Ideal) a0 a1 a2 a3 a4 a5 a6 a7 = resS a0 := by
  funext j
  obtain ⟨b, t, rfl⟩ : ∃ b t, j = ix2 b t := ⟨j 0, j 1, eq_ix2 j⟩
  exact pay2_apply a0 b t
theorem G10_eq : Value.G10 (F := Ideal) a0 a1 a2 a3 a4 a5 a6 a7 = resK a0 a1 a3 a5 a7 := by
  funext j
  obtain ⟨b, h, t, l, rfl⟩ : ∃ b h t l, j = ix4 b h t l := ⟨j 0, j 1, j 2, j 3, ix4_eq j⟩
  refine (pay5_apply _ a7 b h t l).trans ?_
  exact congrArg (fun y => rms y (a7 (ix2 h l)) h l) (funext fun h => funext fun l => pay4_apply a0 a1 a3 a5 b t h l)
theorem G11_eq : Value.G11 (F := Ideal) a0 a1 a2 a3 a4 a5 a6 a7 = resV a0 a2 a4 a6 := by
  funext j
  obtain ⟨b, h, l, t, rfl⟩ : ∃ b h l t, j = ix4 b h l t := ⟨j 0, j 1, j 2, j 3, ix4_eq j⟩
  exact pay6_apply a0 a2 a4 a6 b h l t

end Results
end Cert.CtxRefIdeal.Val
-- ==== Proof.CtxValue.lean ====
/-
  The kernel's four results as functions of the argument arrays, and its run. -/
module

public import proofs.«01_k».proof.Proof.CtxFrame
public import proofs.«01_k».proof.Proof.CtxBlock
public import proofs.«01_k».proof.Proof.CtxRefValue
public import Idealize.ShloMosaic.Lib.Pipeline.ValueKit

@[expose] public section
set_option maxRecDepth 16384
noncomputable section
namespace Cert.CtxIdeal.Val
open Idealize.ShloMosaic Idealize.ShloMosaic.TcCoe Idealize.ShloMosaic.Tactic Cert.CtxIdeal Cert.CtxIdeal.Gen Cert.FfnVal Cert.ProjVal Cert.CtxIdeal.Run
open Idealize.SL Idealize.SL.Sem
open Cert.CtxRefIdeal.Val (refX refP resC resS resK resV)

variable (m : (ℓ : Loc nD τ sig) → Buf (Elt Ideal) ℓ) (ρ : Dev nD → PrngReg)

/-- The sequence of a grid point; -/
def gB (i : grid0.Coords) : Fin 2 := ⟨(i 0).val / 2, by have h : (i 0).val < 4 := (i 0).isLt; omega⟩
/-- the token of a row of it. -/
def gT (i : grid0.Coords) (r : Fin 256) : Fin 512 := ⟨256 * ((i 0).val % 2) + r.val, by have := r.isLt; omega⟩
theorem gB_val (i : grid0.Coords) : (gB i).val = (i 0).val / 2 := rfl
theorem gT_val (i : grid0.Coords) (r : Fin 256) : (gT i r).val = 256 * ((i 0).val % 2) + r.val := rfl

/-- Every window's block index at a grid point. -/
theorem idx : ∀ t : Fin cfg0.N, win0_0.index t = ![(grid0.coords t 0).val / 2, (grid0.coords t 0).val % 2, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0] ∧ win0_7.index t = ![0, 0]
    ∧ win0_8.index t = ![(grid0.coords t 0).val / 2, (grid0.coords t 0).val % 2, 0] ∧ win0_9.index t = ![0, 0]
    ∧ win0_10.index t = ![(grid0.coords t 0).val / 2, 0, (grid0.coords t 0).val % 2, 0] ∧ win0_11.index t = ![(grid0.coords t 0).val / 2, 0, 0, (grid0.coords t 0).val % 2] :=
  (by decide +kernel : ∀ t : Fin grid0.N, _)

theorem b0 (c : Dev nD) (t : Fin cfg0.N) (r : Fin 256) (k : Fin 1536) :
    iblk m c 0 t (ix3 0 r k) = m ((c : Thread nD τ).loc main_arg0) (ix3 (gB (grid0.coords t)) (gT (grid0.coords t) r) k) := by
  blk_ext [iblk, V, idx t, gB_val, gT_val]
theorem b1 (c : Dev nD) (t : Fin cfg0.N) (h : Fin 12) (k : Fin 1536) (l : Fin 128) :
    iblk m c 1 t (ix3 h k l) = m ((c : Thread nD τ).loc main_arg1) (ix3 k h l) := by
  blk_ext! [iblk, V, idx t]
theorem b2 (c : Dev nD) (t : Fin cfg0.N) (h : Fin 12) (k : Fin 1536) (l : Fin 128) :
    iblk m c 2 t (ix3 h k l) = m ((c : Thread nD τ).loc main_arg2) (ix3 k h l) := by
  blk_ext! [iblk, V, idx t]
theorem b3 (c : Dev nD) (t : Fin cfg0.N) (h : Fin 12) (l : Fin 128) : iblk m c 3 t (ix2 h l) = m ((c : Thread nD τ).loc main_arg3) (ix2 h l) := by
  blk_ext [iblk, V, idx t]
theorem b4 (c : Dev nD) (t : Fin cfg0.N) (h : Fin 12) (l : Fin 128) : iblk m c 4 t (ix2 h l) = m ((c : Thread nD τ).loc main_arg4) (ix2 h l) := by
  blk_ext [iblk, V, idx t]
theorem b5 (c : Dev nD) (t : Fin cfg0.N) (h : Fin 12) (l : Fin 128) : iblk m c 5 t (ix2 h l) = m ((c : Thread nD τ).loc main_arg5) (ix2 h l) := by
  blk_ext [iblk, V, idx t]
theorem b6 (c : Dev nD) (t : Fin cfg0.N) (h : Fin 12) (l : Fin 128) : iblk m c 6 t (ix2 h l) = m ((c : Thread nD τ).loc main_arg6) (ix2 h l) := by
  blk_ext [iblk, V, idx t]
theorem b7 (c : Dev nD) (t : Fin cfg0.N) (h : Fin 12) (l : Fin 128) : iblk m c 7 t (ix2 h l) = m ((c : Thread nD τ).loc main_arg7) (ix2 h l) := by
  blk_ext [iblk, V, idx t]

theorem rowX_eq (c : Dev nD) (t : Fin cfg0.N) (r : Fin 256) :
    rowX (iblk m c 0 t) r = refX (m ((c : Thread nD τ).loc main_arg0)) (gB (grid0.coords t)) (gT (grid0.coords t) r) :=
  funext fun k => b0 m c t r k

theorem blkK_eq (c : Dev nD) (t : Fin cfg0.N) (r : Fin 256) :
    blkP (iblk m c 0 t) (iblk m c 1 t) (iblk m c 3 t) (iblk m c 5 t) r
      = refP (m ((c : Thread nD τ).loc main_arg0)) (m ((c : Thread nD τ).loc main_arg1)) (m ((c : Thread nD τ).loc main_arg3)) (m ((c : Thread nD τ).loc main_arg5)) (gB (grid0.coords t)) (gT (grid0.coords t) r) := by
  funext h l
  unfold blkP projRow refP
  rw [rowX_eq m c t r, b3 m c t h l, b5 m c t h l, show (fun k => iblk m c 1 t (ix3 h k l)) = _ from funext fun k => b1 m c t h k l]

theorem blkV_eq (c : Dev nD) (t : Fin cfg0.N) (r : Fin 256) :
    blkP (iblk m c 0 t) (iblk m c 2 t) (iblk m c 4 t) (iblk m c 6 t) r
      = refP (m ((c : Thread nD τ).loc main_arg0)) (m ((c : Thread nD τ).loc main_arg2)) (m ((c : Thread nD τ).loc main_arg4)) (m ((c : Thread nD τ).loc main_arg6)) (gB (grid0.coords t)) (gT (grid0.coords t) r) := by
  funext h l
  unfold blkP projRow refP
  rw [rowX_eq m c t r, b4 m c t h l, b6 m c t h l, show (fun k => iblk m c 2 t (ix3 h k l)) = _ from funext fun k => b2 m c t h k l]

/-- The codes. -/
theorem final8 (c : Dev nD) : (dats m 0 c).arrAt 8 cfg0.N = resC (m ((c : Thread nD τ).loc main_arg0)) := by
  refine (dats m 0 c).arrAt_eq_of_covers 8 _ (by decide +kernel) fun t hf y => ?_
  blk_simp
  rw [after0_8]
  refine (View.canon_apply_of_pieces _ _ (code_pieces ..).mem y (cover8 m c t y)).trans ?_
  have e : (win0_8.blk t).view.emb y = ix3 (gB (grid0.coords t)) (gT (grid0.coords t) (y 1)) (y 2) := by
    blk_ext [idx t, gB_val, gT_val]
    exact (Nat.add_comm _ _).trans ((Nat.add_comm _ _).trans (congrArg (· + (y 1).val) (Nat.mul_comm _ _)))
  rw [e]
  exact congrArg (fun q => rowCode q (y 2)) (rowX_eq m c t (y 1))

/-- The keys. -/
theorem final10 (c : Dev nD) : (dats m 0 c).arrAt 10 cfg0.N
    = resK (m ((c : Thread nD τ).loc main_arg0)) (m ((c : Thread nD τ).loc main_arg1)) (m ((c : Thread nD τ).loc main_arg3)) (m ((c : Thread nD τ).loc main_arg5)) (m ((c : Thread nD τ).loc main_arg7)) := by
  refine (dats m 0 c).arrAt_eq_of_covers 10 _ (by decide +kernel) fun t hf y => ?_
  blk_simp
  rw [after0_10]
  refine (View.canon_apply_of_pieces _ _ (norm_pieces ..).mem y (cover10 m c t y)).trans ?_
  have e : (win0_10.blk t).view.emb y = ix4 (gB (grid0.coords t)) (y 1) (gT (grid0.coords t) (y 2)) (y 3) := by
    blk_ext [idx t, gB_val, gT_val]
    exact (Nat.add_comm _ _).trans ((Nat.add_comm _ _).trans (congrArg (· + (y 2).val) (Nat.mul_comm _ _)))
  rw [e]
  unfold arrN resK
  rw [blkK_eq m c t (y 2), b7 m c t (y 1) (y 3)]
  rfl

/-- The values. -/
theorem final11 (c : Dev nD) : (dats m 0 c).arrAt 11 cfg0.N
    = resV (m ((c : Thread nD τ).loc main_arg0)) (m ((c : Thread nD τ).loc main_arg2)) (m ((c : Thread nD τ).loc main_arg4)) (m ((c : Thread nD τ).loc main_arg6)) := by
  refine (dats m 0 c).arrAt_eq_of_covers 11 _ (by decide +kernel) fun t hf y => ?_
  blk_simp
  rw [after0_11]
  refine (View.canon_apply_of_pieces _ _ (val_pieces ..).mem y (cover11 m c t y)).trans ?_
  have e : (win0_11.blk t).view.emb y = ix4 (gB (grid0.coords t)) (y 1) (y 2) (gT (grid0.coords t) (y 3)) := by
    blk_ext [idx t, gB_val, gT_val]
    exact (Nat.add_comm _ _).trans ((Nat.add_comm _ _).trans (congrArg (· + (y 3).val) (Nat.mul_comm _ _)))
  rw [e]
  unfold arrT resV
  rw [blkV_eq m c t (y 3)]
  rfl

/-- The row of scales that a grid point stores. -/
theorem scale_at (c : Dev nD) (t : Fin cfg0.N) (y : S2x512.Idx) (h : Seg m c t y) : View.canon (L9at m c t) y = resS (m ((c : Thread nD τ).loc main_arg0)) y := by
  have e : L9at m c t = [⟨Rect.unit (k0_off1 (grid0.coords t)) S1x256.size (k0_off1_inb (grid0.coords t)), arrS (iblk m c 0 t)⟩] :=
    scale_piece ..
  unfold Seg at h
  rw [e] at h ⊢
  refine View.canon_apply_of_pieces (Val := Elt Ideal) (e := .f32) (resS (m ((c : Thread nD τ).loc main_arg0))) _ (fun p hp => ?_) y h
  obtain rfl := List.mem_singleton.mp hp
  intro x
  refine (congrArg rowSc (rowX_eq m c t (x 1))).trans ?_
  unfold resS
  refine congrArg₂ (fun a b => rowSc (refX _ a b)) (Fin.ext ?_) (Fin.ext ?_)
  · refine Eq.symm ((Rect.idx_unit_val _ _ (k0_off1_inb (grid0.coords t)) x 0).trans ?_)
    refine (congrArg (· + _) (congrFun (off_eq (grid0.coords t)) 0)).trans ?_
    have hx : (x 0).val < 1 := (x 0).isLt
    show (grid0.coords t 0).val / 2 + (x 0).val = (grid0.coords t 0).val / 2
    omega
  · refine Eq.symm ((Rect.idx_unit_val _ _ (k0_off1_inb (grid0.coords t)) x 1).trans ?_)
    exact congrArg (· + _) (congrFun (off_eq (grid0.coords t)) 1)

/-- Every index of the scales is stored by some point. -/
theorem seg_cover (c : Dev nD) (y : S2x512.Idx) : ∃ t : Fin cfg0.N, Seg m c t y := by
  have h0 : (y 0).val < 2 := (y 0).isLt
  have h1 : (y 1).val < 512 := (y 1).isLt
  have key : ∀ a : Fin 2, ∀ b : Fin 2, ∃ t : Fin grid0.N, (grid0.coords t 0).val / 2 = a.val ∧ (grid0.coords t 0).val % 2 = b.val := by decide +kernel
  obtain ⟨t, e0, e1⟩ := key ⟨(y 0).val, h0⟩ ⟨(y 1).val / 256, by omega⟩
  refine ⟨t, (seg_iff m c t y).mpr ⟨e0.symm, ?_, ?_⟩⟩
  · rw [e1]; show 256 * ((y 1).val / 256) ≤ _; omega
  · rw [e1]; show _ < 256 * ((y 1).val / 256) + 256; omega

/-- The last grid point. -/
def tLast : Fin cfg0.N := ⟨3, by decide +kernel⟩

/-- The scales. -/
theorem final9 (c : Dev nD) (G : Buf (Elt Ideal) ((c : Thread nD τ).loc main_v2_1)) (hG : (rdat m c).ArrAt 9 cfg0.N G) : G = resS (m ((c : Thread nD τ).loc main_arg0)) := by
  obtain ⟨X, hl, hX⟩ := Pipeline.RDat.ArrAt.emb_eq_of_wholeAt hG (t₀ := tLast) (by decide +kernel)
  have hr : Rows m c tLast X := (dats m 0 c).toRRel_leaves (fgt := rel0) (Rl := Rl0 m c) (w := 9) rfl hl
  funext y
  obtain ⟨t, ht⟩ := seg_cover m c y
  have ht3 : t ≤ tLast := by
    have h4 : t.val < 4 := t.isLt
    show t.val ≤ 3
    omega
  have h := hX y
  have h' : G y = X y := h
  exact h'.trans ((hr t ht3 y ht).trans (scale_at m c t y ht))

/-- A frame run says of every window what its array may hold at the end (stated at a variable configuration). -/
theorem arr_out {cfg₁ : Pipeline.Cfg sig Λ₀} {rd : (c : Dev nD) → Pipeline.RDat τ (Elt Ideal) Unit ℕ (UR sig nD τ) ℕ cfg₁ c}
    {V : (c : Dev nD) → (b : Ref sig .tc) → Buf (Elt Ideal) ((c.tc : Thread nD τ).loc b)} {r : PUnit × MemSt nD τ sig (Elt Ideal)}
    (h : Pipeline.RDat.FramePost cfg₁ rd V r) (c : Dev nD) (w : Fin cfg₁.W) :
    (rd c).ArrAt w cfg₁.N (r.2.mem ((cfg₁.spec w).arr.view.loc (c.tc : Thread nD τ))) := (h c).1 w

/-- A window whose contents are named point by point ends at the array those contents make. -/
theorem arr_named (c : Dev nD) (w : Fin cfg0.W) (hw : rel0 w = false) (n : ℕ) (G : Buf (Elt Ideal) ((cfg0.win w).arr.view.loc (c.tc : Thread nD τ)))
    (h : (rdat m c).ArrAt w n G) : G = (dats m 0 c).arrAt w n :=
  ((dats m 0 c).toR_arrAt_iff w n G).mp (((dats m 0 c).toR.override_arrAt (by simp only [hw]) n G).mp h)

/-- The four results. -/
theorem results : θ_run defs (onTc (τ := τ) (main (F := Ideal))) ⟨m, fun _ => 0, ρ⟩ (fun r => ∀ c : Dev nD,
      r.2.mem ((c.tc : Thread nD τ).loc main_v2_0) = resC (m ((c : Thread nD τ).loc main_arg0))
      ∧ r.2.mem ((c.tc : Thread nD τ).loc main_v2_1) = resS (m ((c : Thread nD τ).loc main_arg0))
      ∧ r.2.mem ((c.tc : Thread nD τ).loc main_v2_2) = resK (m ((c : Thread nD τ).loc main_arg0)) (m ((c : Thread nD τ).loc main_arg1)) (m ((c : Thread nD τ).loc main_arg3)) (m ((c : Thread nD τ).loc main_arg5)) (m ((c : Thread nD τ).loc main_arg7))
      ∧ r.2.mem ((c.tc : Thread nD τ).loc main_v2_3) = resV (m ((c : Thread nD τ).loc main_arg0)) (m ((c : Thread nD τ).loc main_arg2)) (m ((c : Thread nD τ).loc main_arg4)) (m ((c : Thread nD τ).loc main_arg6))) :=
  (θ_run defs _ _).mono (fun _ h c => ⟨(arr_named m c 8 rfl _ _ (arr_out h c 8)).trans (final8 m c), final9 m c _ (arr_out h c 9),
    (arr_named m c 10 rfl _ _ (arr_out h c 10)).trans (final10 m c), (arr_named m c 11 rfl _ _ (arr_out h c 11)).trans (final11 m c)⟩) (run_main m ρ)

/-- The four results, and the arguments unchanged. -/
theorem run : θ_run defs (onTc (τ := τ) (main (F := Ideal))) ⟨m, fun _ => 0, ρ⟩ (fun r => ∀ c : Dev nD,
      r.2.mem ((c.tc : Thread nD τ).loc main_v2_0) = resC (m ((c : Thread nD τ).loc main_arg0))
      ∧ r.2.mem ((c.tc : Thread nD τ).loc main_v2_1) = resS (m ((c : Thread nD τ).loc main_arg0))
      ∧ r.2.mem ((c.tc : Thread nD τ).loc main_v2_2) = resK (m ((c : Thread nD τ).loc main_arg0)) (m ((c : Thread nD τ).loc main_arg1)) (m ((c : Thread nD τ).loc main_arg3)) (m ((c : Thread nD τ).loc main_arg5)) (m ((c : Thread nD τ).loc main_arg7))
      ∧ r.2.mem ((c.tc : Thread nD τ).loc main_v2_3) = resV (m ((c : Thread nD τ).loc main_arg0)) (m ((c : Thread nD τ).loc main_arg2)) (m ((c : Thread nD τ).loc main_arg4)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1 c).1, (h.1 c).2.1, (h.1 c).2.2.1, (h.1 c).2.2.2, h.2 c⟩) (θ_run_and (results m ρ) (unchanged m ρ))

end Cert.CtxIdeal.Val
-- ==== Proof.lean ====
/-
  The proof of `Cert.Claim`: the frames, the named constants, and the value claims. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Skeleton
public import proofs.«01_k».proof.Proof.Gen.FfnRefIdeal.Launch
public import proofs.«01_k».proof.Proof.Gen.FfnRefIdeal.Points
public import proofs.«01_k».proof.Proof.Gen.FfnRefIdeal.Frame
public import proofs.«01_k».proof.Proof.Gen.FfnRefIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvRefIdeal.Value
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxRefIdeal
public import proofs.«01_k».proof.Proof.Gen.CtxRefIdeal.Skeleton
public import proofs.«01_k».proof.Proof.Gen.CtxRefIdeal.Launch
public import proofs.«01_k».proof.Proof.Gen.CtxRefIdeal.Points
public import proofs.«01_k».proof.Proof.Gen.CtxRefIdeal.Frame
public import proofs.«01_k».proof.Proof.Gen.CtxRefIdeal.Value
public import proofs.«01_k».proof.Proof.FfnPlain
public import proofs.«01_k».proof.Proof.FfnFrame
public import proofs.«01_k».proof.Proof.FfnEnd
public import proofs.«01_k».proof.Proof.QkvPlain
public import proofs.«01_k».proof.Proof.QkvFrame
public import proofs.«01_k».proof.Proof.QkvEnd
public import proofs.«01_k».proof.Proof.CtxPlain
public import proofs.«01_k».proof.Proof.CtxFrame
public import proofs.«01_k».proof.Proof.CtxValue
public import Idealize.ShloMosaic.Adequacy
public import Idealize.ShloMosaic.Init

@[expose] public section

noncomputable section

namespace Cert.Proof

open Idealize.ShloMosaic Idealize.SL.Sem Cert.Ffn

set_option maxHeartbeats 2000000 in
theorem claim : Cert.Claim := by
  refine ⟨Cert.Ffn.Gen.facts, Cert.FfnIdeal.Gen.facts, Cert.FfnRefIdeal.Gen.facts, Cert.Qkv.Gen.facts, Cert.QkvIdeal.Gen.facts, Cert.QkvRefIdeal.Gen.facts, Cert.Ctx.Gen.facts, Cert.CtxIdeal.Gen.facts, Cert.CtxRefIdeal.Gen.facts,
    fun m ρ _ => Cert.Ffn.Run.frame m ρ, fun m ρ _ => Cert.FfnIdeal.Run.frame m ρ, fun m ρ _ => Cert.FfnRefIdeal.Gen.frame m ρ,
    fun m ρ _ => Cert.Qkv.Run.frame m ρ, fun m ρ _ => Cert.QkvIdeal.Run.frame m ρ, fun m ρ _ => Cert.QkvRefIdeal.Gen.frame m ρ,
    fun m ρ _ => Cert.Ctx.Run.frame m ρ, fun m ρ _ => Cert.CtxIdeal.Run.frame m ρ, fun m ρ _ => Cert.CtxRefIdeal.Gen.frame m ρ,
    ⟨IdealRules.named_const.statement _ _ _ _ _ rfl, IdealRules.named_const.statement _ _ _ _ _ rfl⟩, ?_, IdealRules.named_const.statement _ _ _ _ _ rfl, ?_, IdealRules.named_const.statement _ _ _ _ _ rfl, ?_⟩
  · intro m g m' g' _ ha
    refine ⟨fun c => Cert.FfnRefIdeal.Val.resC (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)),
      fun c => Cert.FfnRefIdeal.Val.resS (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)),
      fun c => Cert.FfnRefIdeal.Val.resO (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)),
      Cert.FfnIdeal.Val.run m g, ?_⟩
    refine (θ_run _ _ _).mono (fun r h c => ?_) (Cert.FfnRefIdeal.Value.run m' g')
    obtain ⟨e0, e1, e2, e3, e4, e5, e6, e7, e8, e9, e10⟩ := ha c
    obtain ⟨h0, h1, h2, hk⟩ := h c
    refine ⟨h0.trans ?_, h1.trans ?_, h2.trans ?_, hk⟩
    · rw [Cert.FfnRefIdeal.Val.G11_eq, e0, e1, e5, e6, e7]
    · rw [Cert.FfnRefIdeal.Val.G12_eq, e0, e1, e5, e6, e7]
    · rw [Cert.FfnRefIdeal.Val.G13_eq, e0, e1, e2, e3, e4, e5, e6, e7, e8, e9, e10]
  · intro m g m' g' _ ha
    refine ⟨fun c => Cert.QkvRefIdeal.Val.resC (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)),
      fun c => Cert.QkvRefIdeal.Val.resS (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)),
      fun c => Cert.QkvRefIdeal.Val.resQ (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg8)) (m ((c.tc : Thread Cert.QkvIdeal.nD Cert.QkvIdeal.τ).loc Cert.QkvIdeal.main_arg11)) (m ((c.tc : Thread Cert.QkvIdeal.nD Cert.QkvIdeal.τ).loc Cert.QkvIdeal.main_arg14)),
      fun c => Cert.QkvRefIdeal.Val.resQ (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg6)) (m ((c.tc : Thread Cert.QkvIdeal.nD Cert.QkvIdeal.τ).loc Cert.QkvIdeal.main_arg9)) (m ((c.tc : Thread Cert.QkvIdeal.nD Cert.QkvIdeal.τ).loc Cert.QkvIdeal.main_arg12)) (m ((c.tc : Thread Cert.QkvIdeal.nD Cert.QkvIdeal.τ).loc Cert.QkvIdeal.main_arg15)),
      fun c => Cert.QkvRefIdeal.Val.resV (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg7)) (m ((c.tc : Thread Cert.QkvIdeal.nD Cert.QkvIdeal.τ).loc Cert.QkvIdeal.main_arg10)) (m ((c.tc : Thread Cert.QkvIdeal.nD Cert.QkvIdeal.τ).loc Cert.QkvIdeal.main_arg13)),
      Cert.QkvIdeal.Val.run m g, ?_⟩
    refine (θ_run _ _ _).mono (fun r h c => ?_) (Cert.QkvRefIdeal.Value.run m' g')
    obtain ⟨e0, e1, e2, e3, e4, e5, e6, e7, e8, e9, e10, e11, e12, e13, e14, e15⟩ := ha c
    obtain ⟨h0, h1, h2, h3, h4, hk⟩ := h c
    refine ⟨h0.trans ?_, h1.trans ?_, h2.trans ?_, h3.trans ?_, h4.trans ?_, hk⟩
    · rw [Cert.QkvRefIdeal.Val.G16_eq, e0, e1, e2]
    · rw [Cert.QkvRefIdeal.Val.G17_eq, e0, e1, e2]
    · rw [Cert.QkvRefIdeal.Val.G18_eq, e0, e1, e2, e3, e4, e5, e8, e11, e14]
    · rw [Cert.QkvRefIdeal.Val.G19_eq, e0, e1, e2, e3, e4, e6, e9, e12, e15]
    · rw [Cert.QkvRefIdeal.Val.G20_eq, e0, e1, e2, e7, e10, e13]
  · intro m g m' g' _ ha
    refine ⟨fun c => Cert.CtxRefIdeal.Val.resC (m ((c.tc : Thread Cert.CtxIdeal.nD Cert.CtxIdeal.τ).loc Cert.CtxIdeal.main_arg0)),
      fun c => Cert.CtxRefIdeal.Val.resS (m ((c.tc : Thread Cert.CtxIdeal.nD Cert.CtxIdeal.τ).loc Cert.CtxIdeal.main_arg0)),
      fun c => Cert.CtxRefIdeal.Val.resK (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg3)) (m ((c.tc : Thread Cert.CtxIdeal.nD Cert.CtxIdeal.τ).loc Cert.CtxIdeal.main_arg5)) (m ((c.tc : Thread Cert.CtxIdeal.nD Cert.CtxIdeal.τ).loc Cert.CtxIdeal.main_arg7)),
      fun c => Cert.CtxRefIdeal.Val.resV (m ((c.tc : Thread Cert.CtxIdeal.nD Cert.CtxIdeal.τ).loc Cert.CtxIdeal.main_arg0)) (m ((c.tc : Thread Cert.CtxIdeal.nD Cert.CtxIdeal.τ).loc Cert.CtxIdeal.main_arg2)) (m ((c.tc : Thread Cert.CtxIdeal.nD Cert.CtxIdeal.τ).loc Cert.CtxIdeal.main_arg4)) (m ((c.tc : Thread Cert.CtxIdeal.nD Cert.CtxIdeal.τ).loc Cert.CtxIdeal.main_arg6)),
      Cert.CtxIdeal.Val.run m g, ?_⟩
    refine (θ_run _ _ _).mono (fun r h c => ?_) (Cert.CtxRefIdeal.Value.run m' g')
    obtain ⟨e0, e1, e2, e3, e4, e5, e6, e7⟩ := ha c
    obtain ⟨h0, h1, h2, h3, hk⟩ := h c
    refine ⟨h0.trans ?_, h1.trans ?_, h2.trans ?_, h3.trans ?_, hk⟩
    · rw [Cert.CtxRefIdeal.Val.G8_eq, e0]
    · rw [Cert.CtxRefIdeal.Val.G9_eq, e0]
    · rw [Cert.CtxRefIdeal.Val.G10_eq, e0, e1, e3, e5, e7]
    · rw [Cert.CtxRefIdeal.Val.G11_eq, e0, e2, e4, e6]

end Cert.Proof

end
